-- ==== Defs.lean ====
def Pre_Kernel [hPre_floors_are_rows : Cert.Pre_floors_are_rows.Facts] (m : (ℓ : Loc Cert.Kernel.nD Cert.Kernel.τ Cert.Kernel.sig) → Buf (Elt Bits) ℓ) : Prop :=
  ∀ c : Dev Cert.Kernel.nD,
    (Cert.Pre_floors_are_rows.fn (F := Bits) (m ((c.tc : Thread Cert.Kernel.nD Cert.Kernel.τ).loc Cert.Kernel.main_arg0))) = (fun _ => 1#1)

def Pre_KernelIdeal (m : (ℓ : Loc Cert.KernelIdeal.nD Cert.KernelIdeal.τ Cert.KernelIdeal.sig) → Buf (Elt Ideal) ℓ) : Prop :=
  True

def Pre_KernelIdeal_floors_are_rows [hPre_floors_are_rows : Cert.Pre_floors_are_rows.Facts] (m : (ℓ : Loc Cert.KernelIdeal.nD Cert.KernelIdeal.τ Cert.KernelIdeal.sig) → Buf (Elt Ideal) ℓ) : Prop :=
  ∀ c : Dev Cert.KernelIdeal.nD,
    (Cert.Pre_floors_are_rows.fn (F := Ideal) (m ((c.tc : Thread Cert.KernelIdeal.nD Cert.KernelIdeal.τ).loc Cert.KernelIdeal.main_arg0))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] [hPre_floors_are_rows : Cert.Pre_floors_are_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_floors_are_rows [hKernelIdeal : Cert.KernelIdeal.Facts] [hPre_floors_are_rows : Cert.Pre_floors_are_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_floors_are_rows m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_floors_are_rows : Cert.Pre_floors_are_rows.Facts) (hPre_finite : Cert.Pre_finite.Facts),
    quiescent_Kernel (hKernel := hKernel) (hPre_floors_are_rows := hPre_floors_are_rows)
    ∧ quiescent_KernelIdeal (hKernelIdeal := hKernelIdeal)
    ∧ quiescent_KernelIdeal_pre_floors_are_rows (hKernelIdeal := hKernelIdeal) (hPre_floors_are_rows := hPre_floors_are_rows)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256x3x300x25x2 : Shape := ⟨5, ![256, 3, 300, 25, 2]⟩
abbrev S_ : Shape := ⟨0, ![]⟩

class Facts : Prop where
  bcast_S_S256x3x300x25x2 : S_.BroadcastsInDim S256x3x300x25x2 (![] : Fin 0 → Fin S256x3x300x25x2.rank)

variable [Facts]

def fn {F : FTy → Type} [FloatOps F] (main_arg0 : FVec F S256x3x300x25x2 .f32) : IVec S256x3x300x25x2 1 :=
  let main_v0 : FVec F S256x3x300x25x2 .f32 := Host.absf main_arg0
  let main_cst : FVec F S_ .f32 := constant S_ .f32 0x7F800000#32
  let main_v1 : FVec F S256x3x300x25x2 .f32 := broadcastInDim S256x3x300x25x2 ![] bcast_S_S256x3x300x25x2 main_cst
  let main_v2 : IVec S256x3x300x25x2 1 := cmpf .olt main_v0 main_v1
  main_v2
-- ==== Pre_floors_are_rows.lean ====
abbrev S256x3x300x25x2 : Shape := ⟨5, ![256, 3, 300, 25, 2]⟩
abbrev S_ : Shape := ⟨0, ![]⟩
abbrev S1 : Shape := ⟨1, ![1]⟩
abbrev S2 : Shape := ⟨1, ![2]⟩
abbrev S256 : Shape := ⟨1, ![256]⟩
abbrev S300 : Shape := ⟨1, ![300]⟩
abbrev S1x300 : Shape := ⟨2, ![1, 300]⟩
abbrev S256x1 : Shape := ⟨2, ![256, 1]⟩
abbrev S256x300 : Shape := ⟨2, ![256, 300]⟩

class Facts : Prop where
  bcast_S_S1 : S_.BroadcastsInDim S1 (![] : Fin 0 → Fin S1.rank)
  concatenates_S1_S1_S2_d0 : Shape.Concatenates [S1, S1] S2 0
  slices_S2_S1_0 : S2.Slices ![0] S1
  shapeCasts_S1_S_ : S1.ShapeCasts S_
  slices_S2_S1_1 : S2.Slices ![1] S1
  bcast_S_S256 : S_.BroadcastsInDim S256 (![] : Fin 0 → Fin S256.rank)
  natLt_32_64 : 32 < 64
  bcast_S1_S256_0 : S1.BroadcastsInDim S256 (![0] : Fin 1 → Fin S256.rank)
  bcast_S300_S1x300_1 : S300.BroadcastsInDim S1x300 (![1] : Fin 1 → Fin S1x300.rank)
  bcast_S256_S256x1_0 : S256.BroadcastsInDim S256x1 (![0] : Fin 1 → Fin S256x1.rank)
  bcast_S1x300_S256x300_0_1 : S1x300.BroadcastsInDim S256x300 (![0, 1] : Fin 2 → Fin S256x300.rank)
  bcast_S256x1_S256x300_0_1 : S256x1.BroadcastsInDim S256x300 (![0, 1] : Fin 2 → Fin S256x300.rank)
  bcast_S_S256x300 : S_.BroadcastsInDim S256x300 (![] : Fin 0 → Fin S256x300.rank)

variable [Facts]

def fn_threefry2x32_part9 {F : FTy → Type} [FloatOps F] (arg0 : IVec S_ 32) (v163 : IVec S256 32) (v169 : IVec S256 32) (v170 : IVec S256 32) : IVec S256 32 × IVec S256 32 :=
  let v171 : IVec S256 32 := addi v163 v170
  let v172 : IVec S256 32 := broadcastInDim S256 ![] bcast_S_S256 arg0
  let v173 : IVec S256 32 := addi v169 v172
  let c_44 : IVec S_ 32 := constantI S_ 32 5#32
  let v174 : IVec S256 32 := broadcastInDim S256 ![] bcast_S_S256 c_44
  let v175 : IVec S256 32 := addi v173 v174
  (v171, v175)

def fn_threefry2x32_part8 {F : FTy → Type} [FloatOps F] (arg0 : IVec S_ 32) (v1 : IVec S_ 32) (v148 : IVec S256 32) (v149 : IVec S256 32) (v151 : IVec S256 32) : IVec S256 32 × IVec S256 32 :=
  let c_39 : IVec S_ 32 := constantI S_ 32 17#32
  let v152 : IVec S256 32 := broadcastInDim S256 ![] bcast_S_S256 c_39
  let v153 : IVec S256 32 := Host.shrui v148 v152
  let v154 : IVec S256 32 := ori v151 v153
  let v155 : IVec S256 32 := xori v149 v154
  let v156 : IVec S256 32 := addi v149 v155
  let c_40 : IVec S_ 32 := constantI S_ 32 26#32
  let v157 : IVec S256 32 := broadcastInDim S256 ![] bcast_S_S256 c_40
  let v158 : IVec S256 32 := Host.shli v155 v157
  let c_41 : IVec S_ 32 := constantI S_ 32 6#32
  let v159 : IVec S256 32 := broadcastInDim S256 ![] bcast_S_S256 c_41
  let v160 : IVec S256 32 := Host.shrui v155 v159
  let v161 : IVec S256 32 := ori v158 v160
  let v162 : IVec S256 32 := xori v156 v161
  let v163 : IVec S256 32 := addi v156 v162
  let c_42 : IVec S_ 32 := constantI S_ 32 6#32
  let v164 : IVec S256 32 := broadcastInDim S256 ![] bcast_S_S256 c_42
  let v165 : IVec S256 32 := Host.shli v162 v164
  let c_43 : IVec S_ 32 := constantI S_ 32 26#32
  let v166 : IVec S256 32 := broadcastInDim S256 ![] bcast_S_S256 c_43
  let v167 : IVec S256 32 := Host.shrui v162 v166
  let v168 : IVec S256 32 := ori v165 v167
  let v169 : IVec S256 32 := xori v163 v168
  let v170 : IVec S256 32 := broadcastInDim S256 ![] bcast_S_S256 v1
  fn_threefry2x32_part9 (F := F) arg0 v163 v169 v170

def fn_threefry2x32_part7 {F : FTy → Type} [FloatOps F] (arg0 : IVec S_ 32) (arg1 : IVec S_ 32) (v1 : IVec S_ 32) (v128 : IVec S256 32) (v129 : IVec S256 32) (v131 : IVec S256 32) (c_34 : IVec S_ 32) : IVec S256 32 × IVec S256 32 :=
  let v132 : IVec S256 32 := broadcastInDim S256 ![] bcast_S_S256 c_34
  let v133 : IVec S256 32 := Host.shrui v128 v132
  let v134 : IVec S256 32 := ori v131 v133
  let v135 : IVec S256 32 := xori v129 v134
  let v136 : IVec S256 32 := broadcastInDim S256 ![] bcast_S_S256 arg1
  let v137 : IVec S256 32 := addi v129 v136
  let v138 : IVec S256 32 := broadcastInDim S256 ![] bcast_S_S256 v1
  let v139 : IVec S256 32 := addi v135 v138
  let c_35 : IVec S_ 32 := constantI S_ 32 4#32
  let v140 : IVec S256 32 := broadcastInDim S256 ![] bcast_S_S256 c_35
  let v141 : IVec S256 32 := addi v139 v140
  let v142 : IVec S256 32 := addi v137 v141
  let c_36 : IVec S_ 32 := constantI S_ 32 13#32
  let v143 : IVec S256 32 := broadcastInDim S256 ![] bcast_S_S256 c_36
  let v144 : IVec S256 32 := Host.shli v141 v143
  let c_37 : IVec S_ 32 := constantI S_ 32 19#32
  let v145 : IVec S256 32 := broadcastInDim S256 ![] bcast_S_S256 c_37
  let v146 : IVec S256 32 := Host.shrui v141 v145
  let v147 : IVec S256 32 := ori v144 v146
  let v148 : IVec S256 32 := xori v142 v147
  let v149 : IVec S256 32 := addi v142 v148
  let c_38 : IVec S_ 32 := constantI S_ 32 15#32
  let v150 : IVec S256 32 := broadcastInDim S256 ![] bcast_S_S256 c_38
  let v151 : IVec S256 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S256 32) (v113 : IVec S256 32) : IVec S256 32 × IVec S256 32 :=
  let v114 : IVec S256 32 := xori v108 v113
  let v115 : IVec S256 32 := addi v108 v114
  let c_29 : IVec S_ 32 := constantI S_ 32 29#32
  let v116 : IVec S256 32 := broadcastInDim S256 ![] bcast_S_S256 c_29
  let v117 : IVec S256 32 := Host.shli v114 v116
  let c_30 : IVec S_ 32 := constantI S_ 32 3#32
  let v118 : IVec S256 32 := broadcastInDim S256 ![] bcast_S_S256 c_30
  let v119 : IVec S256 32 := Host.shrui v114 v118
  let v120 : IVec S256 32 := ori v117 v119
  let v121 : IVec S256 32 := xori v115 v120
  let v122 : IVec S256 32 := addi v115 v121
  let c_31 : IVec S_ 32 := constantI S_ 32 16#32
  let v123 : IVec S256 32 := broadcastInDim S256 ![] bcast_S_S256 c_31
  let v124 : IVec S256 32 := Host.shli v121 v123
  let c_32 : IVec S_ 32 := constantI S_ 32 16#32
  let v125 : IVec S256 32 := broadcastInDim S256 ![] bcast_S_S256 c_32
  let v126 : IVec S256 32 := Host.shrui v121 v125
  let v127 : IVec S256 32 := ori v124 v126
  let v128 : IVec S256 32 := xori v122 v127
  let v129 : IVec S256 32 := addi v122 v128
  let c_33 : IVec S_ 32 := constantI S_ 32 24#32
  let v130 : IVec S256 32 := broadcastInDim S256 ![] bcast_S_S256 c_33
  let v131 : IVec S256 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S256 32) (v94 : IVec S256 32) : IVec S256 32 × IVec S256 32 :=
  let v95 : IVec S256 32 := addi v88 v94
  let c_24 : IVec S_ 32 := constantI S_ 32 6#32
  let v96 : IVec S256 32 := broadcastInDim S256 ![] bcast_S_S256 c_24
  let v97 : IVec S256 32 := Host.shli v94 v96
  let c_25 : IVec S_ 32 := constantI S_ 32 26#32
  let v98 : IVec S256 32 := broadcastInDim S256 ![] bcast_S_S256 c_25
  let v99 : IVec S256 32 := Host.shrui v94 v98
  let v100 : IVec S256 32 := ori v97 v99
  let v101 : IVec S256 32 := xori v95 v100
  let v102 : IVec S256 32 := broadcastInDim S256 ![] bcast_S_S256 arg0
  let v103 : IVec S256 32 := addi v95 v102
  let v104 : IVec S256 32 := broadcastInDim S256 ![] bcast_S_S256 arg1
  let v105 : IVec S256 32 := addi v101 v104
  let c_26 : IVec S_ 32 := constantI S_ 32 3#32
  let v106 : IVec S256 32 := broadcastInDim S256 ![] bcast_S_S256 c_26
  let v107 : IVec S256 32 := addi v105 v106
  let v108 : IVec S256 32 := addi v103 v107
  let c_27 : IVec S_ 32 := constantI S_ 32 17#32
  let v109 : IVec S256 32 := broadcastInDim S256 ![] bcast_S_S256 c_27
  let v110 : IVec S256 32 := Host.shli v107 v109
  let c_28 : IVec S_ 32 := constantI S_ 32 15#32
  let v111 : IVec S256 32 := broadcastInDim S256 ![] bcast_S_S256 c_28
  let v112 : IVec S256 32 := Host.shrui v107 v111
  let v113 : IVec S256 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S256 32) (v74 : IVec S256 32) (v75 : IVec S256 32) : IVec S256 32 × IVec S256 32 :=
  let v76 : IVec S256 32 := Host.shli v73 v75
  let c_19 : IVec S_ 32 := constantI S_ 32 19#32
  let v77 : IVec S256 32 := broadcastInDim S256 ![] bcast_S_S256 c_19
  let v78 : IVec S256 32 := Host.shrui v73 v77
  let v79 : IVec S256 32 := ori v76 v78
  let v80 : IVec S256 32 := xori v74 v79
  let v81 : IVec S256 32 := addi v74 v80
  let c_20 : IVec S_ 32 := constantI S_ 32 15#32
  let v82 : IVec S256 32 := broadcastInDim S256 ![] bcast_S_S256 c_20
  let v83 : IVec S256 32 := Host.shli v80 v82
  let c_21 : IVec S_ 32 := constantI S_ 32 17#32
  let v84 : IVec S256 32 := broadcastInDim S256 ![] bcast_S_S256 c_21
  let v85 : IVec S256 32 := Host.shrui v80 v84
  let v86 : IVec S256 32 := ori v83 v85
  let v87 : IVec S256 32 := xori v81 v86
  let v88 : IVec S256 32 := addi v81 v87
  let c_22 : IVec S_ 32 := constantI S_ 32 26#32
  let v89 : IVec S256 32 := broadcastInDim S256 ![] bcast_S_S256 c_22
  let v90 : IVec S256 32 := Host.shli v87 v89
  let c_23 : IVec S_ 32 := constantI S_ 32 6#32
  let v91 : IVec S256 32 := broadcastInDim S256 ![] bcast_S_S256 c_23
  let v92 : IVec S256 32 := Host.shrui v87 v91
  let v93 : IVec S256 32 := ori v90 v92
  let v94 : IVec S256 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S256 32) (v54 : IVec S256 32) (v56 : IVec S256 32) : IVec S256 32 × IVec S256 32 :=
  let c_14 : IVec S_ 32 := constantI S_ 32 16#32
  let v57 : IVec S256 32 := broadcastInDim S256 ![] bcast_S_S256 c_14
  let v58 : IVec S256 32 := Host.shrui v53 v57
  let v59 : IVec S256 32 := ori v56 v58
  let v60 : IVec S256 32 := xori v54 v59
  let v61 : IVec S256 32 := addi v54 v60
  let c_15 : IVec S_ 32 := constantI S_ 32 24#32
  let v62 : IVec S256 32 := broadcastInDim S256 ![] bcast_S_S256 c_15
  let v63 : IVec S256 32 := Host.shli v60 v62
  let c_16 : IVec S_ 32 := constantI S_ 32 8#32
  let v64 : IVec S256 32 := broadcastInDim S256 ![] bcast_S_S256 c_16
  let v65 : IVec S256 32 := Host.shrui v60 v64
  let v66 : IVec S256 32 := ori v63 v65
  let v67 : IVec S256 32 := xori v61 v66
  let v68 : IVec S256 32 := broadcastInDim S256 ![] bcast_S_S256 v1
  let v69 : IVec S256 32 := addi v61 v68
  let v70 : IVec S256 32 := broadcastInDim S256 ![] bcast_S_S256 arg0
  let v71 : IVec S256 32 := addi v67 v70
  let c_17 : IVec S_ 32 := constantI S_ 32 2#32
  let v72 : IVec S256 32 := broadcastInDim S256 ![] bcast_S_S256 c_17
  let v73 : IVec S256 32 := addi v71 v72
  let v74 : IVec S256 32 := addi v69 v73
  let c_18 : IVec S_ 32 := constantI S_ 32 13#32
  let v75 : IVec S256 32 := broadcastInDim S256 ![] bcast_S_S256 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S256 32) (v37 : IVec S256 32) (c_8 : IVec S_ 32) : IVec S256 32 × IVec S256 32 :=
  let v38 : IVec S256 32 := broadcastInDim S256 ![] bcast_S_S256 c_8
  let v39 : IVec S256 32 := addi v37 v38
  let v40 : IVec S256 32 := addi v35 v39
  let c_9 : IVec S_ 32 := constantI S_ 32 17#32
  let v41 : IVec S256 32 := broadcastInDim S256 ![] bcast_S_S256 c_9
  let v42 : IVec S256 32 := Host.shli v39 v41
  let c_10 : IVec S_ 32 := constantI S_ 32 15#32
  let v43 : IVec S256 32 := broadcastInDim S256 ![] bcast_S_S256 c_10
  let v44 : IVec S256 32 := Host.shrui v39 v43
  let v45 : IVec S256 32 := ori v42 v44
  let v46 : IVec S256 32 := xori v40 v45
  let v47 : IVec S256 32 := addi v40 v46
  let c_11 : IVec S_ 32 := constantI S_ 32 29#32
  let v48 : IVec S256 32 := broadcastInDim S256 ![] bcast_S_S256 c_11
  let v49 : IVec S256 32 := Host.shli v46 v48
  let c_12 : IVec S_ 32 := constantI S_ 32 3#32
  let v50 : IVec S256 32 := broadcastInDim S256 ![] bcast_S_S256 c_12
  let v51 : IVec S256 32 := Host.shrui v46 v50
  let v52 : IVec S256 32 := ori v49 v51
  let v53 : IVec S256 32 := xori v47 v52
  let v54 : IVec S256 32 := addi v47 v53
  let c_13 : IVec S_ 32 := constantI S_ 32 16#32
  let v55 : IVec S256 32 := broadcastInDim S256 ![] bcast_S_S256 c_13
  let v56 : IVec S256 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S256 32) (v18 : IVec S256 32) : IVec S256 32 × IVec S256 32 :=
  let v19 : IVec S256 32 := xori v13 v18
  let v20 : IVec S256 32 := addi v13 v19
  let c_4 : IVec S_ 32 := constantI S_ 32 26#32
  let v21 : IVec S256 32 := broadcastInDim S256 ![] bcast_S_S256 c_4
  let v22 : IVec S256 32 := Host.shli v19 v21
  let c_5 : IVec S_ 32 := constantI S_ 32 6#32
  let v23 : IVec S256 32 := broadcastInDim S256 ![] bcast_S_S256 c_5
  let v24 : IVec S256 32 := Host.shrui v19 v23
  let v25 : IVec S256 32 := ori v22 v24
  let v26 : IVec S256 32 := xori v20 v25
  let v27 : IVec S256 32 := addi v20 v26
  let c_6 : IVec S_ 32 := constantI S_ 32 6#32
  let v28 : IVec S256 32 := broadcastInDim S256 ![] bcast_S_S256 c_6
  let v29 : IVec S256 32 := Host.shli v26 v28
  let c_7 : IVec S_ 32 := constantI S_ 32 26#32
  let v30 : IVec S256 32 := broadcastInDim S256 ![] bcast_S_S256 c_7
  let v31 : IVec S256 32 := Host.shrui v26 v30
  let v32 : IVec S256 32 := ori v29 v31
  let v33 : IVec S256 32 := xori v27 v32
  let v34 : IVec S256 32 := broadcastInDim S256 ![] bcast_S_S256 arg1
  let v35 : IVec S256 32 := addi v27 v34
  let v36 : IVec S256 32 := broadcastInDim S256 ![] bcast_S_S256 v1
  let v37 : IVec S256 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S256 32) (arg3 : IVec S256 32) : IVec S256 32 × IVec S256 32 :=
  let v0 : IVec S_ 32 := xori arg0 arg1
  let c : IVec S_ 32 := constantI S_ 32 466688986#32
  let v1 : IVec S_ 32 := xori v0 c
  let v2 : IVec S256 32 := broadcastInDim S256 ![] bcast_S_S256 arg0
  let v3 : IVec S256 32 := addi arg2 v2
  let v4 : IVec S256 32 := broadcastInDim S256 ![] bcast_S_S256 arg1
  let v5 : IVec S256 32 := addi arg3 v4
  let v6 : IVec S256 32 := addi v3 v5
  let c_0 : IVec S_ 32 := constantI S_ 32 13#32
  let v7 : IVec S256 32 := broadcastInDim S256 ![] bcast_S_S256 c_0
  let v8 : IVec S256 32 := Host.shli v5 v7
  let c_1 : IVec S_ 32 := constantI S_ 32 19#32
  let v9 : IVec S256 32 := broadcastInDim S256 ![] bcast_S_S256 c_1
  let v10 : IVec S256 32 := Host.shrui v5 v9
  let v11 : IVec S256 32 := ori v8 v10
  let v12 : IVec S256 32 := xori v6 v11
  let v13 : IVec S256 32 := addi v6 v12
  let c_2 : IVec S_ 32 := constantI S_ 32 15#32
  let v14 : IVec S256 32 := broadcastInDim S256 ![] bcast_S_S256 c_2
  let v15 : IVec S256 32 := Host.shli v12 v14
  let c_3 : IVec S_ 32 := constantI S_ 32 17#32
  let v16 : IVec S256 32 := broadcastInDim S256 ![] bcast_S_S256 c_3
  let v17 : IVec S256 32 := Host.shrui v12 v16
  let v18 : IVec S256 32 := ori v15 v17
  fn_threefry2x32_part1 (F := F) arg0 arg1 v1 v13 v18

def fn_uniform_part1 {F : FTy → Type} [FloatOps F] (v2 : FVec F S1 .f32) (v3 : FVec F S1 .f32) (v18 : IVec S256 32) (c_2 : IVec S_ 32) : FVec F S256 .f32 :=
  let v19 : IVec S256 32 := broadcastInDim S256 ![] bcast_S_S256 c_2
  let v20 : IVec S256 32 := ori v18 v19
  let v21 : FVec F S256 .f32 := bitcastToFloat .f32 v20
  let cst : FVec F S_ .f32 := constant S_ .f32 0x3F800000#32
  let v22 : FVec F S256 .f32 := broadcastInDim S256 ![] bcast_S_S256 cst
  let v23 : FVec F S256 .f32 := subf v21 v22
  let v24 : FVec F S1 .f32 := subf v3 v2
  let v25 : FVec F S256 .f32 := broadcastInDim S256 ![0] bcast_S1_S256_0 v24
  let v26 : FVec F S256 .f32 := mulf v23 v25
  let v27 : FVec F S256 .f32 := broadcastInDim S256 ![0] bcast_S1_S256_0 v2
  let v28 : FVec F S256 .f32 := addf v26 v27
  let v29 : FVec F S256 .f32 := broadcastInDim S256 ![0] bcast_S1_S256_0 v2
  let v30 : FVec F S256 .f32 := maximumf v29 v28
  v30

def fn_uniform {F : FTy → Type} [FloatOps F] (arg0 : IVec S2 32) (arg1 : FVec F S_ .f32) (arg2 : FVec F S_ .f32) : FVec F S256 .f32 :=
  let v0 : FVec F S_ .f32 := id arg1
  let v1 : FVec F S_ .f32 := id arg2
  let v2 : FVec F S1 .f32 := broadcastInDim S1 ![] bcast_S_S1 v0
  let v3 : FVec F S1 .f32 := broadcastInDim S1 ![] bcast_S_S1 v1
  let v4 : IVec S1 32 := (extractStridedSlice S1 ![0] · slices_S2_S1_0) arg0
  let v5 : IVec S_ 32 := shapeCast S_ v4 shapeCasts_S1_S_
  let v6 : IVec S1 32 := (extractStridedSlice S1 ![1] · slices_S2_S1_1) arg0
  let v7 : IVec S_ 32 := shapeCast S_ v6 shapeCasts_S1_S_
  let v8 : IVec S256 64 := iotaInDim S256 64 0
  let c : IVec S_ 64 := constantI S_ 64 1#64
  let v9 : IVec S256 64 := broadcastInDim S256 ![] bcast_S_S256 c
  let v10 : IVec S256 64 := muli v9 v8
  let c_0 : IVec S_ 64 := constantI S_ 64 32#64
  let v11 : IVec S256 64 := broadcastInDim S256 ![] bcast_S_S256 c_0
  let v12 : IVec S256 64 := Host.shrui v10 v11
  let v13 : IVec S256 32 := (trunci 32 · natLt_32_64) v10
  let v14 : IVec S256 32 := (trunci 32 · natLt_32_64) v12
  let v15_0 : IVec S256 32 := (fn_threefry2x32 (F := F) v5 v7 v14 v13).1
  let v15_1 : IVec S256 32 := (fn_threefry2x32 (F := F) v5 v7 v14 v13).2
  let v16 : IVec S256 32 := xori v15_0 v15_1
  let c_1 : IVec S_ 32 := constantI S_ 32 9#32
  let v17 : IVec S256 32 := broadcastInDim S256 ![] bcast_S_S256 c_1
  let v18 : IVec S256 32 := Host.shrui v16 v17
  let c_2 : IVec S_ 32 := constantI S_ 32 1065353216#32
  fn_uniform_part1 (F := F) v2 v3 v18 c_2

def fn_clip {F : FTy → Type} [FloatOps F] (arg0 : FVec F S256x300 .f32) (arg1 : FVec F S_ .f32) (arg2 : FVec F S_ .f32) : FVec F S256x300 .f32 :=
  let v0 : FVec F S_ .f32 := id arg1
  let v1 : FVec F S256x300 .f32 := broadcastInDim S256x300 ![] bcast_S_S256x300 v0
  let v2 : FVec F S256x300 .f32 := maximumf v1 arg0
  let v3 : FVec F S_ .f32 := id arg2
  let v4 : FVec F S256x300 .f32 := broadcastInDim S256x300 ![] bcast_S_S256x300 v3
  let v5 : FVec F S256x300 .f32 := minimumf v4 v2
  v5

def fn_part1 {F : FTy → Type} [FloatOps F] (main_v15 : FVec F S256x300 .f32) (main_v16 : FVec F S256x300 .f32) : IVec S256x300 1 :=
  let main_v17 : FVec F S256x300 .f32 := Host.divf main_v15 main_v16
  let main_cst_5 : FVec F S_ .f32 := constant S_ .f32 0x00000000#32
  let main_cst_6 : FVec F S_ .f32 := constant S_ .f32 0x43958000#32
  let main_v18 : FVec F S256x300 .f32 := fn_clip (F := F) main_v17 main_cst_5 main_cst_6
  let main_v19 : FVec F S256x300 .f32 := Host.floor main_v18
  let main_v20 : IVec S256x300 32 := fptosi 32 main_v19
  let main_c_7 : IVec S_ 32 := constantI S_ 32 0#32
  let main_v21 : IVec S256x300 32 := broadcastInDim S256x300 ![] bcast_S_S256x300 main_c_7
  let main_v22 : IVec S256x300 1 := cmpi .sge main_v20 main_v21
  let main_c_8 : IVec S_ 32 := constantI S_ 32 300#32
  let main_v23 : IVec S256x300 32 := broadcastInDim S256x300 ![] bcast_S_S256x300 main_c_8
  let main_v24 : IVec S256x300 1 := cmpi .slt main_v20 main_v23
  let main_v25 : IVec S256x300 1 := andi main_v22 main_v24
  main_v25

def fn {F : FTy → Type} [FloatOps F] (main_arg0 : FVec F S256x3x300x25x2 .f32) : IVec S256x300 1 :=
  let main_c : IVec S_ 32 := constantI S_ 32 42#32
  let main_c_0 : IVec S_ 32 := constantI S_ 32 32#32
  let main_v0 : IVec S_ 32 := Host.shrui main_c main_c_0
  let main_v1 : IVec S_ 32 := id main_v0
  let main_v2 : IVec S1 32 := broadcastInDim S1 ![] bcast_S_S1 main_v1
  let main_c_1 : IVec S_ 32 := constantI S_ 32 4294967295#32
  let main_v3 : IVec S_ 32 := andi main_c main_c_1
  let main_v4 : IVec S_ 32 := id main_v3
  let main_v5 : IVec S1 32 := broadcastInDim S1 ![] bcast_S_S1 main_v4
  let main_v6 : IVec S2 32 := (fun a b => concatenate S2 0 [⟨S1, a⟩, ⟨S1, b⟩] concatenates_S1_S1_S2_d0) main_v2 main_v5
  let main_cst : FVec F S_ .f32 := constant S_ .f32 0x00000000#32
  let main_cst_2 : FVec F S_ .f32 := constant S_ .f32 0x3F800000#32
  let main_v7 : FVec F S256 .f32 := fn_uniform (F := F) main_v6 main_cst main_cst_2
  let main_cst_3 : FVec F S_ .f32 := constant S_ .f32 0x3FC00000#32
  let main_v8 : FVec F S256 .f32 := broadcastInDim S256 ![] bcast_S_S256 main_cst_3
  let main_v9 : FVec F S256 .f32 := mulf main_v7 main_v8
  let main_cst_4 : FVec F S_ .f32 := constant S_ .f32 0x3F000000#32
  let main_v10 : FVec F S256 .f32 := broadcastInDim S256 ![] bcast_S_S256 main_cst_4
  let main_v11 : FVec F S256 .f32 := addf main_v9 main_v10
  let main_v12 : FVec F S300 .f32 := sitofp .f32 (iotaInDim S300 32 0)
  let main_v13 : FVec F S1x300 .f32 := broadcastInDim S1x300 ![1] bcast_S300_S1x300_1 main_v12
  let main_v14 : FVec F S256x1 .f32 := broadcastInDim S256x1 ![0] bcast_S256_S256x1_0 main_v11
  let main_v15 : FVec F S256x300 .f32 := broadcastInDim S256x300 ![0, 1] bcast_S1x300_S256x300_0_1 main_v13
  let main_v16 : FVec F S256x300 .f32 := broadcastInDim S256x300 ![0, 1] bcast_S256x1_S256x300_0_1 main_v14
  fn_part1 (F := F) main_v15 main_v16
-- ==== Kernel.lean ====
abbrev S256x3x300x25x2 : Shape := ⟨5, ![256, 3, 300, 25, 2]⟩
abbrev S_ : Shape := ⟨0, ![]⟩
abbrev S1 : Shape := ⟨1, ![1]⟩
abbrev S2 : Shape := ⟨1, ![2]⟩
abbrev S256 : Shape := ⟨1, ![256]⟩
abbrev S300 : Shape := ⟨1, ![300]⟩
abbrev S1x300 : Shape := ⟨2, ![1, 300]⟩
abbrev S256x1 : Shape := ⟨2, ![256, 1]⟩
abbrev S256x300 : Shape := ⟨2, ![256, 300]⟩
abbrev S256x608 : Shape := ⟨2, ![256, 608]⟩
abbrev S11520000 : Shape := ⟨1, ![11520000]⟩
abbrev S155648 : Shape := ⟨1, ![155648]⟩
abbrev S15000 : Shape := ⟨1, ![15000]⟩
abbrev S15200 : Shape := ⟨1, ![15200]⟩
abbrev S608 : Shape := ⟨1, ![608]⟩
abbrev S16 : Shape := ⟨1, ![16]⟩

abbrev nBuf : Table → Nat
  | .hbm => 304
  | .local .scVector .vmem => 3
  | _ => 0

abbrev hbmTy0_0 (i : Nat) : BufTy := match i % 128 with
  | 0 => ⟨S256x3x300x25x2, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1, .f32⟩
  | 16 => ⟨S1, .f32⟩
  | 17 => ⟨S1, .i32⟩
  | 18 => ⟨S_, .i32⟩
  | 19 => ⟨S1, .i32⟩
  | 20 => ⟨S_, .i32⟩
  | 21 => ⟨S256, .i64⟩
  | 22 => ⟨S_, .i64⟩
  | 23 => ⟨S256, .i64⟩
  | 24 => ⟨S256, .i64⟩
  | 25 => ⟨S_, .i64⟩
  | 26 => ⟨S256, .i64⟩
  | 27 => ⟨S256, .i64⟩
  | 28 => ⟨S256, .i32⟩
  | 29 => ⟨S256, .i32⟩
  | 30 => ⟨S_, .i32⟩
  | 31 => ⟨S_, .i32⟩
  | 32 => ⟨S_, .i32⟩
  | 33 => ⟨S256, .i32⟩
  | 34 => ⟨S256, .i32⟩
  | 35 => ⟨S256, .i32⟩
  | 36 => ⟨S256, .i32⟩
  | 37 => ⟨S256, .i32⟩
  | 38 => ⟨S_, .i32⟩
  | 39 => ⟨S256, .i32⟩
  | 40 => ⟨S256, .i32⟩
  | 41 => ⟨S_, .i32⟩
  | 42 => ⟨S256, .i32⟩
  | 43 => ⟨S256, .i32⟩
  | 44 => ⟨S256, .i32⟩
  | 45 => ⟨S256, .i32⟩
  | 46 => ⟨S256, .i32⟩
  | 47 => ⟨S_, .i32⟩
  | 48 => ⟨S256, .i32⟩
  | 49 => ⟨S256, .i32⟩
  | 50 => ⟨S_, .i32⟩
  | 51 => ⟨S256, .i32⟩
  | 52 => ⟨S256, .i32⟩
  | 53 => ⟨S256, .i32⟩
  | 54 => ⟨S256, .i32⟩
  | 55 => ⟨S256, .i32⟩
  | 56 => ⟨S_, .i32⟩
  | 57 => ⟨S256, .i32⟩
  | 58 => ⟨S256, .i32⟩
  | 59 => ⟨S_, .i32⟩
  | 60 => ⟨S256, .i32⟩
  | 61 => ⟨S256, .i32⟩
  | 62 => ⟨S256, .i32⟩
  | 63 => ⟨S256, .i32⟩
  | 64 => ⟨S256, .i32⟩
  | 65 => ⟨S_, .i32⟩
  | 66 => ⟨S256, .i32⟩
  | 67 => ⟨S256, .i32⟩
  | 68 => ⟨S_, .i32⟩
  | 69 => ⟨S256, .i32⟩
  | 70 => ⟨S256, .i32⟩
  | 71 => ⟨S256, .i32⟩
  | 72 => ⟨S256, .i32⟩
  | 73 => ⟨S256, .i32⟩
  | 74 => ⟨S256, .i32⟩
  | 75 => ⟨S256, .i32⟩
  | 76 => ⟨S256, .i32⟩
  | 77 => ⟨S_, .i32⟩
  | 78 => ⟨S256, .i32⟩
  | 79 => ⟨S256, .i32⟩
  | 80 => ⟨S256, .i32⟩
  | 81 => ⟨S_, .i32⟩
  | 82 => ⟨S256, .i32⟩
  | 83 => ⟨S256, .i32⟩
  | 84 => ⟨S_, .i32⟩
  | 85 => ⟨S256, .i32⟩
  | 86 => ⟨S256, .i32⟩
  | 87 => ⟨S256, .i32⟩
  | 88 => ⟨S256, .i32⟩
  | 89 => ⟨S256, .i32⟩
  | 90 => ⟨S_, .i32⟩
  | 91 => ⟨S256, .i32⟩
  | 92 => ⟨S256, .i32⟩
  | 93 => ⟨S_, .i32⟩
  | 94 => ⟨S256, .i32⟩
  | 95 => ⟨S256, .i32⟩
  | 96 => ⟨S256, .i32⟩
  | 97 => ⟨S256, .i32⟩
  | 98 => ⟨S256, .i32⟩
  | 99 => ⟨S_, .i32⟩
  | 100 => ⟨S256, .i32⟩
  | 101 => ⟨S256, .i32⟩
  | 102 => ⟨S_, .i32⟩
  | 103 => ⟨S256, .i32⟩
  | 104 => ⟨S256, .i32⟩
  | 105 => ⟨S256, .i32⟩
  | 106 => ⟨S256, .i32⟩
  | 107 => ⟨S256, .i32⟩
  | 108 => ⟨S_, .i32⟩
  | 109 => ⟨S256, .i32⟩
  | 110 => ⟨S256, .i32⟩
  | 111 => ⟨S_, .i32⟩
  | 112 => ⟨S256, .i32⟩
  | 113 => ⟨S256, .i32⟩
  | 114 => ⟨S256, .i32⟩
  | 115 => ⟨S256, .i32⟩
  | 116 => ⟨S256, .i32⟩
  | 117 => ⟨S256, .i32⟩
  | 118 => ⟨S256, .i32⟩
  | 119 => ⟨S256, .i32⟩
  | 120 => ⟨S_, .i32⟩
  | 121 => ⟨S256, .i32⟩
  | 122 => ⟨S256, .i32⟩
  | 123 => ⟨S256, .i32⟩
  | 124 => ⟨S_, .i32⟩
  | 125 => ⟨S256, .i32⟩
  | 126 => ⟨S256, .i32⟩
  | 127 => ⟨S_, .i32⟩
  | _ => ⟨S256x3x300x25x2, .f32⟩

abbrev hbmTy0_1 (i : Nat) : BufTy := match i % 128 with
  | 0 => ⟨S256, .i32⟩
  | 1 => ⟨S256, .i32⟩
  | 2 => ⟨S256, .i32⟩
  | 3 => ⟨S256, .i32⟩
  | 4 => ⟨S256, .i32⟩
  | 5 => ⟨S_, .i32⟩
  | 6 => ⟨S256, .i32⟩
  | 7 => ⟨S256, .i32⟩
  | 8 => ⟨S_, .i32⟩
  | 9 => ⟨S256, .i32⟩
  | 10 => ⟨S256, .i32⟩
  | 11 => ⟨S256, .i32⟩
  | 12 => ⟨S256, .i32⟩
  | 13 => ⟨S256, .i32⟩
  | 14 => ⟨S_, .i32⟩
  | 15 => ⟨S256, .i32⟩
  | 16 => ⟨S256, .i32⟩
  | 17 => ⟨S_, .i32⟩
  | 18 => ⟨S256, .i32⟩
  | 19 => ⟨S256, .i32⟩
  | 20 => ⟨S256, .i32⟩
  | 21 => ⟨S256, .i32⟩
  | 22 => ⟨S256, .i32⟩
  | 23 => ⟨S_, .i32⟩
  | 24 => ⟨S256, .i32⟩
  | 25 => ⟨S256, .i32⟩
  | 26 => ⟨S_, .i32⟩
  | 27 => ⟨S256, .i32⟩
  | 28 => ⟨S256, .i32⟩
  | 29 => ⟨S256, .i32⟩
  | 30 => ⟨S256, .i32⟩
  | 31 => ⟨S256, .i32⟩
  | 32 => ⟨S256, .i32⟩
  | 33 => ⟨S256, .i32⟩
  | 34 => ⟨S256, .i32⟩
  | 35 => ⟨S_, .i32⟩
  | 36 => ⟨S256, .i32⟩
  | 37 => ⟨S256, .i32⟩
  | 38 => ⟨S256, .i32⟩
  | 39 => ⟨S_, .i32⟩
  | 40 => ⟨S256, .i32⟩
  | 41 => ⟨S256, .i32⟩
  | 42 => ⟨S_, .i32⟩
  | 43 => ⟨S256, .i32⟩
  | 44 => ⟨S256, .i32⟩
  | 45 => ⟨S256, .i32⟩
  | 46 => ⟨S256, .i32⟩
  | 47 => ⟨S256, .i32⟩
  | 48 => ⟨S_, .i32⟩
  | 49 => ⟨S256, .i32⟩
  | 50 => ⟨S256, .i32⟩
  | 51 => ⟨S_, .i32⟩
  | 52 => ⟨S256, .i32⟩
  | 53 => ⟨S256, .i32⟩
  | 54 => ⟨S256, .i32⟩
  | 55 => ⟨S256, .i32⟩
  | 56 => ⟨S256, .i32⟩
  | 57 => ⟨S_, .i32⟩
  | 58 => ⟨S256, .i32⟩
  | 59 => ⟨S256, .i32⟩
  | 60 => ⟨S_, .i32⟩
  | 61 => ⟨S256, .i32⟩
  | 62 => ⟨S256, .i32⟩
  | 63 => ⟨S256, .i32⟩
  | 64 => ⟨S256, .i32⟩
  | 65 => ⟨S256, .i32⟩
  | 66 => ⟨S_, .i32⟩
  | 67 => ⟨S256, .i32⟩
  | 68 => ⟨S256, .i32⟩
  | 69 => ⟨S_, .i32⟩
  | 70 => ⟨S256, .i32⟩
  | 71 => ⟨S256, .i32⟩
  | 72 => ⟨S256, .i32⟩
  | 73 => ⟨S256, .i32⟩
  | 74 => ⟨S256, .i32⟩
  | 75 => ⟨S256, .i32⟩
  | 76 => ⟨S256, .i32⟩
  | 77 => ⟨S256, .i32⟩
  | 78 => ⟨S_, .i32⟩
  | 79 => ⟨S256, .i32⟩
  | 80 => ⟨S256, .i32⟩
  | 81 => ⟨S256, .i32⟩
  | 82 => ⟨S_, .i32⟩
  | 83 => ⟨S256, .i32⟩
  | 84 => ⟨S256, .i32⟩
  | 85 => ⟨S_, .i32⟩
  | 86 => ⟨S256, .i32⟩
  | 87 => ⟨S256, .i32⟩
  | 88 => ⟨S256, .i32⟩
  | 89 => ⟨S256, .i32⟩
  | 90 => ⟨S256, .i32⟩
  | 91 => ⟨S_, .i32⟩
  | 92 => ⟨S256, .i32⟩
  | 93 => ⟨S256, .i32⟩
  | 94 => ⟨S_, .i32⟩
  | 95 => ⟨S256, .i32⟩
  | 96 => ⟨S256, .i32⟩
  | 97 => ⟨S256, .i32⟩
  | 98 => ⟨S256, .i32⟩
  | 99 => ⟨S256, .i32⟩
  | 100 => ⟨S_, .i32⟩
  | 101 => ⟨S256, .i32⟩
  | 102 => ⟨S256, .i32⟩
  | 103 => ⟨S_, .i32⟩
  | 104 => ⟨S256, .i32⟩
  | 105 => ⟨S256, .i32⟩
  | 106 => ⟨S256, .i32⟩
  | 107 => ⟨S256, .i32⟩
  | 108 => ⟨S256, .i32⟩
  | 109 => ⟨S_, .i32⟩
  | 110 => ⟨S256, .i32⟩
  | 111 => ⟨S256, .i32⟩
  | 112 => ⟨S_, .i32⟩
  | 113 => ⟨S256, .i32⟩
  | 114 => ⟨S256, .i32⟩
  | 115 => ⟨S256, .i32⟩
  | 116 => ⟨S256, .i32⟩
  | 117 => ⟨S256, .i32⟩
  | 118 => ⟨S256, .i32⟩
  | 119 => ⟨S256, .i32⟩
  | 120 => ⟨S256, .i32⟩
  | 121 => ⟨S_, .i32⟩
  | 122 => ⟨S256, .i32⟩
  | 123 => ⟨S256, .i32⟩
  | 124 => ⟨S256, .i32⟩
  | 125 => ⟨S_, .i32⟩
  | 126 => ⟨S256, .i32⟩
  | 127 => ⟨S256, .i32⟩
  | _ => ⟨S256x3x300x25x2, .f32⟩

abbrev hbmTy0_2 (i : Nat) : BufTy := match i % 128 with
  | 0 => ⟨S_, .i32⟩
  | 1 => ⟨S256, .i32⟩
  | 2 => ⟨S256, .i32⟩
  | 3 => ⟨S256, .f32⟩
  | 4 => ⟨S_, .f32⟩
  | 5 => ⟨S256, .f32⟩
  | 6 => ⟨S256, .f32⟩
  | 7 => ⟨S1, .f32⟩
  | 8 => ⟨S256, .f32⟩
  | 9 => ⟨S256, .f32⟩
  | 10 => ⟨S256, .f32⟩
  | 11 => ⟨S256, .f32⟩
  | 12 => ⟨S256, .f32⟩
  | 13 => ⟨S256, .f32⟩
  | 14 => ⟨S_, .f32⟩
  | 15 => ⟨S256, .f32⟩
  | 16 => ⟨S256, .f32⟩
  | 17 => ⟨S_, .f32⟩
  | 18 => ⟨S256, .f32⟩
  | 19 => ⟨S256, .f32⟩
  | 20 => ⟨S300, .f32⟩
  | 21 => ⟨S1x300, .f32⟩
  | 22 => ⟨S256x1, .f32⟩
  | 23 => ⟨S256x300, .f32⟩
  | 24 => ⟨S256x300, .f32⟩
  | 25 => ⟨S256x300, .f32⟩
  | 26 => ⟨S_, .f32⟩
  | 27 => ⟨S_, .f32⟩
  | 28 => ⟨S_, .f32⟩
  | 29 => ⟨S256x300, .f32⟩
  | 30 => ⟨S256x300, .f32⟩
  | 31 => ⟨S_, .f32⟩
  | 32 => ⟨S256x300, .f32⟩
  | 33 => ⟨S256x300, .f32⟩
  | 34 => ⟨S256x300, .f32⟩
  | 35 => ⟨S256x300, .f32⟩
  | 36 => ⟨S_, .f32⟩
  | 37 => ⟨S256x608, .f32⟩
  | 38 => ⟨S_, .i32⟩
  | 39 => ⟨S1, .i32⟩
  | 40 => ⟨S256x608, .f32⟩
  | 41 => ⟨S_, .i32⟩
  | 42 => ⟨S1, .i32⟩
  | 43 => ⟨S256x608, .f32⟩
  | 44 => ⟨S11520000, .f32⟩
  | 45 => ⟨S155648, .f32⟩
  | 46 => ⟨S11520000, .f32⟩
  | 47 => ⟨S256x3x300x25x2, .f32⟩
  | _ => ⟨S256x3x300x25x2, .f32⟩

abbrev hbmTy (i : Nat) : BufTy := match i / 128 with
  | 0 => hbmTy0_0 i
  | 1 => hbmTy0_1 i
  | 2 => hbmTy0_2 i
  | _ => ⟨S256x3x300x25x2, .f32⟩

abbrev bufTy : (tb : Table) → Fin (nBuf tb) → BufTy
  | .hbm, ⟨i, _⟩ => hbmTy i
  | .local .scVector .vmem, ⟨0, _⟩ => ⟨S15000, .f32⟩
  | .local .scVector .vmem, ⟨1, _⟩ => ⟨S15200, .f32⟩
  | .local .scVector .vmem, ⟨2, _⟩ => ⟨S608, .f32⟩
  | _, _ => ⟨S256x3x300x25x2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_c_0 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_call0_v0 : Ref sig .tc := ⟨.hbm, 30, rfl⟩
abbrev main_call0_call0_c : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_c_0 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_c_1 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_call0_v12 : Ref sig .tc := ⟨.hbm, 45, rfl⟩
abbrev main_call0_call0_v13 : Ref sig .tc := ⟨.hbm, 46, rfl⟩
abbrev main_call0_call0_c_2 : Ref sig .tc := ⟨.hbm, 47, rfl⟩
abbrev main_call0_call0_v14 : Ref sig .tc := ⟨.hbm, 48, rfl⟩
abbrev main_call0_call0_v15 : Ref sig .tc := ⟨.hbm, 49, rfl⟩
abbrev main_call0_call0_c_3 : Ref sig .tc := ⟨.hbm, 50, rfl⟩
abbrev main_call0_call0_v16 : Ref sig .tc := ⟨.hbm, 51, rfl⟩
abbrev main_call0_call0_v17 : Ref sig .tc := ⟨.hbm, 52, rfl⟩
abbrev main_call0_call0_v18 : Ref sig .tc := ⟨.hbm, 53, rfl⟩
abbrev main_call0_call0_v19 : Ref sig .tc := ⟨.hbm, 54, rfl⟩
abbrev main_call0_call0_v20 : Ref sig .tc := ⟨.hbm, 55, rfl⟩
abbrev main_call0_call0_c_4 : Ref sig .tc := ⟨.hbm, 56, rfl⟩
abbrev main_call0_call0_v21 : Ref sig .tc := ⟨.hbm, 57, rfl⟩
abbrev main_call0_call0_v22 : Ref sig .tc := ⟨.hbm, 58, rfl⟩
abbrev main_call0_call0_c_5 : Ref sig .tc := ⟨.hbm, 59, rfl⟩
abbrev main_call0_call0_v23 : Ref sig .tc := ⟨.hbm, 60, rfl⟩
abbrev main_call0_call0_v24 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_v27 : Ref sig .tc := ⟨.hbm, 64, rfl⟩
abbrev main_call0_call0_c_6 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_c_7 : Ref sig .tc := ⟨.hbm, 68, rfl⟩
abbrev main_call0_call0_v30 : Ref sig .tc := ⟨.hbm, 69, rfl⟩
abbrev main_call0_call0_v31 : Ref sig .tc := ⟨.hbm, 70, rfl⟩
abbrev main_call0_call0_v32 : Ref sig .tc := ⟨.hbm, 71, rfl⟩
abbrev main_call0_call0_v33 : Ref sig .tc := ⟨.hbm, 72, rfl⟩
abbrev main_call0_call0_v34 : Ref sig .tc := ⟨.hbm, 73, rfl⟩
abbrev main_call0_call0_v35 : Ref sig .tc := ⟨.hbm, 74, rfl⟩
abbrev main_call0_call0_v36 : Ref sig .tc := ⟨.hbm, 75, rfl⟩
abbrev main_call0_call0_v37 : Ref sig .tc := ⟨.hbm, 76, rfl⟩
abbrev main_call0_call0_c_8 : Ref sig .tc := ⟨.hbm, 77, rfl⟩
abbrev main_call0_call0_v38 : Ref sig .tc := ⟨.hbm, 78, rfl⟩
abbrev main_call0_call0_v39 : Ref sig .tc := ⟨.hbm, 79, rfl⟩
abbrev main_call0_call0_v40 : Ref sig .tc := ⟨.hbm, 80, rfl⟩
abbrev main_call0_call0_c_9 : Ref sig .tc := ⟨.hbm, 81, rfl⟩
abbrev main_call0_call0_v41 : Ref sig .tc := ⟨.hbm, 82, rfl⟩
abbrev main_call0_call0_v42 : Ref sig .tc := ⟨.hbm, 83, rfl⟩
abbrev main_call0_call0_c_10 : Ref sig .tc := ⟨.hbm, 84, rfl⟩
abbrev main_call0_call0_v43 : Ref sig .tc := ⟨.hbm, 85, rfl⟩
abbrev main_call0_call0_v44 : Ref sig .tc := ⟨.hbm, 86, rfl⟩
abbrev main_call0_call0_v45 : Ref sig .tc := ⟨.hbm, 87, rfl⟩
abbrev main_call0_call0_v46 : Ref sig .tc := ⟨.hbm, 88, rfl⟩
abbrev main_call0_call0_v47 : Ref sig .tc := ⟨.hbm, 89, rfl⟩
abbrev main_call0_call0_c_11 : Ref sig .tc := ⟨.hbm, 90, rfl⟩
abbrev main_call0_call0_v48 : Ref sig .tc := ⟨.hbm, 91, rfl⟩
abbrev main_call0_call0_v49 : Ref sig .tc := ⟨.hbm, 92, rfl⟩
abbrev main_call0_call0_c_12 : Ref sig .tc := ⟨.hbm, 93, rfl⟩
abbrev main_call0_call0_v50 : Ref sig .tc := ⟨.hbm, 94, rfl⟩
abbrev main_call0_call0_v51 : Ref sig .tc := ⟨.hbm, 95, rfl⟩
abbrev main_call0_call0_v52 : Ref sig .tc := ⟨.hbm, 96, rfl⟩
abbrev main_call0_call0_v53 : Ref sig .tc := ⟨.hbm, 97, rfl⟩
abbrev main_call0_call0_v54 : Ref sig .tc := ⟨.hbm, 98, rfl⟩
abbrev main_call0_call0_c_13 : Ref sig .tc := ⟨.hbm, 99, rfl⟩
abbrev main_call0_call0_v55 : Ref sig .tc := ⟨.hbm, 100, rfl⟩
abbrev main_call0_call0_v56 : Ref sig .tc := ⟨.hbm, 101, rfl⟩
abbrev main_call0_call0_c_14 : Ref sig .tc := ⟨.hbm, 102, rfl⟩
abbrev main_call0_call0_v57 : Ref sig .tc := ⟨.hbm, 103, rfl⟩
abbrev main_call0_call0_v58 : Ref sig .tc := ⟨.hbm, 104, rfl⟩
abbrev main_call0_call0_v59 : Ref sig .tc := ⟨.hbm, 105, rfl⟩
abbrev main_call0_call0_v60 : Ref sig .tc := ⟨.hbm, 106, rfl⟩
abbrev main_call0_call0_v61 : Ref sig .tc := ⟨.hbm, 107, rfl⟩
abbrev main_call0_call0_c_15 : Ref sig .tc := ⟨.hbm, 108, rfl⟩
abbrev main_call0_call0_v62 : Ref sig .tc := ⟨.hbm, 109, rfl⟩
abbrev main_call0_call0_v63 : Ref sig .tc := ⟨.hbm, 110, rfl⟩
abbrev main_call0_call0_c_16 : Ref sig .tc := ⟨.hbm, 111, rfl⟩
abbrev main_call0_call0_v64 : Ref sig .tc := ⟨.hbm, 112, rfl⟩
abbrev main_call0_call0_v65 : Ref sig .tc := ⟨.hbm, 113, rfl⟩
abbrev main_call0_call0_v66 : Ref sig .tc := ⟨.hbm, 114, rfl⟩
abbrev main_call0_call0_v67 : Ref sig .tc := ⟨.hbm, 115, rfl⟩
abbrev main_call0_call0_v68 : Ref sig .tc := ⟨.hbm, 116, rfl⟩
abbrev main_call0_call0_v69 : Ref sig .tc := ⟨.hbm, 117, rfl⟩
abbrev main_call0_call0_v70 : Ref sig .tc := ⟨.hbm, 118, rfl⟩
abbrev main_call0_call0_v71 : Ref sig .tc := ⟨.hbm, 119, rfl⟩
abbrev main_call0_call0_c_17 : Ref sig .tc := ⟨.hbm, 120, rfl⟩
abbrev main_call0_call0_v72 : Ref sig .tc := ⟨.hbm, 121, rfl⟩
abbrev main_call0_call0_v73 : Ref sig .tc := ⟨.hbm, 122, rfl⟩
abbrev main_call0_call0_v74 : Ref sig .tc := ⟨.hbm, 123, rfl⟩
abbrev main_call0_call0_c_18 : Ref sig .tc := ⟨.hbm, 124, rfl⟩
abbrev main_call0_call0_v75 : Ref sig .tc := ⟨.hbm, 125, rfl⟩
abbrev main_call0_call0_v76 : Ref sig .tc := ⟨.hbm, 126, rfl⟩
abbrev main_call0_call0_c_19 : Ref sig .tc := ⟨.hbm, 127, rfl⟩
abbrev main_call0_call0_v77 : Ref sig .tc := ⟨.hbm, 128, rfl⟩
abbrev main_call0_call0_v78 : Ref sig .tc := ⟨.hbm, 129, rfl⟩
abbrev main_call0_call0_v79 : Ref sig .tc := ⟨.hbm, 130, rfl⟩
abbrev main_call0_call0_v80 : Ref sig .tc := ⟨.hbm, 131, rfl⟩
abbrev main_call0_call0_v81 : Ref sig .tc := ⟨.hbm, 132, rfl⟩
abbrev main_call0_call0_c_20 : Ref sig .tc := ⟨.hbm, 133, rfl⟩
abbrev main_call0_call0_v82 : Ref sig .tc := ⟨.hbm, 134, rfl⟩
abbrev main_call0_call0_v83 : Ref sig .tc := ⟨.hbm, 135, rfl⟩
abbrev main_call0_call0_c_21 : Ref sig .tc := ⟨.hbm, 136, rfl⟩
abbrev main_call0_call0_v84 : Ref sig .tc := ⟨.hbm, 137, rfl⟩
abbrev main_call0_call0_v85 : Ref sig .tc := ⟨.hbm, 138, rfl⟩
abbrev main_call0_call0_v86 : Ref sig .tc := ⟨.hbm, 139, rfl⟩
abbrev main_call0_call0_v87 : Ref sig .tc := ⟨.hbm, 140, rfl⟩
abbrev main_call0_call0_v88 : Ref sig .tc := ⟨.hbm, 141, rfl⟩
abbrev main_call0_call0_c_22 : Ref sig .tc := ⟨.hbm, 142, rfl⟩
abbrev main_call0_call0_v89 : Ref sig .tc := ⟨.hbm, 143, rfl⟩
abbrev main_call0_call0_v90 : Ref sig .tc := ⟨.hbm, 144, rfl⟩
abbrev main_call0_call0_c_23 : Ref sig .tc := ⟨.hbm, 145, rfl⟩
abbrev main_call0_call0_v91 : Ref sig .tc := ⟨.hbm, 146, rfl⟩
abbrev main_call0_call0_v92 : Ref sig .tc := ⟨.hbm, 147, rfl⟩
abbrev main_call0_call0_v93 : Ref sig .tc := ⟨.hbm, 148, rfl⟩
abbrev main_call0_call0_v94 : Ref sig .tc := ⟨.hbm, 149, rfl⟩
abbrev main_call0_call0_v95 : Ref sig .tc := ⟨.hbm, 150, rfl⟩
abbrev main_call0_call0_c_24 : Ref sig .tc := ⟨.hbm, 151, rfl⟩
abbrev main_call0_call0_v96 : Ref sig .tc := ⟨.hbm, 152, rfl⟩
abbrev main_call0_call0_v97 : Ref sig .tc := ⟨.hbm, 153, rfl⟩
abbrev main_call0_call0_c_25 : Ref sig .tc := ⟨.hbm, 154, rfl⟩
abbrev main_call0_call0_v98 : Ref sig .tc := ⟨.hbm, 155, rfl⟩
abbrev main_call0_call0_v99 : Ref sig .tc := ⟨.hbm, 156, rfl⟩
abbrev main_call0_call0_v100 : Ref sig .tc := ⟨.hbm, 157, rfl⟩
abbrev main_call0_call0_v101 : Ref sig .tc := ⟨.hbm, 158, rfl⟩
abbrev main_call0_call0_v102 : Ref sig .tc := ⟨.hbm, 159, rfl⟩
abbrev main_call0_call0_v103 : Ref sig .tc := ⟨.hbm, 160, rfl⟩
abbrev main_call0_call0_v104 : Ref sig .tc := ⟨.hbm, 161, rfl⟩
abbrev main_call0_call0_v105 : Ref sig .tc := ⟨.hbm, 162, rfl⟩
abbrev main_call0_call0_c_26 : Ref sig .tc := ⟨.hbm, 163, rfl⟩
abbrev main_call0_call0_v106 : Ref sig .tc := ⟨.hbm, 164, rfl⟩
abbrev main_call0_call0_v107 : Ref sig .tc := ⟨.hbm, 165, rfl⟩
abbrev main_call0_call0_v108 : Ref sig .tc := ⟨.hbm, 166, rfl⟩
abbrev main_call0_call0_c_27 : Ref sig .tc := ⟨.hbm, 167, rfl⟩
abbrev main_call0_call0_v109 : Ref sig .tc := ⟨.hbm, 168, rfl⟩
abbrev main_call0_call0_v110 : Ref sig .tc := ⟨.hbm, 169, rfl⟩
abbrev main_call0_call0_c_28 : Ref sig .tc := ⟨.hbm, 170, rfl⟩
abbrev main_call0_call0_v111 : Ref sig .tc := ⟨.hbm, 171, rfl⟩
abbrev main_call0_call0_v112 : Ref sig .tc := ⟨.hbm, 172, rfl⟩
abbrev main_call0_call0_v113 : Ref sig .tc := ⟨.hbm, 173, rfl⟩
abbrev main_call0_call0_v114 : Ref sig .tc := ⟨.hbm, 174, rfl⟩
abbrev main_call0_call0_v115 : Ref sig .tc := ⟨.hbm, 175, rfl⟩
abbrev main_call0_call0_c_29 : Ref sig .tc := ⟨.hbm, 176, rfl⟩
abbrev main_call0_call0_v116 : Ref sig .tc := ⟨.hbm, 177, rfl⟩
abbrev main_call0_call0_v117 : Ref sig .tc := ⟨.hbm, 178, rfl⟩
abbrev main_call0_call0_c_30 : Ref sig .tc := ⟨.hbm, 179, rfl⟩
abbrev main_call0_call0_v118 : Ref sig .tc := ⟨.hbm, 180, rfl⟩
abbrev main_call0_call0_v119 : Ref sig .tc := ⟨.hbm, 181, rfl⟩
abbrev main_call0_call0_v120 : Ref sig .tc := ⟨.hbm, 182, rfl⟩
abbrev main_call0_call0_v121 : Ref sig .tc := ⟨.hbm, 183, rfl⟩
abbrev main_call0_call0_v122 : Ref sig .tc := ⟨.hbm, 184, rfl⟩
abbrev main_call0_call0_c_31 : Ref sig .tc := ⟨.hbm, 185, rfl⟩
abbrev main_call0_call0_v123 : Ref sig .tc := ⟨.hbm, 186, rfl⟩
abbrev main_call0_call0_v124 : Ref sig .tc := ⟨.hbm, 187, rfl⟩
abbrev main_call0_call0_c_32 : Ref sig .tc := ⟨.hbm, 188, rfl⟩
abbrev main_call0_call0_v125 : Ref sig .tc := ⟨.hbm, 189, rfl⟩
abbrev main_call0_call0_v126 : Ref sig .tc := ⟨.hbm, 190, rfl⟩
abbrev main_call0_call0_v127 : Ref sig .tc := ⟨.hbm, 191, rfl⟩
abbrev main_call0_call0_v128 : Ref sig .tc := ⟨.hbm, 192, rfl⟩
abbrev main_call0_call0_v129 : Ref sig .tc := ⟨.hbm, 193, rfl⟩
abbrev main_call0_call0_c_33 : Ref sig .tc := ⟨.hbm, 194, rfl⟩
abbrev main_call0_call0_v130 : Ref sig .tc := ⟨.hbm, 195, rfl⟩
abbrev main_call0_call0_v131 : Ref sig .tc := ⟨.hbm, 196, rfl⟩
abbrev main_call0_call0_c_34 : Ref sig .tc := ⟨.hbm, 197, rfl⟩
abbrev main_call0_call0_v132 : Ref sig .tc := ⟨.hbm, 198, rfl⟩
abbrev main_call0_call0_v133 : Ref sig .tc := ⟨.hbm, 199, rfl⟩
abbrev main_call0_call0_v134 : Ref sig .tc := ⟨.hbm, 200, rfl⟩
abbrev main_call0_call0_v135 : Ref sig .tc := ⟨.hbm, 201, rfl⟩
abbrev main_call0_call0_v136 : Ref sig .tc := ⟨.hbm, 202, rfl⟩
abbrev main_call0_call0_v137 : Ref sig .tc := ⟨.hbm, 203, rfl⟩
abbrev main_call0_call0_v138 : Ref sig .tc := ⟨.hbm, 204, rfl⟩
abbrev main_call0_call0_v139 : Ref sig .tc := ⟨.hbm, 205, rfl⟩
abbrev main_call0_call0_c_35 : Ref sig .tc := ⟨.hbm, 206, rfl⟩
abbrev main_call0_call0_v140 : Ref sig .tc := ⟨.hbm, 207, rfl⟩
abbrev main_call0_call0_v141 : Ref sig .tc := ⟨.hbm, 208, rfl⟩
abbrev main_call0_call0_v142 : Ref sig .tc := ⟨.hbm, 209, rfl⟩
abbrev main_call0_call0_c_36 : Ref sig .tc := ⟨.hbm, 210, rfl⟩
abbrev main_call0_call0_v143 : Ref sig .tc := ⟨.hbm, 211, rfl⟩
abbrev main_call0_call0_v144 : Ref sig .tc := ⟨.hbm, 212, rfl⟩
abbrev main_call0_call0_c_37 : Ref sig .tc := ⟨.hbm, 213, rfl⟩
abbrev main_call0_call0_v145 : Ref sig .tc := ⟨.hbm, 214, rfl⟩
abbrev main_call0_call0_v146 : Ref sig .tc := ⟨.hbm, 215, rfl⟩
abbrev main_call0_call0_v147 : Ref sig .tc := ⟨.hbm, 216, rfl⟩
abbrev main_call0_call0_v148 : Ref sig .tc := ⟨.hbm, 217, rfl⟩
abbrev main_call0_call0_v149 : Ref sig .tc := ⟨.hbm, 218, rfl⟩
abbrev main_call0_call0_c_38 : Ref sig .tc := ⟨.hbm, 219, rfl⟩
abbrev main_call0_call0_v150 : Ref sig .tc := ⟨.hbm, 220, rfl⟩
abbrev main_call0_call0_v151 : Ref sig .tc := ⟨.hbm, 221, rfl⟩
abbrev main_call0_call0_c_39 : Ref sig .tc := ⟨.hbm, 222, rfl⟩
abbrev main_call0_call0_v152 : Ref sig .tc := ⟨.hbm, 223, rfl⟩
abbrev main_call0_call0_v153 : Ref sig .tc := ⟨.hbm, 224, rfl⟩
abbrev main_call0_call0_v154 : Ref sig .tc := ⟨.hbm, 225, rfl⟩
abbrev main_call0_call0_v155 : Ref sig .tc := ⟨.hbm, 226, rfl⟩
abbrev main_call0_call0_v156 : Ref sig .tc := ⟨.hbm, 227, rfl⟩
abbrev main_call0_call0_c_40 : Ref sig .tc := ⟨.hbm, 228, rfl⟩
abbrev main_call0_call0_v157 : Ref sig .tc := ⟨.hbm, 229, rfl⟩
abbrev main_call0_call0_v158 : Ref sig .tc := ⟨.hbm, 230, rfl⟩
abbrev main_call0_call0_c_41 : Ref sig .tc := ⟨.hbm, 231, rfl⟩
abbrev main_call0_call0_v159 : Ref sig .tc := ⟨.hbm, 232, rfl⟩
abbrev main_call0_call0_v160 : Ref sig .tc := ⟨.hbm, 233, rfl⟩
abbrev main_call0_call0_v161 : Ref sig .tc := ⟨.hbm, 234, rfl⟩
abbrev main_call0_call0_v162 : Ref sig .tc := ⟨.hbm, 235, rfl⟩
abbrev main_call0_call0_v163 : Ref sig .tc := ⟨.hbm, 236, rfl⟩
abbrev main_call0_call0_c_42 : Ref sig .tc := ⟨.hbm, 237, rfl⟩
abbrev main_call0_call0_v164 : Ref sig .tc := ⟨.hbm, 238, rfl⟩
abbrev main_call0_call0_v165 : Ref sig .tc := ⟨.hbm, 239, rfl⟩
abbrev main_call0_call0_c_43 : Ref sig .tc := ⟨.hbm, 240, rfl⟩
abbrev main_call0_call0_v166 : Ref sig .tc := ⟨.hbm, 241, rfl⟩
abbrev main_call0_call0_v167 : Ref sig .tc := ⟨.hbm, 242, rfl⟩
abbrev main_call0_call0_v168 : Ref sig .tc := ⟨.hbm, 243, rfl⟩
abbrev main_call0_call0_v169 : Ref sig .tc := ⟨.hbm, 244, rfl⟩
abbrev main_call0_call0_v170 : Ref sig .tc := ⟨.hbm, 245, rfl⟩
abbrev main_call0_v15_0 : Ref sig .tc := ⟨.hbm, 246, rfl⟩
abbrev main_call0_call0_v172 : Ref sig .tc := ⟨.hbm, 247, rfl⟩
abbrev main_call0_call0_v173 : Ref sig .tc := ⟨.hbm, 248, rfl⟩
abbrev main_call0_call0_c_44 : Ref sig .tc := ⟨.hbm, 249, rfl⟩
abbrev main_call0_call0_v174 : Ref sig .tc := ⟨.hbm, 250, rfl⟩
abbrev main_call0_v15_1 : Ref sig .tc := ⟨.hbm, 251, rfl⟩
abbrev main_call0_v16 : Ref sig .tc := ⟨.hbm, 252, rfl⟩
abbrev main_call0_c_1 : Ref sig .tc := ⟨.hbm, 253, rfl⟩
abbrev main_call0_v17 : Ref sig .tc := ⟨.hbm, 254, rfl⟩
abbrev main_call0_v18 : Ref sig .tc := ⟨.hbm, 255, rfl⟩
abbrev main_call0_c_2 : Ref sig .tc := ⟨.hbm, 256, rfl⟩
abbrev main_call0_v19 : Ref sig .tc := ⟨.hbm, 257, rfl⟩
abbrev main_call0_v20 : Ref sig .tc := ⟨.hbm, 258, rfl⟩
abbrev main_call0_v21 : Ref sig .tc := ⟨.hbm, 259, rfl⟩
abbrev main_call0_cst : Ref sig .tc := ⟨.hbm, 260, rfl⟩
abbrev main_call0_v22 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_v26 : Ref sig .tc := ⟨.hbm, 265, rfl⟩
abbrev main_call0_v27 : Ref sig .tc := ⟨.hbm, 266, rfl⟩
abbrev main_call0_v28 : Ref sig .tc := ⟨.hbm, 267, rfl⟩
abbrev main_call0_v29 : Ref sig .tc := ⟨.hbm, 268, rfl⟩
abbrev main_v7 : Ref sig .tc := ⟨.hbm, 269, rfl⟩
abbrev main_cst_3 : Ref sig .tc := ⟨.hbm, 270, rfl⟩
abbrev main_v8 : Ref sig .tc := ⟨.hbm, 271, rfl⟩
abbrev main_v9 : Ref sig .tc := ⟨.hbm, 272, rfl⟩
abbrev main_cst_4 : Ref sig .tc := ⟨.hbm, 273, rfl⟩
abbrev main_v10 : Ref sig .tc := ⟨.hbm, 274, rfl⟩
abbrev main_v11 : Ref sig .tc := ⟨.hbm, 275, rfl⟩
abbrev main_v12 : Ref sig .tc := ⟨.hbm, 276, rfl⟩
abbrev main_v13 : Ref sig .tc := ⟨.hbm, 277, rfl⟩
abbrev main_v14 : Ref sig .tc := ⟨.hbm, 278, rfl⟩
abbrev main_v15 : Ref sig .tc := ⟨.hbm, 279, rfl⟩
abbrev main_v16 : Ref sig .tc := ⟨.hbm, 280, rfl⟩
abbrev main_v17 : Ref sig .tc := ⟨.hbm, 281, rfl⟩
abbrev main_cst_5 : Ref sig .tc := ⟨.hbm, 282, rfl⟩
abbrev main_cst_6 : Ref sig .tc := ⟨.hbm, 283, rfl⟩
abbrev main_call1_v0 : Ref sig .tc := ⟨.hbm, 284, rfl⟩
abbrev main_call1_v1 : Ref sig .tc := ⟨.hbm, 285, rfl⟩
abbrev main_call1_v2 : Ref sig .tc := ⟨.hbm, 286, rfl⟩
abbrev main_call1_v3 : Ref sig .tc := ⟨.hbm, 287, rfl⟩
abbrev main_call1_v4 : Ref sig .tc := ⟨.hbm, 288, rfl⟩
abbrev main_v18 : Ref sig .tc := ⟨.hbm, 289, rfl⟩
abbrev main_v19 : Ref sig .tc := ⟨.hbm, 290, rfl⟩
abbrev main_v20 : Ref sig .tc := ⟨.hbm, 291, rfl⟩
abbrev main_cst_7 : Ref sig .tc := ⟨.hbm, 292, rfl⟩
abbrev main_v21 : Ref sig .tc := ⟨.hbm, 293, rfl⟩
abbrev main_c_8 : Ref sig .tc := ⟨.hbm, 294, rfl⟩
abbrev main_v22 : Ref sig .tc := ⟨.hbm, 295, rfl⟩
abbrev main_v23 : Ref sig .tc := ⟨.hbm, 296, rfl⟩
abbrev main_c_9 : Ref sig .tc := ⟨.hbm, 297, rfl⟩
abbrev main_v24 : Ref sig .tc := ⟨.hbm, 298, rfl⟩
abbrev main_v25 : Ref sig .tc := ⟨.hbm, 299, rfl⟩
abbrev main_v26 : Ref sig .tc := ⟨.hbm, 300, rfl⟩
abbrev main_v27 : Ref sig .tc := ⟨.hbm, 301, rfl⟩
abbrev main_v28 : Ref sig .tc := ⟨.hbm, 302, rfl⟩
abbrev main_v29 : Ref sig .tc := ⟨.hbm, 303, rfl⟩
abbrev main_v26_scv : Ref sig .scVector := ⟨.hbm, 300, rfl⟩
abbrev main_v27_scv : Ref sig .scVector := ⟨.hbm, 301, rfl⟩
abbrev main_v28_scv : Ref sig .scVector := ⟨.hbm, 302, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c24_i32 : BitVec 32 := 24#32
  let v3 : BitVec 32 := Scalar.addi c0_i32_0 c24_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_2 : BitVec 32 := 24#32
  let v4 : BitVec 32 := Scalar.muli v1 c24_i32_2
  let c0_i32_0 : BitVec 32 := 0#32
  let c1_i32 : BitVec 32 := 1#32
  let arg8 : BitVec 32 := Scf.iv c0_i32_0 c1_i32 k0_t1
  let v5 : BitVec 32 := Scalar.addi v4 arg8
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c3_i32 : BitVec 32 := 3#32
  let c0_i32_5 : BitVec 32 := 0#32
  let v12 : BitVec 1 := Scalar.cmpi .sgt c3_i32 c0_i32_5
  let v13 : BitVec 32 := Scalar.extui v12
  let c0_i32_6 : BitVec 32 := 0#32
  let v14 : BitVec 1 := Scalar.cmpi .slt c3_i32 c0_i32_6
  let v15 : BitVec 32 := Scalar.extui v14
  let v16 : BitVec 32 := Scalar.subi v13 v15
  let v17 : BitVec 1 := Scalar.cmpi .ne v11 v16
  let v18 : BitVec 32 := Scalar.remsi v5 c3_i32
  let c0_i32_7 : BitVec 32 := 0#32
  let v19 : BitVec 1 := Scalar.cmpi .ne v18 c0_i32_7
  let v20 : BitVec 1 := Scalar.andi v17 v19
  let v6 : BitVec 32 := Scalar.divsi v5 c3_i32
  let c1_i32_8 : BitVec 32 := 1#32
  let v21 : BitVec 32 := Scalar.subi v6 c1_i32_8
  let v22 : BitVec 32 := Scalar.select v20 v21 v6
  let c608_i32 : BitVec 32 := 608#32
  let v23 : BitVec 32 := Scalar.muli v22 c608_i32
  ![v23.toNat]
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_2 : BitVec 32 := 24#32
  let v4 : BitVec 32 := Scalar.muli v1 c24_i32_2
  let c0_i32_0 : BitVec 32 := 0#32
  let c1_i32 : BitVec 32 := 1#32
  let arg8 : BitVec 32 := Scf.iv c0_i32_0 c1_i32 k0_t1
  let v5 : BitVec 32 := Scalar.addi v4 arg8
  let c15000_i32 : BitVec 32 := 15000#32
  let v24 : BitVec 32 := Scalar.muli v5 c15000_i32
  ![v24.toNat]
@[reducible] def k0_t2_loop : Scf.Loop 32 :=
  let c0_i32_10 : BitVec 32 := 0#32
  let c19_i32 : BitVec 32 := 19#32
  let v25 : BitVec 32 := Scalar.addi c0_i32_10 c19_i32
  let c1_i32_11 : BitVec 32 := 1#32
  ⟨c0_i32_10, v25, c1_i32_11⟩
def k0_off3 (k0_t2 : Fin k0_t2_loop.trips) : Fin 1 → Nat :=
  let c0_i32_10 : BitVec 32 := 0#32
  let c1_i32_11 : BitVec 32 := 1#32
  let arg9 : BitVec 32 := Scf.iv c0_i32_10 c1_i32_11 k0_t2
  let c16_i32 : BitVec 32 := 16#32
  let v27 : BitVec 32 := Scalar.muli arg9 c16_i32
  let v28 : Index := Scalar.indexCast v27
  ![v28.toNat]
def k0_off4 (k0_t2 : Fin k0_t2_loop.trips) : Fin 1 → Nat :=
  let c304_i32 : BitVec 32 := 304#32
  let c0_i32_10 : BitVec 32 := 0#32
  let c1_i32_11 : BitVec 32 := 1#32
  let arg9 : BitVec 32 := Scf.iv c0_i32_10 c1_i32_11 k0_t2
  let c16_i32_14 : BitVec 32 := 16#32
  let v30 : BitVec 32 := Scalar.muli arg9 c16_i32_14
  let v31 : BitVec 32 := Scalar.addi c304_i32 v30
  let v32 : Index := Scalar.indexCast v31
  ![v32.toNat]

def k0_chk1 (v40 : IVec S16 32) : Prop :=
  (∀ a x, ((![v40] : Fin 1 → IVec S16 32) a x).toNat < S15000.size a)
theorem k0_idx1_inb : ∀ (v40 : IVec S16 32) (k0_hw1 : k0_chk1 v40), ∀ a x, ((![v40] : Fin 1 → IVec S16 32) a x).toNat < S15000.size a := fun v40 k0_hw1 => k0_hw1

def k0_chk2 (v42 : IVec S16 32) : Prop :=
  (∀ a x, ((![v42] : Fin 1 → IVec S16 32) a x).toNat < S15000.size a)
theorem k0_idx2_inb : ∀ (v42 : IVec S16 32) (k0_hw2 : k0_chk2 v42), ∀ a x, ((![v42] : Fin 1 → IVec S16 32) a x).toNat < S15000.size a := fun v42 k0_hw2 => k0_hw2

def k0_chk3 (v47 : IVec S16 32) : Prop :=
  (∀ a x, ((![v47] : Fin 1 → IVec S16 32) a x).toNat < S15200.size a)
theorem k0_idx3_inb : ∀ (v47 : IVec S16 32) (k0_hw3 : k0_chk3 v47), ∀ a x, ((![v47] : Fin 1 → IVec S16 32) a x).toNat < S15200.size a := fun v47 k0_hw3 => k0_hw3

def k0_chk4 (v54 : IVec S16 32) : Prop :=
  (∀ a x, ((![v54] : Fin 1 → IVec S16 32) a x).toNat < S15000.size a)
theorem k0_idx4_inb : ∀ (v54 : IVec S16 32) (k0_hw4 : k0_chk4 v54), ∀ a x, ((![v54] : Fin 1 → IVec S16 32) a x).toNat < S15000.size a := fun v54 k0_hw4 => k0_hw4

def k0_chk5 (v56 : IVec S16 32) : Prop :=
  (∀ a x, ((![v56] : Fin 1 → IVec S16 32) a x).toNat < S15000.size a)
theorem k0_idx5_inb : ∀ (v56 : IVec S16 32) (k0_hw5 : k0_chk5 v56), ∀ a x, ((![v56] : Fin 1 → IVec S16 32) a x).toNat < S15000.size a := fun v56 k0_hw5 => k0_hw5

def k0_chk6 (v58 : IVec S16 32) : Prop :=
  (∀ a x, ((![v58] : Fin 1 → IVec S16 32) a x).toNat < S15200.size a)
theorem k0_idx6_inb : ∀ (v58 : IVec S16 32) (k0_hw6 : k0_chk6 v58), ∀ a x, ((![v58] : Fin 1 → IVec S16 32) a x).toNat < S15200.size a := fun v58 k0_hw6 => k0_hw6

def k0_chk7 (v65 : IVec S16 32) : Prop :=
  (∀ a x, ((![v65] : Fin 1 → IVec S16 32) a x).toNat < S15000.size a)
theorem k0_idx7_inb : ∀ (v65 : IVec S16 32) (k0_hw7 : k0_chk7 v65), ∀ a x, ((![v65] : Fin 1 → IVec S16 32) a x).toNat < S15000.size a := fun v65 k0_hw7 => k0_hw7

def k0_chk8 (v67 : IVec S16 32) : Prop :=
  (∀ a x, ((![v67] : Fin 1 → IVec S16 32) a x).toNat < S15000.size a)
theorem k0_idx8_inb : ∀ (v67 : IVec S16 32) (k0_hw8 : k0_chk8 v67), ∀ a x, ((![v67] : Fin 1 → IVec S16 32) a x).toNat < S15000.size a := fun v67 k0_hw8 => k0_hw8

def k0_chk9 (v69 : IVec S16 32) : Prop :=
  (∀ a x, ((![v69] : Fin 1 → IVec S16 32) a x).toNat < S15200.size a)
theorem k0_idx9_inb : ∀ (v69 : IVec S16 32) (k0_hw9 : k0_chk9 v69), ∀ a x, ((![v69] : Fin 1 → IVec S16 32) a x).toNat < S15200.size a := fun v69 k0_hw9 => k0_hw9

def k0_chk10 (v76 : IVec S16 32) : Prop :=
  (∀ a x, ((![v76] : Fin 1 → IVec S16 32) a x).toNat < S15000.size a)
theorem k0_idx10_inb : ∀ (v76 : IVec S16 32) (k0_hw10 : k0_chk10 v76), ∀ a x, ((![v76] : Fin 1 → IVec S16 32) a x).toNat < S15000.size a := fun v76 k0_hw10 => k0_hw10

def k0_chk11 (v78 : IVec S16 32) : Prop :=
  (∀ a x, ((![v78] : Fin 1 → IVec S16 32) a x).toNat < S15000.size a)
theorem k0_idx11_inb : ∀ (v78 : IVec S16 32) (k0_hw11 : k0_chk11 v78), ∀ a x, ((![v78] : Fin 1 → IVec S16 32) a x).toNat < S15000.size a := fun v78 k0_hw11 => k0_hw11

def k0_chk12 (v80 : IVec S16 32) : Prop :=
  (∀ a x, ((![v80] : Fin 1 → IVec S16 32) a x).toNat < S15200.size a)
theorem k0_idx12_inb : ∀ (v80 : IVec S16 32) (k0_hw12 : k0_chk12 v80), ∀ a x, ((![v80] : Fin 1 → IVec S16 32) a x).toNat < S15200.size a := fun v80 k0_hw12 => k0_hw12

def k0_chk13 (v87 : IVec S16 32) : Prop :=
  (∀ a x, ((![v87] : Fin 1 → IVec S16 32) a x).toNat < S15000.size a)
theorem k0_idx13_inb : ∀ (v87 : IVec S16 32) (k0_hw13 : k0_chk13 v87), ∀ a x, ((![v87] : Fin 1 → IVec S16 32) a x).toNat < S15000.size a := fun v87 k0_hw13 => k0_hw13

def k0_chk14 (v89 : IVec S16 32) : Prop :=
  (∀ a x, ((![v89] : Fin 1 → IVec S16 32) a x).toNat < S15000.size a)
theorem k0_idx14_inb : ∀ (v89 : IVec S16 32) (k0_hw14 : k0_chk14 v89), ∀ a x, ((![v89] : Fin 1 → IVec S16 32) a x).toNat < S15000.size a := fun v89 k0_hw14 => k0_hw14

def k0_chk15 (v91 : IVec S16 32) : Prop :=
  (∀ a x, ((![v91] : Fin 1 → IVec S16 32) a x).toNat < S15200.size a)
theorem k0_idx15_inb : ∀ (v91 : IVec S16 32) (k0_hw15 : k0_chk15 v91), ∀ a x, ((![v91] : Fin 1 → IVec S16 32) a x).toNat < S15200.size a := fun v91 k0_hw15 => k0_hw15

def k0_chk16 (v98 : IVec S16 32) : Prop :=
  (∀ a x, ((![v98] : Fin 1 → IVec S16 32) a x).toNat < S15000.size a)
theorem k0_idx16_inb : ∀ (v98 : IVec S16 32) (k0_hw16 : k0_chk16 v98), ∀ a x, ((![v98] : Fin 1 → IVec S16 32) a x).toNat < S15000.size a := fun v98 k0_hw16 => k0_hw16

def k0_chk17 (v100 : IVec S16 32) : Prop :=
  (∀ a x, ((![v100] : Fin 1 → IVec S16 32) a x).toNat < S15000.size a)
theorem k0_idx17_inb : ∀ (v100 : IVec S16 32) (k0_hw17 : k0_chk17 v100), ∀ a x, ((![v100] : Fin 1 → IVec S16 32) a x).toNat < S15000.size a := fun v100 k0_hw17 => k0_hw17

def k0_chk18 (v102 : IVec S16 32) : Prop :=
  (∀ a x, ((![v102] : Fin 1 → IVec S16 32) a x).toNat < S15200.size a)
theorem k0_idx18_inb : ∀ (v102 : IVec S16 32) (k0_hw18 : k0_chk18 v102), ∀ a x, ((![v102] : Fin 1 → IVec S16 32) a x).toNat < S15200.size a := fun v102 k0_hw18 => k0_hw18

def k0_chk19 (v109 : IVec S16 32) : Prop :=
  (∀ a x, ((![v109] : Fin 1 → IVec S16 32) a x).toNat < S15000.size a)
theorem k0_idx19_inb : ∀ (v109 : IVec S16 32) (k0_hw19 : k0_chk19 v109), ∀ a x, ((![v109] : Fin 1 → IVec S16 32) a x).toNat < S15000.size a := fun v109 k0_hw19 => k0_hw19

def k0_chk20 (v111 : IVec S16 32) : Prop :=
  (∀ a x, ((![v111] : Fin 1 → IVec S16 32) a x).toNat < S15000.size a)
theorem k0_idx20_inb : ∀ (v111 : IVec S16 32) (k0_hw20 : k0_chk20 v111), ∀ a x, ((![v111] : Fin 1 → IVec S16 32) a x).toNat < S15000.size a := fun v111 k0_hw20 => k0_hw20

def k0_chk21 (v113 : IVec S16 32) : Prop :=
  (∀ a x, ((![v113] : Fin 1 → IVec S16 32) a x).toNat < S15200.size a)
theorem k0_idx21_inb : ∀ (v113 : IVec S16 32) (k0_hw21 : k0_chk21 v113), ∀ a x, ((![v113] : Fin 1 → IVec S16 32) a x).toNat < S15200.size a := fun v113 k0_hw21 => k0_hw21

def k0_chk22 (v120 : IVec S16 32) : Prop :=
  (∀ a x, ((![v120] : Fin 1 → IVec S16 32) a x).toNat < S15000.size a)
theorem k0_idx22_inb : ∀ (v120 : IVec S16 32) (k0_hw22 : k0_chk22 v120), ∀ a x, ((![v120] : Fin 1 → IVec S16 32) a x).toNat < S15000.size a := fun v120 k0_hw22 => k0_hw22

def k0_chk23 (v122 : IVec S16 32) : Prop :=
  (∀ a x, ((![v122] : Fin 1 → IVec S16 32) a x).toNat < S15000.size a)
theorem k0_idx23_inb : ∀ (v122 : IVec S16 32) (k0_hw23 : k0_chk23 v122), ∀ a x, ((![v122] : Fin 1 → IVec S16 32) a x).toNat < S15000.size a := fun v122 k0_hw23 => k0_hw23

def k0_chk24 (v124 : IVec S16 32) : Prop :=
  (∀ a x, ((![v124] : Fin 1 → IVec S16 32) a x).toNat < S15200.size a)
theorem k0_idx24_inb : ∀ (v124 : IVec S16 32) (k0_hw24 : k0_chk24 v124), ∀ a x, ((![v124] : Fin 1 → IVec S16 32) a x).toNat < S15200.size a := fun v124 k0_hw24 => k0_hw24

def k0_chk25 (v131 : IVec S16 32) : Prop :=
  (∀ a x, ((![v131] : Fin 1 → IVec S16 32) a x).toNat < S15000.size a)
theorem k0_idx25_inb : ∀ (v131 : IVec S16 32) (k0_hw25 : k0_chk25 v131), ∀ a x, ((![v131] : Fin 1 → IVec S16 32) a x).toNat < S15000.size a := fun v131 k0_hw25 => k0_hw25

def k0_chk26 (v133 : IVec S16 32) : Prop :=
  (∀ a x, ((![v133] : Fin 1 → IVec S16 32) a x).toNat < S15000.size a)
theorem k0_idx26_inb : ∀ (v133 : IVec S16 32) (k0_hw26 : k0_chk26 v133), ∀ a x, ((![v133] : Fin 1 → IVec S16 32) a x).toNat < S15000.size a := fun v133 k0_hw26 => k0_hw26

def k0_chk27 (v135 : IVec S16 32) : Prop :=
  (∀ a x, ((![v135] : Fin 1 → IVec S16 32) a x).toNat < S15200.size a)
theorem k0_idx27_inb : ∀ (v135 : IVec S16 32) (k0_hw27 : k0_chk27 v135), ∀ a x, ((![v135] : Fin 1 → IVec S16 32) a x).toNat < S15200.size a := fun v135 k0_hw27 => k0_hw27

def k0_chk28 (v142 : IVec S16 32) : Prop :=
  (∀ a x, ((![v142] : Fin 1 → IVec S16 32) a x).toNat < S15000.size a)
theorem k0_idx28_inb : ∀ (v142 : IVec S16 32) (k0_hw28 : k0_chk28 v142), ∀ a x, ((![v142] : Fin 1 → IVec S16 32) a x).toNat < S15000.size a := fun v142 k0_hw28 => k0_hw28

def k0_chk29 (v144 : IVec S16 32) : Prop :=
  (∀ a x, ((![v144] : Fin 1 → IVec S16 32) a x).toNat < S15000.size a)
theorem k0_idx29_inb : ∀ (v144 : IVec S16 32) (k0_hw29 : k0_chk29 v144), ∀ a x, ((![v144] : Fin 1 → IVec S16 32) a x).toNat < S15000.size a := fun v144 k0_hw29 => k0_hw29

def k0_chk30 (v146 : IVec S16 32) : Prop :=
  (∀ a x, ((![v146] : Fin 1 → IVec S16 32) a x).toNat < S15200.size a)
theorem k0_idx30_inb : ∀ (v146 : IVec S16 32) (k0_hw30 : k0_chk30 v146), ∀ a x, ((![v146] : Fin 1 → IVec S16 32) a x).toNat < S15200.size a := fun v146 k0_hw30 => k0_hw30

def k0_chk31 (v153 : IVec S16 32) : Prop :=
  (∀ a x, ((![v153] : Fin 1 → IVec S16 32) a x).toNat < S15000.size a)
theorem k0_idx31_inb : ∀ (v153 : IVec S16 32) (k0_hw31 : k0_chk31 v153), ∀ a x, ((![v153] : Fin 1 → IVec S16 32) a x).toNat < S15000.size a := fun v153 k0_hw31 => k0_hw31

def k0_chk32 (v155 : IVec S16 32) : Prop :=
  (∀ a x, ((![v155] : Fin 1 → IVec S16 32) a x).toNat < S15000.size a)
theorem k0_idx32_inb : ∀ (v155 : IVec S16 32) (k0_hw32 : k0_chk32 v155), ∀ a x, ((![v155] : Fin 1 → IVec S16 32) a x).toNat < S15000.size a := fun v155 k0_hw32 => k0_hw32

def k0_chk33 (v157 : IVec S16 32) : Prop :=
  (∀ a x, ((![v157] : Fin 1 → IVec S16 32) a x).toNat < S15200.size a)
theorem k0_idx33_inb : ∀ (v157 : IVec S16 32) (k0_hw33 : k0_chk33 v157), ∀ a x, ((![v157] : Fin 1 → IVec S16 32) a x).toNat < S15200.size a := fun v157 k0_hw33 => k0_hw33

def k0_chk34 (v164 : IVec S16 32) : Prop :=
  (∀ a x, ((![v164] : Fin 1 → IVec S16 32) a x).toNat < S15000.size a)
theorem k0_idx34_inb : ∀ (v164 : IVec S16 32) (k0_hw34 : k0_chk34 v164), ∀ a x, ((![v164] : Fin 1 → IVec S16 32) a x).toNat < S15000.size a := fun v164 k0_hw34 => k0_hw34

def k0_chk35 (v166 : IVec S16 32) : Prop :=
  (∀ a x, ((![v166] : Fin 1 → IVec S16 32) a x).toNat < S15000.size a)
theorem k0_idx35_inb : ∀ (v166 : IVec S16 32) (k0_hw35 : k0_chk35 v166), ∀ a x, ((![v166] : Fin 1 → IVec S16 32) a x).toNat < S15000.size a := fun v166 k0_hw35 => k0_hw35

def k0_chk36 (v168 : IVec S16 32) : Prop :=
  (∀ a x, ((![v168] : Fin 1 → IVec S16 32) a x).toNat < S15200.size a)
theorem k0_idx36_inb : ∀ (v168 : IVec S16 32) (k0_hw36 : k0_chk36 v168), ∀ a x, ((![v168] : Fin 1 → IVec S16 32) a x).toNat < S15200.size a := fun v168 k0_hw36 => k0_hw36

def k0_chk37 (v175 : IVec S16 32) : Prop :=
  (∀ a x, ((![v175] : Fin 1 → IVec S16 32) a x).toNat < S15000.size a)
theorem k0_idx37_inb : ∀ (v175 : IVec S16 32) (k0_hw37 : k0_chk37 v175), ∀ a x, ((![v175] : Fin 1 → IVec S16 32) a x).toNat < S15000.size a := fun v175 k0_hw37 => k0_hw37

def k0_chk38 (v177 : IVec S16 32) : Prop :=
  (∀ a x, ((![v177] : Fin 1 → IVec S16 32) a x).toNat < S15000.size a)
theorem k0_idx38_inb : ∀ (v177 : IVec S16 32) (k0_hw38 : k0_chk38 v177), ∀ a x, ((![v177] : Fin 1 → IVec S16 32) a x).toNat < S15000.size a := fun v177 k0_hw38 => k0_hw38

def k0_chk39 (v179 : IVec S16 32) : Prop :=
  (∀ a x, ((![v179] : Fin 1 → IVec S16 32) a x).toNat < S15200.size a)
theorem k0_idx39_inb : ∀ (v179 : IVec S16 32) (k0_hw39 : k0_chk39 v179), ∀ a x, ((![v179] : Fin 1 → IVec S16 32) a x).toNat < S15200.size a := fun v179 k0_hw39 => k0_hw39

def k0_chk40 (v186 : IVec S16 32) : Prop :=
  (∀ a x, ((![v186] : Fin 1 → IVec S16 32) a x).toNat < S15000.size a)
theorem k0_idx40_inb : ∀ (v186 : IVec S16 32) (k0_hw40 : k0_chk40 v186), ∀ a x, ((![v186] : Fin 1 → IVec S16 32) a x).toNat < S15000.size a := fun v186 k0_hw40 => k0_hw40

def k0_chk41 (v188 : IVec S16 32) : Prop :=
  (∀ a x, ((![v188] : Fin 1 → IVec S16 32) a x).toNat < S15000.size a)
theorem k0_idx41_inb : ∀ (v188 : IVec S16 32) (k0_hw41 : k0_chk41 v188), ∀ a x, ((![v188] : Fin 1 → IVec S16 32) a x).toNat < S15000.size a := fun v188 k0_hw41 => k0_hw41

def k0_chk42 (v190 : IVec S16 32) : Prop :=
  (∀ a x, ((![v190] : Fin 1 → IVec S16 32) a x).toNat < S15200.size a)
theorem k0_idx42_inb : ∀ (v190 : IVec S16 32) (k0_hw42 : k0_chk42 v190), ∀ a x, ((![v190] : Fin 1 → IVec S16 32) a x).toNat < S15200.size a := fun v190 k0_hw42 => k0_hw42

def k0_chk43 (v197 : IVec S16 32) : Prop :=
  (∀ a x, ((![v197] : Fin 1 → IVec S16 32) a x).toNat < S15000.size a)
theorem k0_idx43_inb : ∀ (v197 : IVec S16 32) (k0_hw43 : k0_chk43 v197), ∀ a x, ((![v197] : Fin 1 → IVec S16 32) a x).toNat < S15000.size a := fun v197 k0_hw43 => k0_hw43

def k0_chk44 (v199 : IVec S16 32) : Prop :=
  (∀ a x, ((![v199] : Fin 1 → IVec S16 32) a x).toNat < S15000.size a)
theorem k0_idx44_inb : ∀ (v199 : IVec S16 32) (k0_hw44 : k0_chk44 v199), ∀ a x, ((![v199] : Fin 1 → IVec S16 32) a x).toNat < S15000.size a := fun v199 k0_hw44 => k0_hw44

def k0_chk45 (v201 : IVec S16 32) : Prop :=
  (∀ a x, ((![v201] : Fin 1 → IVec S16 32) a x).toNat < S15200.size a)
theorem k0_idx45_inb : ∀ (v201 : IVec S16 32) (k0_hw45 : k0_chk45 v201), ∀ a x, ((![v201] : Fin 1 → IVec S16 32) a x).toNat < S15200.size a := fun v201 k0_hw45 => k0_hw45

def k0_chk46 (v208 : IVec S16 32) : Prop :=
  (∀ a x, ((![v208] : Fin 1 → IVec S16 32) a x).toNat < S15000.size a)
theorem k0_idx46_inb : ∀ (v208 : IVec S16 32) (k0_hw46 : k0_chk46 v208), ∀ a x, ((![v208] : Fin 1 → IVec S16 32) a x).toNat < S15000.size a := fun v208 k0_hw46 => k0_hw46

def k0_chk47 (v210 : IVec S16 32) : Prop :=
  (∀ a x, ((![v210] : Fin 1 → IVec S16 32) a x).toNat < S15000.size a)
theorem k0_idx47_inb : ∀ (v210 : IVec S16 32) (k0_hw47 : k0_chk47 v210), ∀ a x, ((![v210] : Fin 1 → IVec S16 32) a x).toNat < S15000.size a := fun v210 k0_hw47 => k0_hw47

def k0_chk48 (v212 : IVec S16 32) : Prop :=
  (∀ a x, ((![v212] : Fin 1 → IVec S16 32) a x).toNat < S15200.size a)
theorem k0_idx48_inb : ∀ (v212 : IVec S16 32) (k0_hw48 : k0_chk48 v212), ∀ a x, ((![v212] : Fin 1 → IVec S16 32) a x).toNat < S15200.size a := fun v212 k0_hw48 => k0_hw48

def k0_chk49 (v219 : IVec S16 32) : Prop :=
  (∀ a x, ((![v219] : Fin 1 → IVec S16 32) a x).toNat < S15000.size a)
theorem k0_idx49_inb : ∀ (v219 : IVec S16 32) (k0_hw49 : k0_chk49 v219), ∀ a x, ((![v219] : Fin 1 → IVec S16 32) a x).toNat < S15000.size a := fun v219 k0_hw49 => k0_hw49

def k0_chk50 (v221 : IVec S16 32) : Prop :=
  (∀ a x, ((![v221] : Fin 1 → IVec S16 32) a x).toNat < S15000.size a)
theorem k0_idx50_inb : ∀ (v221 : IVec S16 32) (k0_hw50 : k0_chk50 v221), ∀ a x, ((![v221] : Fin 1 → IVec S16 32) a x).toNat < S15000.size a := fun v221 k0_hw50 => k0_hw50

def k0_chk51 (v223 : IVec S16 32) : Prop :=
  (∀ a x, ((![v223] : Fin 1 → IVec S16 32) a x).toNat < S15200.size a)
theorem k0_idx51_inb : ∀ (v223 : IVec S16 32) (k0_hw51 : k0_chk51 v223), ∀ a x, ((![v223] : Fin 1 → IVec S16 32) a x).toNat < S15200.size a := fun v223 k0_hw51 => k0_hw51

def k0_chk52 (v230 : IVec S16 32) : Prop :=
  (∀ a x, ((![v230] : Fin 1 → IVec S16 32) a x).toNat < S15000.size a)
theorem k0_idx52_inb : ∀ (v230 : IVec S16 32) (k0_hw52 : k0_chk52 v230), ∀ a x, ((![v230] : Fin 1 → IVec S16 32) a x).toNat < S15000.size a := fun v230 k0_hw52 => k0_hw52

def k0_chk53 (v232 : IVec S16 32) : Prop :=
  (∀ a x, ((![v232] : Fin 1 → IVec S16 32) a x).toNat < S15000.size a)
theorem k0_idx53_inb : ∀ (v232 : IVec S16 32) (k0_hw53 : k0_chk53 v232), ∀ a x, ((![v232] : Fin 1 → IVec S16 32) a x).toNat < S15000.size a := fun v232 k0_hw53 => k0_hw53

def k0_chk54 (v234 : IVec S16 32) : Prop :=
  (∀ a x, ((![v234] : Fin 1 → IVec S16 32) a x).toNat < S15200.size a)
theorem k0_idx54_inb : ∀ (v234 : IVec S16 32) (k0_hw54 : k0_chk54 v234), ∀ a x, ((![v234] : Fin 1 → IVec S16 32) a x).toNat < S15200.size a := fun v234 k0_hw54 => k0_hw54

def k0_chk55 (v241 : IVec S16 32) : Prop :=
  (∀ a x, ((![v241] : Fin 1 → IVec S16 32) a x).toNat < S15000.size a)
theorem k0_idx55_inb : ∀ (v241 : IVec S16 32) (k0_hw55 : k0_chk55 v241), ∀ a x, ((![v241] : Fin 1 → IVec S16 32) a x).toNat < S15000.size a := fun v241 k0_hw55 => k0_hw55

def k0_chk56 (v243 : IVec S16 32) : Prop :=
  (∀ a x, ((![v243] : Fin 1 → IVec S16 32) a x).toNat < S15000.size a)
theorem k0_idx56_inb : ∀ (v243 : IVec S16 32) (k0_hw56 : k0_chk56 v243), ∀ a x, ((![v243] : Fin 1 → IVec S16 32) a x).toNat < S15000.size a := fun v243 k0_hw56 => k0_hw56

def k0_chk57 (v245 : IVec S16 32) : Prop :=
  (∀ a x, ((![v245] : Fin 1 → IVec S16 32) a x).toNat < S15200.size a)
theorem k0_idx57_inb : ∀ (v245 : IVec S16 32) (k0_hw57 : k0_chk57 v245), ∀ a x, ((![v245] : Fin 1 → IVec S16 32) a x).toNat < S15200.size a := fun v245 k0_hw57 => k0_hw57

def k0_chk58 (v252 : IVec S16 32) : Prop :=
  (∀ a x, ((![v252] : Fin 1 → IVec S16 32) a x).toNat < S15000.size a)
theorem k0_idx58_inb : ∀ (v252 : IVec S16 32) (k0_hw58 : k0_chk58 v252), ∀ a x, ((![v252] : Fin 1 → IVec S16 32) a x).toNat < S15000.size a := fun v252 k0_hw58 => k0_hw58

def k0_chk59 (v254 : IVec S16 32) : Prop :=
  (∀ a x, ((![v254] : Fin 1 → IVec S16 32) a x).toNat < S15000.size a)
theorem k0_idx59_inb : ∀ (v254 : IVec S16 32) (k0_hw59 : k0_chk59 v254), ∀ a x, ((![v254] : Fin 1 → IVec S16 32) a x).toNat < S15000.size a := fun v254 k0_hw59 => k0_hw59

def k0_chk60 (v256 : IVec S16 32) : Prop :=
  (∀ a x, ((![v256] : Fin 1 → IVec S16 32) a x).toNat < S15200.size a)
theorem k0_idx60_inb : ∀ (v256 : IVec S16 32) (k0_hw60 : k0_chk60 v256), ∀ a x, ((![v256] : Fin 1 → IVec S16 32) a x).toNat < S15200.size a := fun v256 k0_hw60 => k0_hw60

def k0_chk61 (v263 : IVec S16 32) : Prop :=
  (∀ a x, ((![v263] : Fin 1 → IVec S16 32) a x).toNat < S15000.size a)
theorem k0_idx61_inb : ∀ (v263 : IVec S16 32) (k0_hw61 : k0_chk61 v263), ∀ a x, ((![v263] : Fin 1 → IVec S16 32) a x).toNat < S15000.size a := fun v263 k0_hw61 => k0_hw61

def k0_chk62 (v265 : IVec S16 32) : Prop :=
  (∀ a x, ((![v265] : Fin 1 → IVec S16 32) a x).toNat < S15000.size a)
theorem k0_idx62_inb : ∀ (v265 : IVec S16 32) (k0_hw62 : k0_chk62 v265), ∀ a x, ((![v265] : Fin 1 → IVec S16 32) a x).toNat < S15000.size a := fun v265 k0_hw62 => k0_hw62

def k0_chk63 (v267 : IVec S16 32) : Prop :=
  (∀ a x, ((![v267] : Fin 1 → IVec S16 32) a x).toNat < S15200.size a)
theorem k0_idx63_inb : ∀ (v267 : IVec S16 32) (k0_hw63 : k0_chk63 v267), ∀ a x, ((![v267] : Fin 1 → IVec S16 32) a x).toNat < S15200.size a := fun v267 k0_hw63 => k0_hw63

def k0_chk64 (v274 : IVec S16 32) : Prop :=
  (∀ a x, ((![v274] : Fin 1 → IVec S16 32) a x).toNat < S15000.size a)
theorem k0_idx64_inb : ∀ (v274 : IVec S16 32) (k0_hw64 : k0_chk64 v274), ∀ a x, ((![v274] : Fin 1 → IVec S16 32) a x).toNat < S15000.size a := fun v274 k0_hw64 => k0_hw64

def k0_chk65 (v276 : IVec S16 32) : Prop :=
  (∀ a x, ((![v276] : Fin 1 → IVec S16 32) a x).toNat < S15000.size a)
theorem k0_idx65_inb : ∀ (v276 : IVec S16 32) (k0_hw65 : k0_chk65 v276), ∀ a x, ((![v276] : Fin 1 → IVec S16 32) a x).toNat < S15000.size a := fun v276 k0_hw65 => k0_hw65

def k0_chk66 (v278 : IVec S16 32) : Prop :=
  (∀ a x, ((![v278] : Fin 1 → IVec S16 32) a x).toNat < S15200.size a)
theorem k0_idx66_inb : ∀ (v278 : IVec S16 32) (k0_hw66 : k0_chk66 v278), ∀ a x, ((![v278] : Fin 1 → IVec S16 32) a x).toNat < S15200.size a := fun v278 k0_hw66 => k0_hw66

def k0_chk67 (v285 : IVec S16 32) : Prop :=
  (∀ a x, ((![v285] : Fin 1 → IVec S16 32) a x).toNat < S15000.size a)
theorem k0_idx67_inb : ∀ (v285 : IVec S16 32) (k0_hw67 : k0_chk67 v285), ∀ a x, ((![v285] : Fin 1 → IVec S16 32) a x).toNat < S15000.size a := fun v285 k0_hw67 => k0_hw67

def k0_chk68 (v287 : IVec S16 32) : Prop :=
  (∀ a x, ((![v287] : Fin 1 → IVec S16 32) a x).toNat < S15000.size a)
theorem k0_idx68_inb : ∀ (v287 : IVec S16 32) (k0_hw68 : k0_chk68 v287), ∀ a x, ((![v287] : Fin 1 → IVec S16 32) a x).toNat < S15000.size a := fun v287 k0_hw68 => k0_hw68

def k0_chk69 (v289 : IVec S16 32) : Prop :=
  (∀ a x, ((![v289] : Fin 1 → IVec S16 32) a x).toNat < S15200.size a)
theorem k0_idx69_inb : ∀ (v289 : IVec S16 32) (k0_hw69 : k0_chk69 v289), ∀ a x, ((![v289] : Fin 1 → IVec S16 32) a x).toNat < S15200.size a := fun v289 k0_hw69 => k0_hw69

def k0_chk70 (v296 : IVec S16 32) : Prop :=
  (∀ a x, ((![v296] : Fin 1 → IVec S16 32) a x).toNat < S15000.size a)
theorem k0_idx70_inb : ∀ (v296 : IVec S16 32) (k0_hw70 : k0_chk70 v296), ∀ a x, ((![v296] : Fin 1 → IVec S16 32) a x).toNat < S15000.size a := fun v296 k0_hw70 => k0_hw70

def k0_chk71 (v298 : IVec S16 32) : Prop :=
  (∀ a x, ((![v298] : Fin 1 → IVec S16 32) a x).toNat < S15000.size a)
theorem k0_idx71_inb : ∀ (v298 : IVec S16 32) (k0_hw71 : k0_chk71 v298), ∀ a x, ((![v298] : Fin 1 → IVec S16 32) a x).toNat < S15000.size a := fun v298 k0_hw71 => k0_hw71

def k0_chk72 (v300 : IVec S16 32) : Prop :=
  (∀ a x, ((![v300] : Fin 1 → IVec S16 32) a x).toNat < S15200.size a)
theorem k0_idx72_inb : ∀ (v300 : IVec S16 32) (k0_hw72 : k0_chk72 v300), ∀ a x, ((![v300] : Fin 1 → IVec S16 32) a x).toNat < S15200.size a := fun v300 k0_hw72 => k0_hw72

def k0_chk73 (v307 : IVec S16 32) : Prop :=
  (∀ a x, ((![v307] : Fin 1 → IVec S16 32) a x).toNat < S15000.size a)
theorem k0_idx73_inb : ∀ (v307 : IVec S16 32) (k0_hw73 : k0_chk73 v307), ∀ a x, ((![v307] : Fin 1 → IVec S16 32) a x).toNat < S15000.size a := fun v307 k0_hw73 => k0_hw73

def k0_chk74 (v309 : IVec S16 32) : Prop :=
  (∀ a x, ((![v309] : Fin 1 → IVec S16 32) a x).toNat < S15000.size a)
theorem k0_idx74_inb : ∀ (v309 : IVec S16 32) (k0_hw74 : k0_chk74 v309), ∀ a x, ((![v309] : Fin 1 → IVec S16 32) a x).toNat < S15000.size a := fun v309 k0_hw74 => k0_hw74

def k0_chk75 (v311 : IVec S16 32) : Prop :=
  (∀ a x, ((![v311] : Fin 1 → IVec S16 32) a x).toNat < S15200.size a)
theorem k0_idx75_inb : ∀ (v311 : IVec S16 32) (k0_hw75 : k0_chk75 v311), ∀ a x, ((![v311] : Fin 1 → IVec S16 32) a x).toNat < S15200.size a := fun v311 k0_hw75 => k0_hw75

def k0_chk76 (v318 : IVec S16 32) : Prop :=
  (∀ a x, ((![v318] : Fin 1 → IVec S16 32) a x).toNat < S15000.size a)
theorem k0_idx76_inb : ∀ (v318 : IVec S16 32) (k0_hw76 : k0_chk76 v318), ∀ a x, ((![v318] : Fin 1 → IVec S16 32) a x).toNat < S15000.size a := fun v318 k0_hw76 => k0_hw76

def k0_chk77 (v320 : IVec S16 32) : Prop :=
  (∀ a x, ((![v320] : Fin 1 → IVec S16 32) a x).toNat < S15000.size a)
theorem k0_idx77_inb : ∀ (v320 : IVec S16 32) (k0_hw77 : k0_chk77 v320), ∀ a x, ((![v320] : Fin 1 → IVec S16 32) a x).toNat < S15000.size a := fun v320 k0_hw77 => k0_hw77

def k0_chk78 (v322 : IVec S16 32) : Prop :=
  (∀ a x, ((![v322] : Fin 1 → IVec S16 32) a x).toNat < S15200.size a)
theorem k0_idx78_inb : ∀ (v322 : IVec S16 32) (k0_hw78 : k0_chk78 v322), ∀ a x, ((![v322] : Fin 1 → IVec S16 32) a x).toNat < S15200.size a := fun v322 k0_hw78 => k0_hw78

def k0_chk79 (v329 : IVec S16 32) : Prop :=
  (∀ a x, ((![v329] : Fin 1 → IVec S16 32) a x).toNat < S15000.size a)
theorem k0_idx79_inb : ∀ (v329 : IVec S16 32) (k0_hw79 : k0_chk79 v329), ∀ a x, ((![v329] : Fin 1 → IVec S16 32) a x).toNat < S15000.size a := fun v329 k0_hw79 => k0_hw79

def k0_chk80 (v331 : IVec S16 32) : Prop :=
  (∀ a x, ((![v331] : Fin 1 → IVec S16 32) a x).toNat < S15000.size a)
theorem k0_idx80_inb : ∀ (v331 : IVec S16 32) (k0_hw80 : k0_chk80 v331), ∀ a x, ((![v331] : Fin 1 → IVec S16 32) a x).toNat < S15000.size a := fun v331 k0_hw80 => k0_hw80

def k0_chk81 (v333 : IVec S16 32) : Prop :=
  (∀ a x, ((![v333] : Fin 1 → IVec S16 32) a x).toNat < S15200.size a)
theorem k0_idx81_inb : ∀ (v333 : IVec S16 32) (k0_hw81 : k0_chk81 v333), ∀ a x, ((![v333] : Fin 1 → IVec S16 32) a x).toNat < S15200.size a := fun v333 k0_hw81 => k0_hw81

def k0_chk82 (v340 : IVec S16 32) : Prop :=
  (∀ a x, ((![v340] : Fin 1 → IVec S16 32) a x).toNat < S15000.size a)
theorem k0_idx82_inb : ∀ (v340 : IVec S16 32) (k0_hw82 : k0_chk82 v340), ∀ a x, ((![v340] : Fin 1 → IVec S16 32) a x).toNat < S15000.size a := fun v340 k0_hw82 => k0_hw82

def k0_chk83 (v342 : IVec S16 32) : Prop :=
  (∀ a x, ((![v342] : Fin 1 → IVec S16 32) a x).toNat < S15000.size a)
theorem k0_idx83_inb : ∀ (v342 : IVec S16 32) (k0_hw83 : k0_chk83 v342), ∀ a x, ((![v342] : Fin 1 → IVec S16 32) a x).toNat < S15000.size a := fun v342 k0_hw83 => k0_hw83

def k0_chk84 (v344 : IVec S16 32) : Prop :=
  (∀ a x, ((![v344] : Fin 1 → IVec S16 32) a x).toNat < S15200.size a)
theorem k0_idx84_inb : ∀ (v344 : IVec S16 32) (k0_hw84 : k0_chk84 v344), ∀ a x, ((![v344] : Fin 1 → IVec S16 32) a x).toNat < S15200.size a := fun v344 k0_hw84 => k0_hw84

def k0_chk85 (v351 : IVec S16 32) : Prop :=
  (∀ a x, ((![v351] : Fin 1 → IVec S16 32) a x).toNat < S15000.size a)
theorem k0_idx85_inb : ∀ (v351 : IVec S16 32) (k0_hw85 : k0_chk85 v351), ∀ a x, ((![v351] : Fin 1 → IVec S16 32) a x).toNat < S15000.size a := fun v351 k0_hw85 => k0_hw85

def k0_chk86 (v353 : IVec S16 32) : Prop :=
  (∀ a x, ((![v353] : Fin 1 → IVec S16 32) a x).toNat < S15000.size a)
theorem k0_idx86_inb : ∀ (v353 : IVec S16 32) (k0_hw86 : k0_chk86 v353), ∀ a x, ((![v353] : Fin 1 → IVec S16 32) a x).toNat < S15000.size a := fun v353 k0_hw86 => k0_hw86

def k0_chk87 (v355 : IVec S16 32) : Prop :=
  (∀ a x, ((![v355] : Fin 1 → IVec S16 32) a x).toNat < S15200.size a)
theorem k0_idx87_inb : ∀ (v355 : IVec S16 32) (k0_hw87 : k0_chk87 v355), ∀ a x, ((![v355] : Fin 1 → IVec S16 32) a x).toNat < S15200.size a := fun v355 k0_hw87 => k0_hw87

def k0_chk88 (v362 : IVec S16 32) : Prop :=
  (∀ a x, ((![v362] : Fin 1 → IVec S16 32) a x).toNat < S15000.size a)
theorem k0_idx88_inb : ∀ (v362 : IVec S16 32) (k0_hw88 : k0_chk88 v362), ∀ a x, ((![v362] : Fin 1 → IVec S16 32) a x).toNat < S15000.size a := fun v362 k0_hw88 => k0_hw88

def k0_chk89 (v364 : IVec S16 32) : Prop :=
  (∀ a x, ((![v364] : Fin 1 → IVec S16 32) a x).toNat < S15000.size a)
theorem k0_idx89_inb : ∀ (v364 : IVec S16 32) (k0_hw89 : k0_chk89 v364), ∀ a x, ((![v364] : Fin 1 → IVec S16 32) a x).toNat < S15000.size a := fun v364 k0_hw89 => k0_hw89

def k0_chk90 (v366 : IVec S16 32) : Prop :=
  (∀ a x, ((![v366] : Fin 1 → IVec S16 32) a x).toNat < S15200.size a)
theorem k0_idx90_inb : ∀ (v366 : IVec S16 32) (k0_hw90 : k0_chk90 v366), ∀ a x, ((![v366] : Fin 1 → IVec S16 32) a x).toNat < S15200.size a := fun v366 k0_hw90 => k0_hw90

def k0_chk91 (v373 : IVec S16 32) : Prop :=
  (∀ a x, ((![v373] : Fin 1 → IVec S16 32) a x).toNat < S15000.size a)
theorem k0_idx91_inb : ∀ (v373 : IVec S16 32) (k0_hw91 : k0_chk91 v373), ∀ a x, ((![v373] : Fin 1 → IVec S16 32) a x).toNat < S15000.size a := fun v373 k0_hw91 => k0_hw91

def k0_chk92 (v375 : IVec S16 32) : Prop :=
  (∀ a x, ((![v375] : Fin 1 → IVec S16 32) a x).toNat < S15000.size a)
theorem k0_idx92_inb : ∀ (v375 : IVec S16 32) (k0_hw92 : k0_chk92 v375), ∀ a x, ((![v375] : Fin 1 → IVec S16 32) a x).toNat < S15000.size a := fun v375 k0_hw92 => k0_hw92

def k0_chk93 (v377 : IVec S16 32) : Prop :=
  (∀ a x, ((![v377] : Fin 1 → IVec S16 32) a x).toNat < S15200.size a)
theorem k0_idx93_inb : ∀ (v377 : IVec S16 32) (k0_hw93 : k0_chk93 v377), ∀ a x, ((![v377] : Fin 1 → IVec S16 32) a x).toNat < S15200.size a := fun v377 k0_hw93 => k0_hw93

def k0_chk94 (v384 : IVec S16 32) : Prop :=
  (∀ a x, ((![v384] : Fin 1 → IVec S16 32) a x).toNat < S15000.size a)
theorem k0_idx94_inb : ∀ (v384 : IVec S16 32) (k0_hw94 : k0_chk94 v384), ∀ a x, ((![v384] : Fin 1 → IVec S16 32) a x).toNat < S15000.size a := fun v384 k0_hw94 => k0_hw94

def k0_chk95 (v386 : IVec S16 32) : Prop :=
  (∀ a x, ((![v386] : Fin 1 → IVec S16 32) a x).toNat < S15000.size a)
theorem k0_idx95_inb : ∀ (v386 : IVec S16 32) (k0_hw95 : k0_chk95 v386), ∀ a x, ((![v386] : Fin 1 → IVec S16 32) a x).toNat < S15000.size a := fun v386 k0_hw95 => k0_hw95

def k0_chk96 (v388 : IVec S16 32) : Prop :=
  (∀ a x, ((![v388] : Fin 1 → IVec S16 32) a x).toNat < S15200.size a)
theorem k0_idx96_inb : ∀ (v388 : IVec S16 32) (k0_hw96 : k0_chk96 v388), ∀ a x, ((![v388] : Fin 1 → IVec S16 32) a x).toNat < S15200.size a := fun v388 k0_hw96 => k0_hw96

def k0_chk97 (v395 : IVec S16 32) : Prop :=
  (∀ a x, ((![v395] : Fin 1 → IVec S16 32) a x).toNat < S15000.size a)
theorem k0_idx97_inb : ∀ (v395 : IVec S16 32) (k0_hw97 : k0_chk97 v395), ∀ a x, ((![v395] : Fin 1 → IVec S16 32) a x).toNat < S15000.size a := fun v395 k0_hw97 => k0_hw97

def k0_chk98 (v397 : IVec S16 32) : Prop :=
  (∀ a x, ((![v397] : Fin 1 → IVec S16 32) a x).toNat < S15000.size a)
theorem k0_idx98_inb : ∀ (v397 : IVec S16 32) (k0_hw98 : k0_chk98 v397), ∀ a x, ((![v397] : Fin 1 → IVec S16 32) a x).toNat < S15000.size a := fun v397 k0_hw98 => k0_hw98

def k0_chk99 (v399 : IVec S16 32) : Prop :=
  (∀ a x, ((![v399] : Fin 1 → IVec S16 32) a x).toNat < S15200.size a)
theorem k0_idx99_inb : ∀ (v399 : IVec S16 32) (k0_hw99 : k0_chk99 v399), ∀ a x, ((![v399] : Fin 1 → IVec S16 32) a x).toNat < S15200.size a := fun v399 k0_hw99 => k0_hw99

def k0_chk100 (v406 : IVec S16 32) : Prop :=
  (∀ a x, ((![v406] : Fin 1 → IVec S16 32) a x).toNat < S15000.size a)
theorem k0_idx100_inb : ∀ (v406 : IVec S16 32) (k0_hw100 : k0_chk100 v406), ∀ a x, ((![v406] : Fin 1 → IVec S16 32) a x).toNat < S15000.size a := fun v406 k0_hw100 => k0_hw100

def k0_chk101 (v408 : IVec S16 32) : Prop :=
  (∀ a x, ((![v408] : Fin 1 → IVec S16 32) a x).toNat < S15000.size a)
theorem k0_idx101_inb : ∀ (v408 : IVec S16 32) (k0_hw101 : k0_chk101 v408), ∀ a x, ((![v408] : Fin 1 → IVec S16 32) a x).toNat < S15000.size a := fun v408 k0_hw101 => k0_hw101

def k0_chk102 (v410 : IVec S16 32) : Prop :=
  (∀ a x, ((![v410] : Fin 1 → IVec S16 32) a x).toNat < S15200.size a)
theorem k0_idx102_inb : ∀ (v410 : IVec S16 32) (k0_hw102 : k0_chk102 v410), ∀ a x, ((![v410] : Fin 1 → IVec S16 32) a x).toNat < S15200.size a := fun v410 k0_hw102 => k0_hw102

def k0_chk103 (v417 : IVec S16 32) : Prop :=
  (∀ a x, ((![v417] : Fin 1 → IVec S16 32) a x).toNat < S15000.size a)
theorem k0_idx103_inb : ∀ (v417 : IVec S16 32) (k0_hw103 : k0_chk103 v417), ∀ a x, ((![v417] : Fin 1 → IVec S16 32) a x).toNat < S15000.size a := fun v417 k0_hw103 => k0_hw103

def k0_chk104 (v419 : IVec S16 32) : Prop :=
  (∀ a x, ((![v419] : Fin 1 → IVec S16 32) a x).toNat < S15000.size a)
theorem k0_idx104_inb : ∀ (v419 : IVec S16 32) (k0_hw104 : k0_chk104 v419), ∀ a x, ((![v419] : Fin 1 → IVec S16 32) a x).toNat < S15000.size a := fun v419 k0_hw104 => k0_hw104

def k0_chk105 (v421 : IVec S16 32) : Prop :=
  (∀ a x, ((![v421] : Fin 1 → IVec S16 32) a x).toNat < S15200.size a)
theorem k0_idx105_inb : ∀ (v421 : IVec S16 32) (k0_hw105 : k0_chk105 v421), ∀ a x, ((![v421] : Fin 1 → IVec S16 32) a x).toNat < S15200.size a := fun v421 k0_hw105 => k0_hw105

def k0_chk106 (v428 : IVec S16 32) : Prop :=
  (∀ a x, ((![v428] : Fin 1 → IVec S16 32) a x).toNat < S15000.size a)
theorem k0_idx106_inb : ∀ (v428 : IVec S16 32) (k0_hw106 : k0_chk106 v428), ∀ a x, ((![v428] : Fin 1 → IVec S16 32) a x).toNat < S15000.size a := fun v428 k0_hw106 => k0_hw106

def k0_chk107 (v430 : IVec S16 32) : Prop :=
  (∀ a x, ((![v430] : Fin 1 → IVec S16 32) a x).toNat < S15000.size a)
theorem k0_idx107_inb : ∀ (v430 : IVec S16 32) (k0_hw107 : k0_chk107 v430), ∀ a x, ((![v430] : Fin 1 → IVec S16 32) a x).toNat < S15000.size a := fun v430 k0_hw107 => k0_hw107

def k0_chk108 (v432 : IVec S16 32) : Prop :=
  (∀ a x, ((![v432] : Fin 1 → IVec S16 32) a x).toNat < S15200.size a)
theorem k0_idx108_inb : ∀ (v432 : IVec S16 32) (k0_hw108 : k0_chk108 v432), ∀ a x, ((![v432] : Fin 1 → IVec S16 32) a x).toNat < S15200.size a := fun v432 k0_hw108 => k0_hw108

def k0_chk109 (v439 : IVec S16 32) : Prop :=
  (∀ a x, ((![v439] : Fin 1 → IVec S16 32) a x).toNat < S15000.size a)
theorem k0_idx109_inb : ∀ (v439 : IVec S16 32) (k0_hw109 : k0_chk109 v439), ∀ a x, ((![v439] : Fin 1 → IVec S16 32) a x).toNat < S15000.size a := fun v439 k0_hw109 => k0_hw109

def k0_chk110 (v441 : IVec S16 32) : Prop :=
  (∀ a x, ((![v441] : Fin 1 → IVec S16 32) a x).toNat < S15000.size a)
theorem k0_idx110_inb : ∀ (v441 : IVec S16 32) (k0_hw110 : k0_chk110 v441), ∀ a x, ((![v441] : Fin 1 → IVec S16 32) a x).toNat < S15000.size a := fun v441 k0_hw110 => k0_hw110

def k0_chk111 (v443 : IVec S16 32) : Prop :=
  (∀ a x, ((![v443] : Fin 1 → IVec S16 32) a x).toNat < S15200.size a)
theorem k0_idx111_inb : ∀ (v443 : IVec S16 32) (k0_hw111 : k0_chk111 v443), ∀ a x, ((![v443] : Fin 1 → IVec S16 32) a x).toNat < S15200.size a := fun v443 k0_hw111 => k0_hw111

def k0_chk112 (v450 : IVec S16 32) : Prop :=
  (∀ a x, ((![v450] : Fin 1 → IVec S16 32) a x).toNat < S15000.size a)
theorem k0_idx112_inb : ∀ (v450 : IVec S16 32) (k0_hw112 : k0_chk112 v450), ∀ a x, ((![v450] : Fin 1 → IVec S16 32) a x).toNat < S15000.size a := fun v450 k0_hw112 => k0_hw112

def k0_chk113 (v452 : IVec S16 32) : Prop :=
  (∀ a x, ((![v452] : Fin 1 → IVec S16 32) a x).toNat < S15000.size a)
theorem k0_idx113_inb : ∀ (v452 : IVec S16 32) (k0_hw113 : k0_chk113 v452), ∀ a x, ((![v452] : Fin 1 → IVec S16 32) a x).toNat < S15000.size a := fun v452 k0_hw113 => k0_hw113

def k0_chk114 (v454 : IVec S16 32) : Prop :=
  (∀ a x, ((![v454] : Fin 1 → IVec S16 32) a x).toNat < S15200.size a)
theorem k0_idx114_inb : ∀ (v454 : IVec S16 32) (k0_hw114 : k0_chk114 v454), ∀ a x, ((![v454] : Fin 1 → IVec S16 32) a x).toNat < S15200.size a := fun v454 k0_hw114 => k0_hw114

def k0_chk115 (v461 : IVec S16 32) : Prop :=
  (∀ a x, ((![v461] : Fin 1 → IVec S16 32) a x).toNat < S15000.size a)
theorem k0_idx115_inb : ∀ (v461 : IVec S16 32) (k0_hw115 : k0_chk115 v461), ∀ a x, ((![v461] : Fin 1 → IVec S16 32) a x).toNat < S15000.size a := fun v461 k0_hw115 => k0_hw115

def k0_chk116 (v463 : IVec S16 32) : Prop :=
  (∀ a x, ((![v463] : Fin 1 → IVec S16 32) a x).toNat < S15000.size a)
theorem k0_idx116_inb : ∀ (v463 : IVec S16 32) (k0_hw116 : k0_chk116 v463), ∀ a x, ((![v463] : Fin 1 → IVec S16 32) a x).toNat < S15000.size a := fun v463 k0_hw116 => k0_hw116

def k0_chk117 (v465 : IVec S16 32) : Prop :=
  (∀ a x, ((![v465] : Fin 1 → IVec S16 32) a x).toNat < S15200.size a)
theorem k0_idx117_inb : ∀ (v465 : IVec S16 32) (k0_hw117 : k0_chk117 v465), ∀ a x, ((![v465] : Fin 1 → IVec S16 32) a x).toNat < S15200.size a := fun v465 k0_hw117 => k0_hw117

def k0_chk118 (v472 : IVec S16 32) : Prop :=
  (∀ a x, ((![v472] : Fin 1 → IVec S16 32) a x).toNat < S15000.size a)
theorem k0_idx118_inb : ∀ (v472 : IVec S16 32) (k0_hw118 : k0_chk118 v472), ∀ a x, ((![v472] : Fin 1 → IVec S16 32) a x).toNat < S15000.size a := fun v472 k0_hw118 => k0_hw118

def k0_chk119 (v474 : IVec S16 32) : Prop :=
  (∀ a x, ((![v474] : Fin 1 → IVec S16 32) a x).toNat < S15000.size a)
theorem k0_idx119_inb : ∀ (v474 : IVec S16 32) (k0_hw119 : k0_chk119 v474), ∀ a x, ((![v474] : Fin 1 → IVec S16 32) a x).toNat < S15000.size a := fun v474 k0_hw119 => k0_hw119

def k0_chk120 (v476 : IVec S16 32) : Prop :=
  (∀ a x, ((![v476] : Fin 1 → IVec S16 32) a x).toNat < S15200.size a)
theorem k0_idx120_inb : ∀ (v476 : IVec S16 32) (k0_hw120 : k0_chk120 v476), ∀ a x, ((![v476] : Fin 1 → IVec S16 32) a x).toNat < S15200.size a := fun v476 k0_hw120 => k0_hw120

def k0_chk121 (v483 : IVec S16 32) : Prop :=
  (∀ a x, ((![v483] : Fin 1 → IVec S16 32) a x).toNat < S15000.size a)
theorem k0_idx121_inb : ∀ (v483 : IVec S16 32) (k0_hw121 : k0_chk121 v483), ∀ a x, ((![v483] : Fin 1 → IVec S16 32) a x).toNat < S15000.size a := fun v483 k0_hw121 => k0_hw121

def k0_chk122 (v485 : IVec S16 32) : Prop :=
  (∀ a x, ((![v485] : Fin 1 → IVec S16 32) a x).toNat < S15000.size a)
theorem k0_idx122_inb : ∀ (v485 : IVec S16 32) (k0_hw122 : k0_chk122 v485), ∀ a x, ((![v485] : Fin 1 → IVec S16 32) a x).toNat < S15000.size a := fun v485 k0_hw122 => k0_hw122

def k0_chk123 (v487 : IVec S16 32) : Prop :=
  (∀ a x, ((![v487] : Fin 1 → IVec S16 32) a x).toNat < S15200.size a)
theorem k0_idx123_inb : ∀ (v487 : IVec S16 32) (k0_hw123 : k0_chk123 v487), ∀ a x, ((![v487] : Fin 1 → IVec S16 32) a x).toNat < S15200.size a := fun v487 k0_hw123 => k0_hw123

def k0_chk124 (v494 : IVec S16 32) : Prop :=
  (∀ a x, ((![v494] : Fin 1 → IVec S16 32) a x).toNat < S15000.size a)
theorem k0_idx124_inb : ∀ (v494 : IVec S16 32) (k0_hw124 : k0_chk124 v494), ∀ a x, ((![v494] : Fin 1 → IVec S16 32) a x).toNat < S15000.size a := fun v494 k0_hw124 => k0_hw124

def k0_chk125 (v496 : IVec S16 32) : Prop :=
  (∀ a x, ((![v496] : Fin 1 → IVec S16 32) a x).toNat < S15000.size a)
theorem k0_idx125_inb : ∀ (v496 : IVec S16 32) (k0_hw125 : k0_chk125 v496), ∀ a x, ((![v496] : Fin 1 → IVec S16 32) a x).toNat < S15000.size a := fun v496 k0_hw125 => k0_hw125

def k0_chk126 (v498 : IVec S16 32) : Prop :=
  (∀ a x, ((![v498] : Fin 1 → IVec S16 32) a x).toNat < S15200.size a)
theorem k0_idx126_inb : ∀ (v498 : IVec S16 32) (k0_hw126 : k0_chk126 v498), ∀ a x, ((![v498] : Fin 1 → IVec S16 32) a x).toNat < S15200.size a := fun v498 k0_hw126 => k0_hw126

def k0_chk127 (v505 : IVec S16 32) : Prop :=
  (∀ a x, ((![v505] : Fin 1 → IVec S16 32) a x).toNat < S15000.size a)
theorem k0_idx127_inb : ∀ (v505 : IVec S16 32) (k0_hw127 : k0_chk127 v505), ∀ a x, ((![v505] : Fin 1 → IVec S16 32) a x).toNat < S15000.size a := fun v505 k0_hw127 => k0_hw127

def k0_chk128 (v507 : IVec S16 32) : Prop :=
  (∀ a x, ((![v507] : Fin 1 → IVec S16 32) a x).toNat < S15000.size a)
theorem k0_idx128_inb : ∀ (v507 : IVec S16 32) (k0_hw128 : k0_chk128 v507), ∀ a x, ((![v507] : Fin 1 → IVec S16 32) a x).toNat < S15000.size a := fun v507 k0_hw128 => k0_hw128

def k0_chk129 (v509 : IVec S16 32) : Prop :=
  (∀ a x, ((![v509] : Fin 1 → IVec S16 32) a x).toNat < S15200.size a)
theorem k0_idx129_inb : ∀ (v509 : IVec S16 32) (k0_hw129 : k0_chk129 v509), ∀ a x, ((![v509] : Fin 1 → IVec S16 32) a x).toNat < S15200.size a := fun v509 k0_hw129 => k0_hw129

def k0_chk130 (v516 : IVec S16 32) : Prop :=
  (∀ a x, ((![v516] : Fin 1 → IVec S16 32) a x).toNat < S15000.size a)
theorem k0_idx130_inb : ∀ (v516 : IVec S16 32) (k0_hw130 : k0_chk130 v516), ∀ a x, ((![v516] : Fin 1 → IVec S16 32) a x).toNat < S15000.size a := fun v516 k0_hw130 => k0_hw130

def k0_chk131 (v518 : IVec S16 32) : Prop :=
  (∀ a x, ((![v518] : Fin 1 → IVec S16 32) a x).toNat < S15000.size a)
theorem k0_idx131_inb : ∀ (v518 : IVec S16 32) (k0_hw131 : k0_chk131 v518), ∀ a x, ((![v518] : Fin 1 → IVec S16 32) a x).toNat < S15000.size a := fun v518 k0_hw131 => k0_hw131

def k0_chk132 (v520 : IVec S16 32) : Prop :=
  (∀ a x, ((![v520] : Fin 1 → IVec S16 32) a x).toNat < S15200.size a)
theorem k0_idx132_inb : ∀ (v520 : IVec S16 32) (k0_hw132 : k0_chk132 v520), ∀ a x, ((![v520] : Fin 1 → IVec S16 32) a x).toNat < S15200.size a := fun v520 k0_hw132 => k0_hw132

def k0_chk133 (v527 : IVec S16 32) : Prop :=
  (∀ a x, ((![v527] : Fin 1 → IVec S16 32) a x).toNat < S15000.size a)
theorem k0_idx133_inb : ∀ (v527 : IVec S16 32) (k0_hw133 : k0_chk133 v527), ∀ a x, ((![v527] : Fin 1 → IVec S16 32) a x).toNat < S15000.size a := fun v527 k0_hw133 => k0_hw133

def k0_chk134 (v529 : IVec S16 32) : Prop :=
  (∀ a x, ((![v529] : Fin 1 → IVec S16 32) a x).toNat < S15000.size a)
theorem k0_idx134_inb : ∀ (v529 : IVec S16 32) (k0_hw134 : k0_chk134 v529), ∀ a x, ((![v529] : Fin 1 → IVec S16 32) a x).toNat < S15000.size a := fun v529 k0_hw134 => k0_hw134

def k0_chk135 (v531 : IVec S16 32) : Prop :=
  (∀ a x, ((![v531] : Fin 1 → IVec S16 32) a x).toNat < S15200.size a)
theorem k0_idx135_inb : ∀ (v531 : IVec S16 32) (k0_hw135 : k0_chk135 v531), ∀ a x, ((![v531] : Fin 1 → IVec S16 32) a x).toNat < S15200.size a := fun v531 k0_hw135 => k0_hw135

def k0_chk136 (v538 : IVec S16 32) : Prop :=
  (∀ a x, ((![v538] : Fin 1 → IVec S16 32) a x).toNat < S15000.size a)
theorem k0_idx136_inb : ∀ (v538 : IVec S16 32) (k0_hw136 : k0_chk136 v538), ∀ a x, ((![v538] : Fin 1 → IVec S16 32) a x).toNat < S15000.size a := fun v538 k0_hw136 => k0_hw136

def k0_chk137 (v540 : IVec S16 32) : Prop :=
  (∀ a x, ((![v540] : Fin 1 → IVec S16 32) a x).toNat < S15000.size a)
theorem k0_idx137_inb : ∀ (v540 : IVec S16 32) (k0_hw137 : k0_chk137 v540), ∀ a x, ((![v540] : Fin 1 → IVec S16 32) a x).toNat < S15000.size a := fun v540 k0_hw137 => k0_hw137

def k0_chk138 (v542 : IVec S16 32) : Prop :=
  (∀ a x, ((![v542] : Fin 1 → IVec S16 32) a x).toNat < S15200.size a)
theorem k0_idx138_inb : ∀ (v542 : IVec S16 32) (k0_hw138 : k0_chk138 v542), ∀ a x, ((![v542] : Fin 1 → IVec S16 32) a x).toNat < S15200.size a := fun v542 k0_hw138 => k0_hw138

def k0_chk139 (v549 : IVec S16 32) : Prop :=
  (∀ a x, ((![v549] : Fin 1 → IVec S16 32) a x).toNat < S15000.size a)
theorem k0_idx139_inb : ∀ (v549 : IVec S16 32) (k0_hw139 : k0_chk139 v549), ∀ a x, ((![v549] : Fin 1 → IVec S16 32) a x).toNat < S15000.size a := fun v549 k0_hw139 => k0_hw139

def k0_chk140 (v551 : IVec S16 32) : Prop :=
  (∀ a x, ((![v551] : Fin 1 → IVec S16 32) a x).toNat < S15000.size a)
theorem k0_idx140_inb : ∀ (v551 : IVec S16 32) (k0_hw140 : k0_chk140 v551), ∀ a x, ((![v551] : Fin 1 → IVec S16 32) a x).toNat < S15000.size a := fun v551 k0_hw140 => k0_hw140

def k0_chk141 (v553 : IVec S16 32) : Prop :=
  (∀ a x, ((![v553] : Fin 1 → IVec S16 32) a x).toNat < S15200.size a)
theorem k0_idx141_inb : ∀ (v553 : IVec S16 32) (k0_hw141 : k0_chk141 v553), ∀ a x, ((![v553] : Fin 1 → IVec S16 32) a x).toNat < S15200.size a := fun v553 k0_hw141 => k0_hw141

def k0_chk142 (v560 : IVec S16 32) : Prop :=
  (∀ a x, ((![v560] : Fin 1 → IVec S16 32) a x).toNat < S15000.size a)
theorem k0_idx142_inb : ∀ (v560 : IVec S16 32) (k0_hw142 : k0_chk142 v560), ∀ a x, ((![v560] : Fin 1 → IVec S16 32) a x).toNat < S15000.size a := fun v560 k0_hw142 => k0_hw142

def k0_chk143 (v562 : IVec S16 32) : Prop :=
  (∀ a x, ((![v562] : Fin 1 → IVec S16 32) a x).toNat < S15000.size a)
theorem k0_idx143_inb : ∀ (v562 : IVec S16 32) (k0_hw143 : k0_chk143 v562), ∀ a x, ((![v562] : Fin 1 → IVec S16 32) a x).toNat < S15000.size a := fun v562 k0_hw143 => k0_hw143

def k0_chk144 (v564 : IVec S16 32) : Prop :=
  (∀ a x, ((![v564] : Fin 1 → IVec S16 32) a x).toNat < S15200.size a)
theorem k0_idx144_inb : ∀ (v564 : IVec S16 32) (k0_hw144 : k0_chk144 v564), ∀ a x, ((![v564] : Fin 1 → IVec S16 32) a x).toNat < S15200.size a := fun v564 k0_hw144 => k0_hw144

def k0_chk145 (v571 : IVec S16 32) : Prop :=
  (∀ a x, ((![v571] : Fin 1 → IVec S16 32) a x).toNat < S15000.size a)
theorem k0_idx145_inb : ∀ (v571 : IVec S16 32) (k0_hw145 : k0_chk145 v571), ∀ a x, ((![v571] : Fin 1 → IVec S16 32) a x).toNat < S15000.size a := fun v571 k0_hw145 => k0_hw145

def k0_chk146 (v573 : IVec S16 32) : Prop :=
  (∀ a x, ((![v573] : Fin 1 → IVec S16 32) a x).toNat < S15000.size a)
theorem k0_idx146_inb : ∀ (v573 : IVec S16 32) (k0_hw146 : k0_chk146 v573), ∀ a x, ((![v573] : Fin 1 → IVec S16 32) a x).toNat < S15000.size a := fun v573 k0_hw146 => k0_hw146

def k0_chk147 (v575 : IVec S16 32) : Prop :=
  (∀ a x, ((![v575] : Fin 1 → IVec S16 32) a x).toNat < S15200.size a)
theorem k0_idx147_inb : ∀ (v575 : IVec S16 32) (k0_hw147 : k0_chk147 v575), ∀ a x, ((![v575] : Fin 1 → IVec S16 32) a x).toNat < S15200.size a := fun v575 k0_hw147 => k0_hw147

def k0_chk148 (v582 : IVec S16 32) : Prop :=
  (∀ a x, ((![v582] : Fin 1 → IVec S16 32) a x).toNat < S15000.size a)
theorem k0_idx148_inb : ∀ (v582 : IVec S16 32) (k0_hw148 : k0_chk148 v582), ∀ a x, ((![v582] : Fin 1 → IVec S16 32) a x).toNat < S15000.size a := fun v582 k0_hw148 => k0_hw148

def k0_chk149 (v584 : IVec S16 32) : Prop :=
  (∀ a x, ((![v584] : Fin 1 → IVec S16 32) a x).toNat < S15000.size a)
theorem k0_idx149_inb : ∀ (v584 : IVec S16 32) (k0_hw149 : k0_chk149 v584), ∀ a x, ((![v584] : Fin 1 → IVec S16 32) a x).toNat < S15000.size a := fun v584 k0_hw149 => k0_hw149

def k0_chk150 (v586 : IVec S16 32) : Prop :=
  (∀ a x, ((![v586] : Fin 1 → IVec S16 32) a x).toNat < S15200.size a)
theorem k0_idx150_inb : ∀ (v586 : IVec S16 32) (k0_hw150 : k0_chk150 v586), ∀ a x, ((![v586] : Fin 1 → IVec S16 32) a x).toNat < S15200.size a := fun v586 k0_hw150 => k0_hw150
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S256x3x300x25x2 : Shape := ⟨5, ![256, 3, 300, 25, 2]⟩
abbrev S_ : Shape := ⟨0, ![]⟩
abbrev S1 : Shape := ⟨1, ![1]⟩
abbrev S2 : Shape := ⟨1, ![2]⟩
abbrev S256 : Shape := ⟨1, ![256]⟩
abbrev S300 : Shape := ⟨1, ![300]⟩
abbrev S1x300 : Shape := ⟨2, ![1, 300]⟩
abbrev S256x300 : Shape := ⟨2, ![256, 300]⟩
abbrev S256x1 : Shape := ⟨2, ![256, 1]⟩
abbrev S256x3x25x2x300 : Shape := ⟨5, ![256, 3, 25, 2, 300]⟩
abbrev S256x150x300 : Shape := ⟨3, ![256, 150, 300]⟩
abbrev S256x1x300 : Shape := ⟨3, ![256, 1, 300]⟩
abbrev S256x150x300x1 : Shape := ⟨4, ![256, 150, 300, 1]⟩
abbrev S1x1x1x1 : Shape := ⟨4, ![1, 1, 1, 1]⟩

abbrev nBuf : Space → Nat
  | .hbm => 357
  | .vmem => 0
  | .smem => 0
  | _ => 0

abbrev hbmTy0_0 (i : Nat) : BufTy := match i % 128 with
  | 0 => ⟨S256x3x300x25x2, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1, .f32⟩
  | 16 => ⟨S1, .f32⟩
  | 17 => ⟨S1, .i32⟩
  | 18 => ⟨S_, .i32⟩
  | 19 => ⟨S1, .i32⟩
  | 20 => ⟨S_, .i32⟩
  | 21 => ⟨S256, .i64⟩
  | 22 => ⟨S_, .i64⟩
  | 23 => ⟨S256, .i64⟩
  | 24 => ⟨S256, .i64⟩
  | 25 => ⟨S_, .i64⟩
  | 26 => ⟨S256, .i64⟩
  | 27 => ⟨S256, .i64⟩
  | 28 => ⟨S256, .i32⟩
  | 29 => ⟨S256, .i32⟩
  | 30 => ⟨S_, .i32⟩
  | 31 => ⟨S_, .i32⟩
  | 32 => ⟨S_, .i32⟩
  | 33 => ⟨S256, .i32⟩
  | 34 => ⟨S256, .i32⟩
  | 35 => ⟨S256, .i32⟩
  | 36 => ⟨S256, .i32⟩
  | 37 => ⟨S256, .i32⟩
  | 38 => ⟨S_, .i32⟩
  | 39 => ⟨S256, .i32⟩
  | 40 => ⟨S256, .i32⟩
  | 41 => ⟨S_, .i32⟩
  | 42 => ⟨S256, .i32⟩
  | 43 => ⟨S256, .i32⟩
  | 44 => ⟨S256, .i32⟩
  | 45 => ⟨S256, .i32⟩
  | 46 => ⟨S256, .i32⟩
  | 47 => ⟨S_, .i32⟩
  | 48 => ⟨S256, .i32⟩
  | 49 => ⟨S256, .i32⟩
  | 50 => ⟨S_, .i32⟩
  | 51 => ⟨S256, .i32⟩
  | 52 => ⟨S256, .i32⟩
  | 53 => ⟨S256, .i32⟩
  | 54 => ⟨S256, .i32⟩
  | 55 => ⟨S256, .i32⟩
  | 56 => ⟨S_, .i32⟩
  | 57 => ⟨S256, .i32⟩
  | 58 => ⟨S256, .i32⟩
  | 59 => ⟨S_, .i32⟩
  | 60 => ⟨S256, .i32⟩
  | 61 => ⟨S256, .i32⟩
  | 62 => ⟨S256, .i32⟩
  | 63 => ⟨S256, .i32⟩
  | 64 => ⟨S256, .i32⟩
  | 65 => ⟨S_, .i32⟩
  | 66 => ⟨S256, .i32⟩
  | 67 => ⟨S256, .i32⟩
  | 68 => ⟨S_, .i32⟩
  | 69 => ⟨S256, .i32⟩
  | 70 => ⟨S256, .i32⟩
  | 71 => ⟨S256, .i32⟩
  | 72 => ⟨S256, .i32⟩
  | 73 => ⟨S256, .i32⟩
  | 74 => ⟨S256, .i32⟩
  | 75 => ⟨S256, .i32⟩
  | 76 => ⟨S256, .i32⟩
  | 77 => ⟨S_, .i32⟩
  | 78 => ⟨S256, .i32⟩
  | 79 => ⟨S256, .i32⟩
  | 80 => ⟨S256, .i32⟩
  | 81 => ⟨S_, .i32⟩
  | 82 => ⟨S256, .i32⟩
  | 83 => ⟨S256, .i32⟩
  | 84 => ⟨S_, .i32⟩
  | 85 => ⟨S256, .i32⟩
  | 86 => ⟨S256, .i32⟩
  | 87 => ⟨S256, .i32⟩
  | 88 => ⟨S256, .i32⟩
  | 89 => ⟨S256, .i32⟩
  | 90 => ⟨S_, .i32⟩
  | 91 => ⟨S256, .i32⟩
  | 92 => ⟨S256, .i32⟩
  | 93 => ⟨S_, .i32⟩
  | 94 => ⟨S256, .i32⟩
  | 95 => ⟨S256, .i32⟩
  | 96 => ⟨S256, .i32⟩
  | 97 => ⟨S256, .i32⟩
  | 98 => ⟨S256, .i32⟩
  | 99 => ⟨S_, .i32⟩
  | 100 => ⟨S256, .i32⟩
  | 101 => ⟨S256, .i32⟩
  | 102 => ⟨S_, .i32⟩
  | 103 => ⟨S256, .i32⟩
  | 104 => ⟨S256, .i32⟩
  | 105 => ⟨S256, .i32⟩
  | 106 => ⟨S256, .i32⟩
  | 107 => ⟨S256, .i32⟩
  | 108 => ⟨S_, .i32⟩
  | 109 => ⟨S256, .i32⟩
  | 110 => ⟨S256, .i32⟩
  | 111 => ⟨S_, .i32⟩
  | 112 => ⟨S256, .i32⟩
  | 113 => ⟨S256, .i32⟩
  | 114 => ⟨S256, .i32⟩
  | 115 => ⟨S256, .i32⟩
  | 116 => ⟨S256, .i32⟩
  | 117 => ⟨S256, .i32⟩
  | 118 => ⟨S256, .i32⟩
  | 119 => ⟨S256, .i32⟩
  | 120 => ⟨S_, .i32⟩
  | 121 => ⟨S256, .i32⟩
  | 122 => ⟨S256, .i32⟩
  | 123 => ⟨S256, .i32⟩
  | 124 => ⟨S_, .i32⟩
  | 125 => ⟨S256, .i32⟩
  | 126 => ⟨S256, .i32⟩
  | 127 => ⟨S_, .i32⟩
  | _ => ⟨S256x3x300x25x2, .f32⟩

abbrev hbmTy0_1 (i : Nat) : BufTy := match i % 128 with
  | 0 => ⟨S256, .i32⟩
  | 1 => ⟨S256, .i32⟩
  | 2 => ⟨S256, .i32⟩
  | 3 => ⟨S256, .i32⟩
  | 4 => ⟨S256, .i32⟩
  | 5 => ⟨S_, .i32⟩
  | 6 => ⟨S256, .i32⟩
  | 7 => ⟨S256, .i32⟩
  | 8 => ⟨S_, .i32⟩
  | 9 => ⟨S256, .i32⟩
  | 10 => ⟨S256, .i32⟩
  | 11 => ⟨S256, .i32⟩
  | 12 => ⟨S256, .i32⟩
  | 13 => ⟨S256, .i32⟩
  | 14 => ⟨S_, .i32⟩
  | 15 => ⟨S256, .i32⟩
  | 16 => ⟨S256, .i32⟩
  | 17 => ⟨S_, .i32⟩
  | 18 => ⟨S256, .i32⟩
  | 19 => ⟨S256, .i32⟩
  | 20 => ⟨S256, .i32⟩
  | 21 => ⟨S256, .i32⟩
  | 22 => ⟨S256, .i32⟩
  | 23 => ⟨S_, .i32⟩
  | 24 => ⟨S256, .i32⟩
  | 25 => ⟨S256, .i32⟩
  | 26 => ⟨S_, .i32⟩
  | 27 => ⟨S256, .i32⟩
  | 28 => ⟨S256, .i32⟩
  | 29 => ⟨S256, .i32⟩
  | 30 => ⟨S256, .i32⟩
  | 31 => ⟨S256, .i32⟩
  | 32 => ⟨S256, .i32⟩
  | 33 => ⟨S256, .i32⟩
  | 34 => ⟨S256, .i32⟩
  | 35 => ⟨S_, .i32⟩
  | 36 => ⟨S256, .i32⟩
  | 37 => ⟨S256, .i32⟩
  | 38 => ⟨S256, .i32⟩
  | 39 => ⟨S_, .i32⟩
  | 40 => ⟨S256, .i32⟩
  | 41 => ⟨S256, .i32⟩
  | 42 => ⟨S_, .i32⟩
  | 43 => ⟨S256, .i32⟩
  | 44 => ⟨S256, .i32⟩
  | 45 => ⟨S256, .i32⟩
  | 46 => ⟨S256, .i32⟩
  | 47 => ⟨S256, .i32⟩
  | 48 => ⟨S_, .i32⟩
  | 49 => ⟨S256, .i32⟩
  | 50 => ⟨S256, .i32⟩
  | 51 => ⟨S_, .i32⟩
  | 52 => ⟨S256, .i32⟩
  | 53 => ⟨S256, .i32⟩
  | 54 => ⟨S256, .i32⟩
  | 55 => ⟨S256, .i32⟩
  | 56 => ⟨S256, .i32⟩
  | 57 => ⟨S_, .i32⟩
  | 58 => ⟨S256, .i32⟩
  | 59 => ⟨S256, .i32⟩
  | 60 => ⟨S_, .i32⟩
  | 61 => ⟨S256, .i32⟩
  | 62 => ⟨S256, .i32⟩
  | 63 => ⟨S256, .i32⟩
  | 64 => ⟨S256, .i32⟩
  | 65 => ⟨S256, .i32⟩
  | 66 => ⟨S_, .i32⟩
  | 67 => ⟨S256, .i32⟩
  | 68 => ⟨S256, .i32⟩
  | 69 => ⟨S_, .i32⟩
  | 70 => ⟨S256, .i32⟩
  | 71 => ⟨S256, .i32⟩
  | 72 => ⟨S256, .i32⟩
  | 73 => ⟨S256, .i32⟩
  | 74 => ⟨S256, .i32⟩
  | 75 => ⟨S256, .i32⟩
  | 76 => ⟨S256, .i32⟩
  | 77 => ⟨S256, .i32⟩
  | 78 => ⟨S_, .i32⟩
  | 79 => ⟨S256, .i32⟩
  | 80 => ⟨S256, .i32⟩
  | 81 => ⟨S256, .i32⟩
  | 82 => ⟨S_, .i32⟩
  | 83 => ⟨S256, .i32⟩
  | 84 => ⟨S256, .i32⟩
  | 85 => ⟨S_, .i32⟩
  | 86 => ⟨S256, .i32⟩
  | 87 => ⟨S256, .i32⟩
  | 88 => ⟨S256, .i32⟩
  | 89 => ⟨S256, .i32⟩
  | 90 => ⟨S256, .i32⟩
  | 91 => ⟨S_, .i32⟩
  | 92 => ⟨S256, .i32⟩
  | 93 => ⟨S256, .i32⟩
  | 94 => ⟨S_, .i32⟩
  | 95 => ⟨S256, .i32⟩
  | 96 => ⟨S256, .i32⟩
  | 97 => ⟨S256, .i32⟩
  | 98 => ⟨S256, .i32⟩
  | 99 => ⟨S256, .i32⟩
  | 100 => ⟨S_, .i32⟩
  | 101 => ⟨S256, .i32⟩
  | 102 => ⟨S256, .i32⟩
  | 103 => ⟨S_, .i32⟩
  | 104 => ⟨S256, .i32⟩
  | 105 => ⟨S256, .i32⟩
  | 106 => ⟨S256, .i32⟩
  | 107 => ⟨S256, .i32⟩
  | 108 => ⟨S256, .i32⟩
  | 109 => ⟨S_, .i32⟩
  | 110 => ⟨S256, .i32⟩
  | 111 => ⟨S256, .i32⟩
  | 112 => ⟨S_, .i32⟩
  | 113 => ⟨S256, .i32⟩
  | 114 => ⟨S256, .i32⟩
  | 115 => ⟨S256, .i32⟩
  | 116 => ⟨S256, .i32⟩
  | 117 => ⟨S256, .i32⟩
  | 118 => ⟨S256, .i32⟩
  | 119 => ⟨S256, .i32⟩
  | 120 => ⟨S256, .i32⟩
  | 121 => ⟨S_, .i32⟩
  | 122 => ⟨S256, .i32⟩
  | 123 => ⟨S256, .i32⟩
  | 124 => ⟨S256, .i32⟩
  | 125 => ⟨S_, .i32⟩
  | 126 => ⟨S256, .i32⟩
  | 127 => ⟨S256, .i32⟩
  | _ => ⟨S256x3x300x25x2, .f32⟩

abbrev hbmTy0_2 (i : Nat) : BufTy := match i % 128 with
  | 0 => ⟨S_, .i32⟩
  | 1 => ⟨S256, .i32⟩
  | 2 => ⟨S256, .i32⟩
  | 3 => ⟨S256, .f32⟩
  | 4 => ⟨S_, .f32⟩
  | 5 => ⟨S256, .f32⟩
  | 6 => ⟨S256, .f32⟩
  | 7 => ⟨S1, .f32⟩
  | 8 => ⟨S256, .f32⟩
  | 9 => ⟨S256, .f32⟩
  | 10 => ⟨S256, .f32⟩
  | 11 => ⟨S256, .f32⟩
  | 12 => ⟨S256, .f32⟩
  | 13 => ⟨S256, .f32⟩
  | 14 => ⟨S_, .f32⟩
  | 15 => ⟨S256, .f32⟩
  | 16 => ⟨S256, .f32⟩
  | 17 => ⟨S_, .f32⟩
  | 18 => ⟨S256, .f32⟩
  | 19 => ⟨S256, .f32⟩
  | 20 => ⟨S300, .f32⟩
  | 21 => ⟨S1x300, .f32⟩
  | 22 => ⟨S256x300, .f32⟩
  | 23 => ⟨S256x1, .f32⟩
  | 24 => ⟨S256x300, .f32⟩
  | 25 => ⟨S256x300, .f32⟩
  | 26 => ⟨S_, .f32⟩
  | 27 => ⟨S_, .f32⟩
  | 28 => ⟨S_, .f32⟩
  | 29 => ⟨S256x300, .f32⟩
  | 30 => ⟨S256x300, .f32⟩
  | 31 => ⟨S_, .f32⟩
  | 32 => ⟨S256x300, .f32⟩
  | 33 => ⟨S256x300, .f32⟩
  | 34 => ⟨S256x3x25x2x300, .f32⟩
  | 35 => ⟨S256x150x300, .f32⟩
  | 36 => ⟨S256x300, .f32⟩
  | 37 => ⟨S256x300, .i32⟩
  | 38 => ⟨S256x300, .f32⟩
  | 39 => ⟨S256x300, .i32⟩
  | 40 => ⟨S256x300, .f32⟩
  | 41 => ⟨S256x300, .f32⟩
  | 42 => ⟨S256x1x300, .f32⟩
  | 43 => ⟨S256x1x300, .i32⟩
  | 44 => ⟨S256x150x300, .i32⟩
  | 45 => ⟨S256x1x300, .i32⟩
  | 46 => ⟨S256x150x300, .i32⟩
  | 47 => ⟨S_, .i32⟩
  | 48 => ⟨S256x150x300, .i32⟩
  | 49 => ⟨S256x150x300, .i1⟩
  | 50 => ⟨S_, .i32⟩
  | 51 => ⟨S256x150x300, .i32⟩
  | 52 => ⟨S256x150x300, .i32⟩
  | 53 => ⟨S256x150x300, .i32⟩
  | 54 => ⟨S256x150x300x1, .i32⟩
  | 55 => ⟨S1, .i32⟩
  | 56 => ⟨S_, .i32⟩
  | 57 => ⟨S256x150x300x1, .i32⟩
  | 58 => ⟨S256x150x300x1, .i1⟩
  | 59 => ⟨S1x1x1x1, .i32⟩
  | 60 => ⟨S256x150x300x1, .i32⟩
  | 61 => ⟨S256x150x300x1, .i1⟩
  | 62 => ⟨S256x150x300x1, .i1⟩
  | 63 => ⟨S_, .i1⟩
  | 64 => ⟨S256x150x300, .i1⟩
  | 65 => ⟨S256x150x300, .f32⟩
  | 66 => ⟨S_, .f32⟩
  | 67 => ⟨S256x150x300, .f32⟩
  | 68 => ⟨S256x150x300, .f32⟩
  | 69 => ⟨S_, .i32⟩
  | 70 => ⟨S256x150x300, .i32⟩
  | 71 => ⟨S256x150x300, .i1⟩
  | 72 => ⟨S_, .i32⟩
  | 73 => ⟨S256x150x300, .i32⟩
  | 74 => ⟨S256x150x300, .i32⟩
  | 75 => ⟨S256x150x300, .i32⟩
  | 76 => ⟨S256x150x300x1, .i32⟩
  | 77 => ⟨S1, .i32⟩
  | 78 => ⟨S_, .i32⟩
  | 79 => ⟨S256x150x300x1, .i32⟩
  | 80 => ⟨S256x150x300x1, .i1⟩
  | 81 => ⟨S1x1x1x1, .i32⟩
  | 82 => ⟨S256x150x300x1, .i32⟩
  | 83 => ⟨S256x150x300x1, .i1⟩
  | 84 => ⟨S256x150x300x1, .i1⟩
  | 85 => ⟨S_, .i1⟩
  | 86 => ⟨S256x150x300, .i1⟩
  | 87 => ⟨S256x150x300, .f32⟩
  | 88 => ⟨S_, .f32⟩
  | 89 => ⟨S256x150x300, .f32⟩
  | 90 => ⟨S256x150x300, .f32⟩
  | 91 => ⟨S_, .f32⟩
  | 92 => ⟨S256x1x300, .f32⟩
  | 93 => ⟨S256x1x300, .f32⟩
  | 94 => ⟨S256x150x300, .f32⟩
  | 95 => ⟨S256x150x300, .f32⟩
  | 96 => ⟨S256x150x300, .f32⟩
  | 97 => ⟨S256x150x300, .f32⟩
  | 98 => ⟨S256x150x300, .f32⟩
  | 99 => ⟨S256x3x25x2x300, .f32⟩
  | 100 => ⟨S256x3x300x25x2, .f32⟩
  | _ => ⟨S256x3x300x25x2, .f32⟩

abbrev hbmTy (i : Nat) : BufTy := match i / 128 with
  | 0 => hbmTy0_0 i
  | 1 => hbmTy0_1 i
  | 2 => hbmTy0_2 i
  | _ => ⟨S256x3x300x25x2, .f32⟩

abbrev bufTy : (tb : Table) → Fin (tcTables nBuf tb) → BufTy
  | .hbm, ⟨i, _⟩ => hbmTy i
  | _, _ => ⟨S256x3x300x25x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_c_0 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_call0_v0 : Ref sig .tc := ⟨.hbm, 30, rfl⟩
abbrev main_call0_call0_c : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_c_0 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_c_1 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_call0_v12 : Ref sig .tc := ⟨.hbm, 45, rfl⟩
abbrev main_call0_call0_v13 : Ref sig .tc := ⟨.hbm, 46, rfl⟩
abbrev main_call0_call0_c_2 : Ref sig .tc := ⟨.hbm, 47, rfl⟩
abbrev main_call0_call0_v14 : Ref sig .tc := ⟨.hbm, 48, rfl⟩
abbrev main_call0_call0_v15 : Ref sig .tc := ⟨.hbm, 49, rfl⟩
abbrev main_call0_call0_c_3 : Ref sig .tc := ⟨.hbm, 50, rfl⟩
abbrev main_call0_call0_v16 : Ref sig .tc := ⟨.hbm, 51, rfl⟩
abbrev main_call0_call0_v17 : Ref sig .tc := ⟨.hbm, 52, rfl⟩
abbrev main_call0_call0_v18 : Ref sig .tc := ⟨.hbm, 53, rfl⟩
abbrev main_call0_call0_v19 : Ref sig .tc := ⟨.hbm, 54, rfl⟩
abbrev main_call0_call0_v20 : Ref sig .tc := ⟨.hbm, 55, rfl⟩
abbrev main_call0_call0_c_4 : Ref sig .tc := ⟨.hbm, 56, rfl⟩
abbrev main_call0_call0_v21 : Ref sig .tc := ⟨.hbm, 57, rfl⟩
abbrev main_call0_call0_v22 : Ref sig .tc := ⟨.hbm, 58, rfl⟩
abbrev main_call0_call0_c_5 : Ref sig .tc := ⟨.hbm, 59, rfl⟩
abbrev main_call0_call0_v23 : Ref sig .tc := ⟨.hbm, 60, rfl⟩
abbrev main_call0_call0_v24 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_v27 : Ref sig .tc := ⟨.hbm, 64, rfl⟩
abbrev main_call0_call0_c_6 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_c_7 : Ref sig .tc := ⟨.hbm, 68, rfl⟩
abbrev main_call0_call0_v30 : Ref sig .tc := ⟨.hbm, 69, rfl⟩
abbrev main_call0_call0_v31 : Ref sig .tc := ⟨.hbm, 70, rfl⟩
abbrev main_call0_call0_v32 : Ref sig .tc := ⟨.hbm, 71, rfl⟩
abbrev main_call0_call0_v33 : Ref sig .tc := ⟨.hbm, 72, rfl⟩
abbrev main_call0_call0_v34 : Ref sig .tc := ⟨.hbm, 73, rfl⟩
abbrev main_call0_call0_v35 : Ref sig .tc := ⟨.hbm, 74, rfl⟩
abbrev main_call0_call0_v36 : Ref sig .tc := ⟨.hbm, 75, rfl⟩
abbrev main_call0_call0_v37 : Ref sig .tc := ⟨.hbm, 76, rfl⟩
abbrev main_call0_call0_c_8 : Ref sig .tc := ⟨.hbm, 77, rfl⟩
abbrev main_call0_call0_v38 : Ref sig .tc := ⟨.hbm, 78, rfl⟩
abbrev main_call0_call0_v39 : Ref sig .tc := ⟨.hbm, 79, rfl⟩
abbrev main_call0_call0_v40 : Ref sig .tc := ⟨.hbm, 80, rfl⟩
abbrev main_call0_call0_c_9 : Ref sig .tc := ⟨.hbm, 81, rfl⟩
abbrev main_call0_call0_v41 : Ref sig .tc := ⟨.hbm, 82, rfl⟩
abbrev main_call0_call0_v42 : Ref sig .tc := ⟨.hbm, 83, rfl⟩
abbrev main_call0_call0_c_10 : Ref sig .tc := ⟨.hbm, 84, rfl⟩
abbrev main_call0_call0_v43 : Ref sig .tc := ⟨.hbm, 85, rfl⟩
abbrev main_call0_call0_v44 : Ref sig .tc := ⟨.hbm, 86, rfl⟩
abbrev main_call0_call0_v45 : Ref sig .tc := ⟨.hbm, 87, rfl⟩
abbrev main_call0_call0_v46 : Ref sig .tc := ⟨.hbm, 88, rfl⟩
abbrev main_call0_call0_v47 : Ref sig .tc := ⟨.hbm, 89, rfl⟩
abbrev main_call0_call0_c_11 : Ref sig .tc := ⟨.hbm, 90, rfl⟩
abbrev main_call0_call0_v48 : Ref sig .tc := ⟨.hbm, 91, rfl⟩
abbrev main_call0_call0_v49 : Ref sig .tc := ⟨.hbm, 92, rfl⟩
abbrev main_call0_call0_c_12 : Ref sig .tc := ⟨.hbm, 93, rfl⟩
abbrev main_call0_call0_v50 : Ref sig .tc := ⟨.hbm, 94, rfl⟩
abbrev main_call0_call0_v51 : Ref sig .tc := ⟨.hbm, 95, rfl⟩
abbrev main_call0_call0_v52 : Ref sig .tc := ⟨.hbm, 96, rfl⟩
abbrev main_call0_call0_v53 : Ref sig .tc := ⟨.hbm, 97, rfl⟩
abbrev main_call0_call0_v54 : Ref sig .tc := ⟨.hbm, 98, rfl⟩
abbrev main_call0_call0_c_13 : Ref sig .tc := ⟨.hbm, 99, rfl⟩
abbrev main_call0_call0_v55 : Ref sig .tc := ⟨.hbm, 100, rfl⟩
abbrev main_call0_call0_v56 : Ref sig .tc := ⟨.hbm, 101, rfl⟩
abbrev main_call0_call0_c_14 : Ref sig .tc := ⟨.hbm, 102, rfl⟩
abbrev main_call0_call0_v57 : Ref sig .tc := ⟨.hbm, 103, rfl⟩
abbrev main_call0_call0_v58 : Ref sig .tc := ⟨.hbm, 104, rfl⟩
abbrev main_call0_call0_v59 : Ref sig .tc := ⟨.hbm, 105, rfl⟩
abbrev main_call0_call0_v60 : Ref sig .tc := ⟨.hbm, 106, rfl⟩
abbrev main_call0_call0_v61 : Ref sig .tc := ⟨.hbm, 107, rfl⟩
abbrev main_call0_call0_c_15 : Ref sig .tc := ⟨.hbm, 108, rfl⟩
abbrev main_call0_call0_v62 : Ref sig .tc := ⟨.hbm, 109, rfl⟩
abbrev main_call0_call0_v63 : Ref sig .tc := ⟨.hbm, 110, rfl⟩
abbrev main_call0_call0_c_16 : Ref sig .tc := ⟨.hbm, 111, rfl⟩
abbrev main_call0_call0_v64 : Ref sig .tc := ⟨.hbm, 112, rfl⟩
abbrev main_call0_call0_v65 : Ref sig .tc := ⟨.hbm, 113, rfl⟩
abbrev main_call0_call0_v66 : Ref sig .tc := ⟨.hbm, 114, rfl⟩
abbrev main_call0_call0_v67 : Ref sig .tc := ⟨.hbm, 115, rfl⟩
abbrev main_call0_call0_v68 : Ref sig .tc := ⟨.hbm, 116, rfl⟩
abbrev main_call0_call0_v69 : Ref sig .tc := ⟨.hbm, 117, rfl⟩
abbrev main_call0_call0_v70 : Ref sig .tc := ⟨.hbm, 118, rfl⟩
abbrev main_call0_call0_v71 : Ref sig .tc := ⟨.hbm, 119, rfl⟩
abbrev main_call0_call0_c_17 : Ref sig .tc := ⟨.hbm, 120, rfl⟩
abbrev main_call0_call0_v72 : Ref sig .tc := ⟨.hbm, 121, rfl⟩
abbrev main_call0_call0_v73 : Ref sig .tc := ⟨.hbm, 122, rfl⟩
abbrev main_call0_call0_v74 : Ref sig .tc := ⟨.hbm, 123, rfl⟩
abbrev main_call0_call0_c_18 : Ref sig .tc := ⟨.hbm, 124, rfl⟩
abbrev main_call0_call0_v75 : Ref sig .tc := ⟨.hbm, 125, rfl⟩
abbrev main_call0_call0_v76 : Ref sig .tc := ⟨.hbm, 126, rfl⟩
abbrev main_call0_call0_c_19 : Ref sig .tc := ⟨.hbm, 127, rfl⟩
abbrev main_call0_call0_v77 : Ref sig .tc := ⟨.hbm, 128, rfl⟩
abbrev main_call0_call0_v78 : Ref sig .tc := ⟨.hbm, 129, rfl⟩
abbrev main_call0_call0_v79 : Ref sig .tc := ⟨.hbm, 130, rfl⟩
abbrev main_call0_call0_v80 : Ref sig .tc := ⟨.hbm, 131, rfl⟩
abbrev main_call0_call0_v81 : Ref sig .tc := ⟨.hbm, 132, rfl⟩
abbrev main_call0_call0_c_20 : Ref sig .tc := ⟨.hbm, 133, rfl⟩
abbrev main_call0_call0_v82 : Ref sig .tc := ⟨.hbm, 134, rfl⟩
abbrev main_call0_call0_v83 : Ref sig .tc := ⟨.hbm, 135, rfl⟩
abbrev main_call0_call0_c_21 : Ref sig .tc := ⟨.hbm, 136, rfl⟩
abbrev main_call0_call0_v84 : Ref sig .tc := ⟨.hbm, 137, rfl⟩
abbrev main_call0_call0_v85 : Ref sig .tc := ⟨.hbm, 138, rfl⟩
abbrev main_call0_call0_v86 : Ref sig .tc := ⟨.hbm, 139, rfl⟩
abbrev main_call0_call0_v87 : Ref sig .tc := ⟨.hbm, 140, rfl⟩
abbrev main_call0_call0_v88 : Ref sig .tc := ⟨.hbm, 141, rfl⟩
abbrev main_call0_call0_c_22 : Ref sig .tc := ⟨.hbm, 142, rfl⟩
abbrev main_call0_call0_v89 : Ref sig .tc := ⟨.hbm, 143, rfl⟩
abbrev main_call0_call0_v90 : Ref sig .tc := ⟨.hbm, 144, rfl⟩
abbrev main_call0_call0_c_23 : Ref sig .tc := ⟨.hbm, 145, rfl⟩
abbrev main_call0_call0_v91 : Ref sig .tc := ⟨.hbm, 146, rfl⟩
abbrev main_call0_call0_v92 : Ref sig .tc := ⟨.hbm, 147, rfl⟩
abbrev main_call0_call0_v93 : Ref sig .tc := ⟨.hbm, 148, rfl⟩
abbrev main_call0_call0_v94 : Ref sig .tc := ⟨.hbm, 149, rfl⟩
abbrev main_call0_call0_v95 : Ref sig .tc := ⟨.hbm, 150, rfl⟩
abbrev main_call0_call0_c_24 : Ref sig .tc := ⟨.hbm, 151, rfl⟩
abbrev main_call0_call0_v96 : Ref sig .tc := ⟨.hbm, 152, rfl⟩
abbrev main_call0_call0_v97 : Ref sig .tc := ⟨.hbm, 153, rfl⟩
abbrev main_call0_call0_c_25 : Ref sig .tc := ⟨.hbm, 154, rfl⟩
abbrev main_call0_call0_v98 : Ref sig .tc := ⟨.hbm, 155, rfl⟩
abbrev main_call0_call0_v99 : Ref sig .tc := ⟨.hbm, 156, rfl⟩
abbrev main_call0_call0_v100 : Ref sig .tc := ⟨.hbm, 157, rfl⟩
abbrev main_call0_call0_v101 : Ref sig .tc := ⟨.hbm, 158, rfl⟩
abbrev main_call0_call0_v102 : Ref sig .tc := ⟨.hbm, 159, rfl⟩
abbrev main_call0_call0_v103 : Ref sig .tc := ⟨.hbm, 160, rfl⟩
abbrev main_call0_call0_v104 : Ref sig .tc := ⟨.hbm, 161, rfl⟩
abbrev main_call0_call0_v105 : Ref sig .tc := ⟨.hbm, 162, rfl⟩
abbrev main_call0_call0_c_26 : Ref sig .tc := ⟨.hbm, 163, rfl⟩
abbrev main_call0_call0_v106 : Ref sig .tc := ⟨.hbm, 164, rfl⟩
abbrev main_call0_call0_v107 : Ref sig .tc := ⟨.hbm, 165, rfl⟩
abbrev main_call0_call0_v108 : Ref sig .tc := ⟨.hbm, 166, rfl⟩
abbrev main_call0_call0_c_27 : Ref sig .tc := ⟨.hbm, 167, rfl⟩
abbrev main_call0_call0_v109 : Ref sig .tc := ⟨.hbm, 168, rfl⟩
abbrev main_call0_call0_v110 : Ref sig .tc := ⟨.hbm, 169, rfl⟩
abbrev main_call0_call0_c_28 : Ref sig .tc := ⟨.hbm, 170, rfl⟩
abbrev main_call0_call0_v111 : Ref sig .tc := ⟨.hbm, 171, rfl⟩
abbrev main_call0_call0_v112 : Ref sig .tc := ⟨.hbm, 172, rfl⟩
abbrev main_call0_call0_v113 : Ref sig .tc := ⟨.hbm, 173, rfl⟩
abbrev main_call0_call0_v114 : Ref sig .tc := ⟨.hbm, 174, rfl⟩
abbrev main_call0_call0_v115 : Ref sig .tc := ⟨.hbm, 175, rfl⟩
abbrev main_call0_call0_c_29 : Ref sig .tc := ⟨.hbm, 176, rfl⟩
abbrev main_call0_call0_v116 : Ref sig .tc := ⟨.hbm, 177, rfl⟩
abbrev main_call0_call0_v117 : Ref sig .tc := ⟨.hbm, 178, rfl⟩
abbrev main_call0_call0_c_30 : Ref sig .tc := ⟨.hbm, 179, rfl⟩
abbrev main_call0_call0_v118 : Ref sig .tc := ⟨.hbm, 180, rfl⟩
abbrev main_call0_call0_v119 : Ref sig .tc := ⟨.hbm, 181, rfl⟩
abbrev main_call0_call0_v120 : Ref sig .tc := ⟨.hbm, 182, rfl⟩
abbrev main_call0_call0_v121 : Ref sig .tc := ⟨.hbm, 183, rfl⟩
abbrev main_call0_call0_v122 : Ref sig .tc := ⟨.hbm, 184, rfl⟩
abbrev main_call0_call0_c_31 : Ref sig .tc := ⟨.hbm, 185, rfl⟩
abbrev main_call0_call0_v123 : Ref sig .tc := ⟨.hbm, 186, rfl⟩
abbrev main_call0_call0_v124 : Ref sig .tc := ⟨.hbm, 187, rfl⟩
abbrev main_call0_call0_c_32 : Ref sig .tc := ⟨.hbm, 188, rfl⟩
abbrev main_call0_call0_v125 : Ref sig .tc := ⟨.hbm, 189, rfl⟩
abbrev main_call0_call0_v126 : Ref sig .tc := ⟨.hbm, 190, rfl⟩
abbrev main_call0_call0_v127 : Ref sig .tc := ⟨.hbm, 191, rfl⟩
abbrev main_call0_call0_v128 : Ref sig .tc := ⟨.hbm, 192, rfl⟩
abbrev main_call0_call0_v129 : Ref sig .tc := ⟨.hbm, 193, rfl⟩
abbrev main_call0_call0_c_33 : Ref sig .tc := ⟨.hbm, 194, rfl⟩
abbrev main_call0_call0_v130 : Ref sig .tc := ⟨.hbm, 195, rfl⟩
abbrev main_call0_call0_v131 : Ref sig .tc := ⟨.hbm, 196, rfl⟩
abbrev main_call0_call0_c_34 : Ref sig .tc := ⟨.hbm, 197, rfl⟩
abbrev main_call0_call0_v132 : Ref sig .tc := ⟨.hbm, 198, rfl⟩
abbrev main_call0_call0_v133 : Ref sig .tc := ⟨.hbm, 199, rfl⟩
abbrev main_call0_call0_v134 : Ref sig .tc := ⟨.hbm, 200, rfl⟩
abbrev main_call0_call0_v135 : Ref sig .tc := ⟨.hbm, 201, rfl⟩
abbrev main_call0_call0_v136 : Ref sig .tc := ⟨.hbm, 202, rfl⟩
abbrev main_call0_call0_v137 : Ref sig .tc := ⟨.hbm, 203, rfl⟩
abbrev main_call0_call0_v138 : Ref sig .tc := ⟨.hbm, 204, rfl⟩
abbrev main_call0_call0_v139 : Ref sig .tc := ⟨.hbm, 205, rfl⟩
abbrev main_call0_call0_c_35 : Ref sig .tc := ⟨.hbm, 206, rfl⟩
abbrev main_call0_call0_v140 : Ref sig .tc := ⟨.hbm, 207, rfl⟩
abbrev main_call0_call0_v141 : Ref sig .tc := ⟨.hbm, 208, rfl⟩
abbrev main_call0_call0_v142 : Ref sig .tc := ⟨.hbm, 209, rfl⟩
abbrev main_call0_call0_c_36 : Ref sig .tc := ⟨.hbm, 210, rfl⟩
abbrev main_call0_call0_v143 : Ref sig .tc := ⟨.hbm, 211, rfl⟩
abbrev main_call0_call0_v144 : Ref sig .tc := ⟨.hbm, 212, rfl⟩
abbrev main_call0_call0_c_37 : Ref sig .tc := ⟨.hbm, 213, rfl⟩
abbrev main_call0_call0_v145 : Ref sig .tc := ⟨.hbm, 214, rfl⟩
abbrev main_call0_call0_v146 : Ref sig .tc := ⟨.hbm, 215, rfl⟩
abbrev main_call0_call0_v147 : Ref sig .tc := ⟨.hbm, 216, rfl⟩
abbrev main_call0_call0_v148 : Ref sig .tc := ⟨.hbm, 217, rfl⟩
abbrev main_call0_call0_v149 : Ref sig .tc := ⟨.hbm, 218, rfl⟩
abbrev main_call0_call0_c_38 : Ref sig .tc := ⟨.hbm, 219, rfl⟩
abbrev main_call0_call0_v150 : Ref sig .tc := ⟨.hbm, 220, rfl⟩
abbrev main_call0_call0_v151 : Ref sig .tc := ⟨.hbm, 221, rfl⟩
abbrev main_call0_call0_c_39 : Ref sig .tc := ⟨.hbm, 222, rfl⟩
abbrev main_call0_call0_v152 : Ref sig .tc := ⟨.hbm, 223, rfl⟩
abbrev main_call0_call0_v153 : Ref sig .tc := ⟨.hbm, 224, rfl⟩
abbrev main_call0_call0_v154 : Ref sig .tc := ⟨.hbm, 225, rfl⟩
abbrev main_call0_call0_v155 : Ref sig .tc := ⟨.hbm, 226, rfl⟩
abbrev main_call0_call0_v156 : Ref sig .tc := ⟨.hbm, 227, rfl⟩
abbrev main_call0_call0_c_40 : Ref sig .tc := ⟨.hbm, 228, rfl⟩
abbrev main_call0_call0_v157 : Ref sig .tc := ⟨.hbm, 229, rfl⟩
abbrev main_call0_call0_v158 : Ref sig .tc := ⟨.hbm, 230, rfl⟩
abbrev main_call0_call0_c_41 : Ref sig .tc := ⟨.hbm, 231, rfl⟩
abbrev main_call0_call0_v159 : Ref sig .tc := ⟨.hbm, 232, rfl⟩
abbrev main_call0_call0_v160 : Ref sig .tc := ⟨.hbm, 233, rfl⟩
abbrev main_call0_call0_v161 : Ref sig .tc := ⟨.hbm, 234, rfl⟩
abbrev main_call0_call0_v162 : Ref sig .tc := ⟨.hbm, 235, rfl⟩
abbrev main_call0_call0_v163 : Ref sig .tc := ⟨.hbm, 236, rfl⟩
abbrev main_call0_call0_c_42 : Ref sig .tc := ⟨.hbm, 237, rfl⟩
abbrev main_call0_call0_v164 : Ref sig .tc := ⟨.hbm, 238, rfl⟩
abbrev main_call0_call0_v165 : Ref sig .tc := ⟨.hbm, 239, rfl⟩
abbrev main_call0_call0_c_43 : Ref sig .tc := ⟨.hbm, 240, rfl⟩
abbrev main_call0_call0_v166 : Ref sig .tc := ⟨.hbm, 241, rfl⟩
abbrev main_call0_call0_v167 : Ref sig .tc := ⟨.hbm, 242, rfl⟩
abbrev main_call0_call0_v168 : Ref sig .tc := ⟨.hbm, 243, rfl⟩
abbrev main_call0_call0_v169 : Ref sig .tc := ⟨.hbm, 244, rfl⟩
abbrev main_call0_call0_v170 : Ref sig .tc := ⟨.hbm, 245, rfl⟩
abbrev main_call0_v15_0 : Ref sig .tc := ⟨.hbm, 246, rfl⟩
abbrev main_call0_call0_v172 : Ref sig .tc := ⟨.hbm, 247, rfl⟩
abbrev main_call0_call0_v173 : Ref sig .tc := ⟨.hbm, 248, rfl⟩
abbrev main_call0_call0_c_44 : Ref sig .tc := ⟨.hbm, 249, rfl⟩
abbrev main_call0_call0_v174 : Ref sig .tc := ⟨.hbm, 250, rfl⟩
abbrev main_call0_v15_1 : Ref sig .tc := ⟨.hbm, 251, rfl⟩
abbrev main_call0_v16 : Ref sig .tc := ⟨.hbm, 252, rfl⟩
abbrev main_call0_c_1 : Ref sig .tc := ⟨.hbm, 253, rfl⟩
abbrev main_call0_v17 : Ref sig .tc := ⟨.hbm, 254, rfl⟩
abbrev main_call0_v18 : Ref sig .tc := ⟨.hbm, 255, rfl⟩
abbrev main_call0_c_2 : Ref sig .tc := ⟨.hbm, 256, rfl⟩
abbrev main_call0_v19 : Ref sig .tc := ⟨.hbm, 257, rfl⟩
abbrev main_call0_v20 : Ref sig .tc := ⟨.hbm, 258, rfl⟩
abbrev main_call0_v21 : Ref sig .tc := ⟨.hbm, 259, rfl⟩
abbrev main_call0_cst : Ref sig .tc := ⟨.hbm, 260, rfl⟩
abbrev main_call0_v22 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_v26 : Ref sig .tc := ⟨.hbm, 265, rfl⟩
abbrev main_call0_v27 : Ref sig .tc := ⟨.hbm, 266, rfl⟩
abbrev main_call0_v28 : Ref sig .tc := ⟨.hbm, 267, rfl⟩
abbrev main_call0_v29 : Ref sig .tc := ⟨.hbm, 268, rfl⟩
abbrev main_v7 : Ref sig .tc := ⟨.hbm, 269, rfl⟩
abbrev main_cst_3 : Ref sig .tc := ⟨.hbm, 270, rfl⟩
abbrev main_v8 : Ref sig .tc := ⟨.hbm, 271, rfl⟩
abbrev main_v9 : Ref sig .tc := ⟨.hbm, 272, rfl⟩
abbrev main_cst_4 : Ref sig .tc := ⟨.hbm, 273, rfl⟩
abbrev main_v10 : Ref sig .tc := ⟨.hbm, 274, rfl⟩
abbrev main_v11 : Ref sig .tc := ⟨.hbm, 275, rfl⟩
abbrev main_v12 : Ref sig .tc := ⟨.hbm, 276, rfl⟩
abbrev main_v13 : Ref sig .tc := ⟨.hbm, 277, rfl⟩
abbrev main_v14 : Ref sig .tc := ⟨.hbm, 278, rfl⟩
abbrev main_v15 : Ref sig .tc := ⟨.hbm, 279, rfl⟩
abbrev main_v16 : Ref sig .tc := ⟨.hbm, 280, rfl⟩
abbrev main_v17 : Ref sig .tc := ⟨.hbm, 281, rfl⟩
abbrev main_cst_5 : Ref sig .tc := ⟨.hbm, 282, rfl⟩
abbrev main_cst_6 : Ref sig .tc := ⟨.hbm, 283, rfl⟩
abbrev main_call1_v0 : Ref sig .tc := ⟨.hbm, 284, rfl⟩
abbrev main_call1_v1 : Ref sig .tc := ⟨.hbm, 285, rfl⟩
abbrev main_call1_v2 : Ref sig .tc := ⟨.hbm, 286, rfl⟩
abbrev main_call1_v3 : Ref sig .tc := ⟨.hbm, 287, rfl⟩
abbrev main_call1_v4 : Ref sig .tc := ⟨.hbm, 288, rfl⟩
abbrev main_v18 : Ref sig .tc := ⟨.hbm, 289, rfl⟩
abbrev main_v19 : Ref sig .tc := ⟨.hbm, 290, rfl⟩
abbrev main_v20 : Ref sig .tc := ⟨.hbm, 291, rfl⟩
abbrev main_v21 : Ref sig .tc := ⟨.hbm, 292, rfl⟩
abbrev main_v22 : Ref sig .tc := ⟨.hbm, 293, rfl⟩
abbrev main_v23 : Ref sig .tc := ⟨.hbm, 294, rfl⟩
abbrev main_v24 : Ref sig .tc := ⟨.hbm, 295, rfl⟩
abbrev main_v25 : Ref sig .tc := ⟨.hbm, 296, rfl⟩
abbrev main_v26 : Ref sig .tc := ⟨.hbm, 297, rfl⟩
abbrev main_v27 : Ref sig .tc := ⟨.hbm, 298, rfl⟩
abbrev main_v28 : Ref sig .tc := ⟨.hbm, 299, rfl⟩
abbrev main_v29 : Ref sig .tc := ⟨.hbm, 300, rfl⟩
abbrev main_v30 : Ref sig .tc := ⟨.hbm, 301, rfl⟩
abbrev main_v31 : Ref sig .tc := ⟨.hbm, 302, rfl⟩
abbrev main_call2_c : Ref sig .tc := ⟨.hbm, 303, rfl⟩
abbrev main_call2_v0 : Ref sig .tc := ⟨.hbm, 304, rfl⟩
abbrev main_call2_v1 : Ref sig .tc := ⟨.hbm, 305, rfl⟩
abbrev main_call2_c_0 : Ref sig .tc := ⟨.hbm, 306, rfl⟩
abbrev main_call2_v2 : Ref sig .tc := ⟨.hbm, 307, rfl⟩
abbrev main_call2_v3 : Ref sig .tc := ⟨.hbm, 308, rfl⟩
abbrev main_call2_v4 : Ref sig .tc := ⟨.hbm, 309, rfl⟩
abbrev main_call2_v5 : Ref sig .tc := ⟨.hbm, 310, rfl⟩
abbrev main_call2_c_1 : Ref sig .tc := ⟨.hbm, 311, rfl⟩
abbrev main_call2_c_2 : Ref sig .tc := ⟨.hbm, 312, rfl⟩
abbrev main_call2_v6 : Ref sig .tc := ⟨.hbm, 313, rfl⟩
abbrev main_call2_v7 : Ref sig .tc := ⟨.hbm, 314, rfl⟩
abbrev main_call2_v8 : Ref sig .tc := ⟨.hbm, 315, rfl⟩
abbrev main_call2_v9 : Ref sig .tc := ⟨.hbm, 316, rfl⟩
abbrev main_call2_v10 : Ref sig .tc := ⟨.hbm, 317, rfl⟩
abbrev main_call2_v11 : Ref sig .tc := ⟨.hbm, 318, rfl⟩
abbrev main_call2_c_3 : Ref sig .tc := ⟨.hbm, 319, rfl⟩
abbrev main_call2_v12 : Ref sig .tc := ⟨.hbm, 320, rfl⟩
abbrev main_call2_v13 : Ref sig .tc := ⟨.hbm, 321, rfl⟩
abbrev main_call2_cst : Ref sig .tc := ⟨.hbm, 322, rfl⟩
abbrev main_call2_v14 : Ref sig .tc := ⟨.hbm, 323, rfl⟩
abbrev main_v32 : Ref sig .tc := ⟨.hbm, 324, rfl⟩
abbrev main_call3_c : Ref sig .tc := ⟨.hbm, 325, rfl⟩
abbrev main_call3_v0 : Ref sig .tc := ⟨.hbm, 326, rfl⟩
abbrev main_call3_v1 : Ref sig .tc := ⟨.hbm, 327, rfl⟩
abbrev main_call3_c_0 : Ref sig .tc := ⟨.hbm, 328, rfl⟩
abbrev main_call3_v2 : Ref sig .tc := ⟨.hbm, 329, rfl⟩
abbrev main_call3_v3 : Ref sig .tc := ⟨.hbm, 330, rfl⟩
abbrev main_call3_v4 : Ref sig .tc := ⟨.hbm, 331, rfl⟩
abbrev main_call3_v5 : Ref sig .tc := ⟨.hbm, 332, rfl⟩
abbrev main_call3_c_1 : Ref sig .tc := ⟨.hbm, 333, rfl⟩
abbrev main_call3_c_2 : Ref sig .tc := ⟨.hbm, 334, rfl⟩
abbrev main_call3_v6 : Ref sig .tc := ⟨.hbm, 335, rfl⟩
abbrev main_call3_v7 : Ref sig .tc := ⟨.hbm, 336, rfl⟩
abbrev main_call3_v8 : Ref sig .tc := ⟨.hbm, 337, rfl⟩
abbrev main_call3_v9 : Ref sig .tc := ⟨.hbm, 338, rfl⟩
abbrev main_call3_v10 : Ref sig .tc := ⟨.hbm, 339, rfl⟩
abbrev main_call3_v11 : Ref sig .tc := ⟨.hbm, 340, rfl⟩
abbrev main_call3_c_3 : Ref sig .tc := ⟨.hbm, 341, rfl⟩
abbrev main_call3_v12 : Ref sig .tc := ⟨.hbm, 342, rfl⟩
abbrev main_call3_v13 : Ref sig .tc := ⟨.hbm, 343, rfl⟩
abbrev main_call3_cst : Ref sig .tc := ⟨.hbm, 344, rfl⟩
abbrev main_call3_v14 : Ref sig .tc := ⟨.hbm, 345, rfl⟩
abbrev main_v33 : Ref sig .tc := ⟨.hbm, 346, rfl⟩
abbrev main_cst_7 : Ref sig .tc := ⟨.hbm, 347, rfl⟩
abbrev main_v34 : Ref sig .tc := ⟨.hbm, 348, rfl⟩
abbrev main_v35 : Ref sig .tc := ⟨.hbm, 349, rfl⟩
abbrev main_v36 : Ref sig .tc := ⟨.hbm, 350, rfl⟩
abbrev main_v37 : Ref sig .tc := ⟨.hbm, 351, rfl⟩
abbrev main_v38 : Ref sig .tc := ⟨.hbm, 352, rfl⟩
abbrev main_v39 : Ref sig .tc := ⟨.hbm, 353, rfl⟩
abbrev main_v40 : Ref sig .tc := ⟨.hbm, 354, rfl⟩
abbrev main_v41 : Ref sig .tc := ⟨.hbm, 355, rfl⟩
abbrev main_v42 : Ref sig .tc := ⟨.hbm, 356, rfl⟩

abbrev nD : Nat := 1
abbrev τ : Topo := Topo.v7x

variable {F : FTy → Type} [FloatOps F]
-- ==== Proof.Words.lean ====
/-
  The arithmetic of one group of sixteen positions, free of any program: vectors of sixteen words as indices, what a
  scatter of sixteen lanes leaves in a rank-one buffer, and what `n` rounds of "gather two neighbours, blend, scatter,
  move on by one" have written.
-/
module

public import Idealize.ShloMosaic.Lib.SparseCore.Ops

@[expose] public section

noncomputable section

namespace Cert.Proof.Words

open Idealize.ShloMosaic

/-- The shape of a vector of `N` entries. -/
abbrev Row (N : ℕ) : Shape := ⟨1, ![N]⟩

/-- Entry `n` of a vector of `N`, counted round. -/
def cell (N : ℕ) [NeZero N] (n : ℕ) : (Row N).Idx := fun a => ⟨n % N, by
  rw [Fin.eq_zero a]; exact Nat.mod_lt _ (NeZero.pos N)⟩

/-- A cell's number. -/
theorem cell_val {N : ℕ} [NeZero N] {n : ℕ} (h : n < N) : (cell N n 0).val = n := Nat.mod_eq_of_lt h

/-- An index of a vector is its one number. -/
theorem idx_ext {N : ℕ} {i j : (Row N).Idx} (h : (i 0).val = (j 0).val) : i = j := by
  funext a; rw [Fin.eq_zero a]; exact Fin.ext h

/-- A cell is the one of its number. -/
theorem cell_eq {N : ℕ} [NeZero N] (j : (Row N).Idx) : cell N (j 0).val = j :=
  idx_ext (cell_val (j 0).isLt)

/-- A cell's number is below the row's length. -/
theorem idx_lt {N : ℕ} (j : (Row N).Idx) : (j 0).val < N := (j 0).isLt

instance : NeZero (15000 : ℕ) := ⟨by decide⟩
instance : NeZero (15200 : ℕ) := ⟨by decide⟩
instance : NeZero (608 : ℕ) := ⟨by decide⟩
instance : NeZero (11520000 : ℕ) := ⟨by decide⟩
instance : NeZero (155648 : ℕ) := ⟨by decide⟩

/-- A lane of 16. -/
abbrev Idx16 : Type := (Row 16).Idx

variable {F : FTy → Type} [FloatOps F]

/-! ## A scatter of sixteen lanes -/

section Scatter

variable (f : Vec F (Row 15200) .f32) (ob : IVec (Row 16) 32) (v : Vec F (Row 16) .f32)
  (h : ∀ a x, ((![ob] : Fin 1 → IVec (Row 16) 32) a x).toNat < (Row 15200).size a)

/-- One lane's store. -/
def put (g : Vec F (Row 15200) .f32) (k : Fin 16) : Vec F (Row 15200) .f32 :=
  fun j => if (j 0).val = (ob (Shape.ofLane k)).toNat then v (Shape.ofLane k) else g j

/-- An entry after one lane has been stored. -/
theorem put_apply (g : Vec F (Row 15200) .f32) (k : Fin 16) (j : (Row 15200).Idx) :
    put ob v g k j = if (j 0).val = (ob (Shape.ofLane k)).toNat then v (Shape.ofLane k) else g j := rfl

/-- An unmasked scatter is its lanes' stores, lowest lane first. -/
theorem storeIdx_eq : storeIdx f ![ob] v (fun _ => 1#1) false h = (List.finRange 16).foldl (put ob v) f := by
  unfold storeIdx
  congr 1
  funext g k
  have e : ((fun _ => 1#1 : IVec (Row 16) 1) (Shape.ofLane k)) = 1 := rfl
  simp only [Bool.false_eq_true, if_false]
  rw [if_pos e]
  funext j
  unfold put
  refine if_congr ⟨fun hj => hj 0, fun hj a => ?_⟩ rfl rfl
  rw [Fin.eq_zero a]; exact hj

/-- A cell that no lane stores to keeps its contents. -/
theorem fold_miss (j : (Row 15200).Idx) : ∀ (l : List (Fin 16)) (g : Vec F (Row 15200) .f32),
    (∀ k ∈ l, (j 0).val ≠ (ob (Shape.ofLane k)).toNat) → l.foldl (put ob v) g j = g j
  | [], _, _ => rfl
  | k :: l, g, hl => by
    rw [List.foldl_cons, fold_miss j l _ fun k' hk' => hl k' (List.mem_cons_of_mem _ hk'), put_apply,
      if_neg (hl k List.mem_cons_self)]

/-- A cell that one lane stores to holds what that lane stores. -/
theorem fold_hit (j : (Row 15200).Idx) (k : Fin 16) (hk : (j 0).val = (ob (Shape.ofLane k)).toNat)
    (inj : ∀ k', (ob (Shape.ofLane k)).toNat = (ob (Shape.ofLane k')).toNat → k = k') :
    ∀ (l : List (Fin 16)) (g : Vec F (Row 15200) .f32), k ∈ l → l.foldl (put ob v) g j = v (Shape.ofLane k)
  | [], _, hl => absurd hl List.not_mem_nil
  | k' :: l, g, hl => by
    rw [List.foldl_cons]
    by_cases hin : k ∈ l
    · exact fold_hit j k hk inj l _ hin
    · have e : k = k' := (List.mem_cons.mp hl).resolve_right hin
      subst e
      rw [fold_miss ob v j l _ fun k' hk' he => hin (inj k' (hk.symm.trans he) ▸ hk'), put_apply, if_pos hk]

/-- A lane is the one of its number. -/
theorem ofLane_eq (x : Idx16) : Shape.ofLane (d := ![16]) (x 0) = x := idx_ext rfl

/-- Where some lane stores, its value is found. -/
theorem storeIdx_hit (j : (Row 15200).Idx) (x : Idx16) (hx : (j 0).val = (ob x).toNat)
    (inj : ∀ y, (ob x).toNat = (ob y).toNat → x = y) : storeIdx f ![ob] v (fun _ => 1#1) false h j = v x := by
  rw [storeIdx_eq]
  have e := ofLane_eq x
  rw [fold_hit ob v j (x 0) (by rw [e]; exact hx) (fun k' hk' => ?_) _ f (List.mem_finRange _), e]
  rw [e] at hk'
  have := inj _ hk'
  rw [this]; rfl

/-- Where no lane stores, the old contents stay. -/
theorem storeIdx_miss (j : (Row 15200).Idx) (hx : ∀ x, (j 0).val ≠ (ob x).toNat) :
    storeIdx f ![ob] v (fun _ => 1#1) false h j = f j := by
  rw [storeIdx_eq]
  exact fold_miss ob v j _ f fun k _ => hx _

end Scatter

/-! ## Rounds -/

/-- All sixteen entries advance by one. -/
abbrev bump (v : IVec (Row 16) 32) : IVec (Row 16) 32 := addi v (broadcast (Row 16) 1#32)

/-- One more, where the word does not wrap. -/
theorem bump_toNat {v : IVec (Row 16) 32} {x : Idx16} (h : (v x).toNat < 2 ^ 31) : (bump v x).toNat = (v x).toNat + 1 := by
  show (v x + 1#32).toNat = _
  rw [BitVec.toNat_add]; simp; omega

/-- `a + w * (b - a)`, entry by entry. -/
abbrev blend (w a b : Vec F (Row 16) .f32) : Vec F (Row 16) .f32 := addf a (mulf w (subf b a))

/-- The entries of `s` found `k` after each of sixteen starts. -/
def taken (s : Vec F (Row 15000) .f32) (b : IVec (Row 16) 32) (k : ℕ) : Vec F (Row 16) .f32 :=
  fun x => s (cell 15000 ((b x).toNat + k))

/-- `n` more rounds stay inside the buffers, and no two lanes' stores meet. -/
structure Fits (n : ℕ) (bl br ob : IVec (Row 16) 32) : Prop where
  left : ∀ x, (bl x).toNat + n ≤ 15000
  right : ∀ x, (br x).toNat + n ≤ 15000
  out : ∀ x, (ob x).toNat + n ≤ 15200
  apart : ∀ x y, x ≠ y → (ob x).toNat + n ≤ (ob y).toNat ∨ (ob y).toNat + n ≤ (ob x).toNat

/-- Places with room for one more step have room after it. -/
theorem Fits.next {n : ℕ} {bl br ob : IVec (Row 16) 32} (h : Fits (n + 1) bl br ob) : Fits n (bump bl) (bump br) (bump ob) where
  left x := by have := h.left x; rw [bump_toNat (by omega)]; omega
  right x := by have := h.right x; rw [bump_toNat (by omega)]; omega
  out x := by have := h.out x; rw [bump_toNat (by omega)]; omega
  apart x y hxy := by
    have := h.out x; have := h.out y
    rw [bump_toNat (by omega), bump_toNat (by omega)]
    have := h.apart x y hxy; omega

/-- The left places are in the block. -/
theorem Fits.chkL {n : ℕ} {bl br ob : IVec (Row 16) 32} (h : Fits (n + 1) bl br ob) :
    ∀ a x, ((![bl] : Fin 1 → IVec (Row 16) 32) a x).toNat < (Row 15000).size a := fun a x => by
  rw [Fin.eq_zero a]; have := h.left x; exact (by omega : (bl x).toNat < 15000)
/-- The right places are in the block. -/
theorem Fits.chkR {n : ℕ} {bl br ob : IVec (Row 16) 32} (h : Fits (n + 1) bl br ob) :
    ∀ a x, ((![br] : Fin 1 → IVec (Row 16) 32) a x).toNat < (Row 15000).size a := fun a x => by
  rw [Fin.eq_zero a]; have := h.right x; exact (by omega : (br x).toNat < 15000)
/-- The output places are in the block. -/
theorem Fits.chkO {n : ℕ} {bl br ob : IVec (Row 16) 32} (h : Fits (n + 1) bl br ob) :
    ∀ a x, ((![ob] : Fin 1 → IVec (Row 16) 32) a x).toNat < (Row 15200).size a := fun a x => by
  rw [Fin.eq_zero a]; have := h.out x; exact (by omega : (ob x).toNat < 15200)

/-- `g` is `f` after `n` rounds: each lane's next `n` places hold its blends, and no other place has changed. -/
structure Written (s : Vec F (Row 15000) .f32) (w : Vec F (Row 16) .f32) (n : ℕ) (bl br ob : IVec (Row 16) 32)
    (f g : Vec F (Row 15200) .f32) : Prop where
  hit : ∀ x k, k < n → g (cell 15200 ((ob x).toNat + k)) = blend w (taken s bl k) (taken s br k) x
  miss : ∀ j, (∀ x k, k < n → (j 0).val ≠ (ob x).toNat + k) → g j = f j

/-- Before the first step nothing is written. -/
theorem Written.zero (s : Vec F (Row 15000) .f32) (w : Vec F (Row 16) .f32) (bl br ob : IVec (Row 16) 32)
    (f : Vec F (Row 15200) .f32) : Written s w 0 bl br ob f f :=
  ⟨fun _ k hk => absurd hk (Nat.not_lt_zero k), fun _ _ => rfl⟩

/-- What is taken after one more step. -/
theorem taken_bump (s : Vec F (Row 15000) .f32) (b : IVec (Row 16) 32) (k : ℕ) (x : Idx16) (h : (b x).toNat < 2 ^ 31) :
    taken s (bump b) k x = taken s b (k + 1) x := by
  unfold taken; rw [bump_toNat h, Nat.add_assoc, Nat.add_comm 1 k]

/-- A gather takes the entries at its places. -/
theorem loadIdx_taken (s : Vec F (Row 15000) .f32) (b : IVec (Row 16) 32)
    (h : ∀ a x, ((![b] : Fin 1 → IVec (Row 16) 32) a x).toNat < (Row 15000).size a) : loadIdx s ![b] h = taken s b 0 := by
  funext x
  refine congrArg s (idx_ext ?_)
  exact (cell_val (N := 15000) (h 0 x)).symm

/-- One round, then `n` more. -/
theorem Written.cons {s : Vec F (Row 15000) .f32} {w : Vec F (Row 16) .f32} {n : ℕ} {bl br ob : IVec (Row 16) 32}
    {f g : Vec F (Row 15200) .f32} (fit : Fits (n + 1) bl br ob)
    (h : Written s w n (bump bl) (bump br) (bump ob)
      (storeIdx f ![ob] (blend w (loadIdx s ![bl] fit.chkL) (loadIdx s ![br] fit.chkR)) (fun _ => 1#1) false fit.chkO) g) :
    Written s w (n + 1) bl br ob f g where
  hit x k hk := by
    have hl := fit.left x; have hr := fit.right x; have ho := fit.out x
    match k with
    | 0 =>
      have hv : (cell 15200 ((ob x).toNat + 0) 0).val = (ob x).toNat := cell_val (by omega)
      rw [h.miss _ fun y k' hk' he => ?_, storeIdx_hit _ _ _ _ _ x hv fun y hy => ?_, loadIdx_taken, loadIdx_taken]
      · by_contra hne; have := fit.apart x y hne; omega
      · have ho' := fit.out y
        rw [hv, bump_toNat (by omega)] at he
        by_cases hxy : x = y
        · subst hxy; omega
        · have := fit.apart x y hxy; omega
    | k + 1 =>
      have e := h.hit x k (by omega)
      rw [bump_toNat (by omega), Nat.add_assoc, Nat.add_comm 1 k] at e
      rw [e]
      show FloatOps.addf _ (FloatOps.mulf _ (FloatOps.subf _ _)) = FloatOps.addf _ (FloatOps.mulf _ (FloatOps.subf _ _))
      rw [taken_bump s bl k x (by omega), taken_bump s br k x (by omega)]
  miss j hj := by
    rw [h.miss j fun x k hk he => ?_]
    · exact storeIdx_miss _ _ _ _ j fun x => by simpa using hj x 0 (by omega)
    · have ho := fit.out x
      rw [bump_toNat (by omega)] at he
      exact hj x (k + 1) (by omega) (by omega)

/-! ## A group: sixteen rows of fifty places -/

section Group

variable (t : Vec F (Row 608) .f32) (s : Vec F (Row 15000) .f32)

/-- The frame to the left of position `p`, as the table's row says it. -/
def leftOf (p : ℕ) : ℕ := (FloatOps.fptosi (F := F) 32 (t (cell 608 p))).toNat
/-- The frame to its right, the last frame being its own neighbour. -/
def rightOf (p : ℕ) : ℕ := min (leftOf t p + 1) 299
/-- What position `p` receives at place `j`: the two neighbours blended by the row's weight. -/
def rowVal (p j : ℕ) : Elt F .f32 :=
  FloatOps.addf (F := F) (φ := .f32) (s (cell 15000 (leftOf t p * 50 + j)))
    (FloatOps.mulf (F := F) (φ := .f32) (t (cell 608 (304 + p)))
      (FloatOps.subf (F := F) (φ := .f32) (s (cell 15000 (rightOf t p * 50 + j))) (s (cell 15000 (leftOf t p * 50 + j)))))

/-- Every left frame the table's row names is one of the three hundred. -/
def InRange : Prop := ∀ p < 304, leftOf t p < 300

/-- The places of the first `16 * g` positions hold what they are to receive. -/
def Filled (g : ℕ) (f : Vec F (Row 15200) .f32) : Prop :=
  ∀ p < 16 * g, ∀ j < 50, f (cell 15200 (p * 50 + j)) = rowVal t s p j

/-- Before the first group nothing is filled. -/
theorem Filled.zero (f : Vec F (Row 15200) .f32) : Filled t s 0 f := fun p hp => absurd hp (by omega)

/-- Sixteen entries of the table's row from column `c`. -/
def cols (c : ℕ) : Vec F (Row 16) .f32 := fun x => t (cell 608 (c + (x 0).val))

/-- Where each lane's left frame starts in the block. -/
def leftIx (l : Vec F (Row 16) .f32) : IVec (Row 16) 32 := muli (fptosi 32 l) (broadcast (Row 16) 50#32)
/-- Where each lane's right frame starts in the block. -/
def rightIx (l : Vec F (Row 16) .f32) : IVec (Row 16) 32 :=
  muli (minsi (addi (fptosi 32 l) (broadcast (Row 16) 1#32)) (broadcast (Row 16) 299#32)) (broadcast (Row 16) 50#32)

variable {t s}

/-- The left place as a number. -/
theorem leftIx_toNat (c : ℕ) (x : Idx16) (h : leftOf t (c + (x 0).val) < 300) :
    (leftIx (cols t c) x).toNat = leftOf t (c + (x 0).val) * 50 := by
  show (FloatOps.fptosi (F := F) 32 (t (cell 608 (c + (x 0).val))) * 50#32).toNat = _
  unfold leftOf at h ⊢
  rw [BitVec.toNat_mul]
  simp only [BitVec.toNat_ofNat, Nat.reducePow, Nat.reduceMod]
  omega

/-- The next frame, at most the last, computed on words. -/
theorem min_word (a : BitVec 32) (h : a.toNat < 300) :
    (IntOp.muli (IntOp.minsi (IntOp.addi a 1#32) 299#32) 50#32).toNat = min (a.toNat + 1) 299 * 50 := by
  have ha : (a + 1#32).toNat = a.toNat + 1 := by rw [BitVec.toNat_add]; simp; omega
  have hi : (a + 1#32).toInt = (a.toNat + 1 : ℕ) := by rw [BitVec.toInt_eq_toNat_of_lt (by omega), ha]
  unfold IntOp.muli IntOp.minsi IntOp.addi
  rw [BitVec.toNat_mul]
  by_cases hlt : a.toNat + 1 < 299
  · have hs : (a + 1#32).slt 299#32 = true := by
      rw [BitVec.slt_eq_decide, hi]; exact decide_eq_true (by simpa using (by exact_mod_cast hlt : ((a.toNat + 1 : ℕ) : ℤ) < 299))
    rw [if_pos hs, ha, Nat.min_eq_left (by omega)]
    simp only [BitVec.toNat_ofNat, Nat.reducePow, Nat.reduceMod]; omega
  · have hs : ¬ (a + 1#32).slt 299#32 = true := by
      rw [BitVec.slt_eq_decide, hi, decide_eq_true_eq]
      intro hh; exact hlt (by exact_mod_cast (show ((a.toNat + 1 : ℕ) : ℤ) < 299 by simpa using hh))
    rw [if_neg hs, Nat.min_eq_right (by omega)]
    simp

/-- The right place as a number. -/
theorem rightIx_toNat (c : ℕ) (x : Idx16) (h : leftOf t (c + (x 0).val) < 300) :
    (rightIx (cols t c) x).toNat = rightOf t (c + (x 0).val) * 50 := min_word _ h

/-- A group's fifty rounds stay inside the buffers. -/
theorem fits_group (h : InRange t) {g : ℕ} (hg : g < 19) {ob : IVec (Row 16) 32}
    (hob : ∀ x, (ob x).toNat = (16 * g + (x 0).val) * 50) :
    Fits 50 (leftIx (cols t (16 * g))) (rightIx (cols t (16 * g))) ob where
  left x := by
    have hx := idx_lt x
    have := h (16 * g + (x 0).val) (by omega)
    rw [leftIx_toNat _ _ this]; omega
  right x := by
    have hx := idx_lt x
    have := h (16 * g + (x 0).val) (by omega)
    rw [rightIx_toNat _ _ this]; unfold rightOf; omega
  out x := by have hx := idx_lt x; rw [hob]; omega
  apart x y hxy := by
    have : (x 0).val ≠ (y 0).val := fun e => hxy (idx_ext e)
    rw [hob, hob]; omega

/-- A group's fifty rounds fill its sixteen rows and leave the earlier ones. -/
theorem Filled.next (h : InRange t) {g : ℕ} (hg : g < 19) {ob : IVec (Row 16) 32}
    (hob : ∀ x, (ob x).toNat = (16 * g + (x 0).val) * 50) {f f' : Vec F (Row 15200) .f32} (hf : Filled t s g f)
    (hw : Written s (cols t (16 * g + 304)) 50 (leftIx (cols t (16 * g))) (rightIx (cols t (16 * g))) ob f f') :
    Filled t s (g + 1) f' := by
  intro p hp j hj
  by_cases hlt : p < 16 * g
  · rw [hw.miss _ fun x k hk he => ?_]
    · exact hf p hlt j hj
    · rw [cell_val (by omega), hob] at he; omega
  · have hx0 : (cell 16 (p - 16 * g) 0).val = p - 16 * g := cell_val (by omega)
    have e := hw.hit (cell 16 (p - 16 * g)) j hj
    have hp' : 16 * g + (cell 16 (p - 16 * g) 0).val = p := by rw [hx0]; omega
    rw [hob, hp'] at e
    rw [e]
    have hr := h p (by omega)
    show FloatOps.addf _ (FloatOps.mulf _ (FloatOps.subf _ _)) = rowVal t s p j
    unfold rowVal taken
    have hL := leftIx_toNat (t := t) (16 * g) (cell 16 (p - 16 * g)) (by rw [hp']; exact hr)
    have hR := rightIx_toNat (t := t) (16 * g) (cell 16 (p - 16 * g)) (by rw [hp']; exact hr)
    rw [hp'] at hL hR
    rw [hL, hR]
    have hc : cols t (16 * g + 304) (cell 16 (p - 16 * g)) = t (cell 608 (304 + p)) := by
      unfold cols; rw [hx0]; congr 2; omega
    rw [hc]

end Group

/-! ## All units -/

section Whole

variable (X : Vec F (Row 11520000) .f32) (A : Vec F (Row 155648) .f32)

/-- Unit `u` of the input: fifteen thousand words, three hundred rows of fifty. -/
def unitOf (u : ℕ) : Vec F (Row 15000) .f32 := fun q => X (cell 11520000 (u * 15000 + (q 0).val))
/-- Row `n` of the table. -/
def tableRow (n : ℕ) : Vec F (Row 608) .f32 := fun c => A (cell 155648 (n * 608 + (c 0).val))

/-- What the result holds at its place `e`: unit `e / 15000`, position and place inside it, the table's row one for
    each three units. -/
def outAt (e : ℕ) : Elt F .f32 := rowVal (tableRow A (e / 15000 / 3)) (unitOf X (e / 15000)) (e % 15000 / 50) (e % 50)
/-- The whole output: every entry mixed from its two frames. -/
def outV : Vec F (Row 11520000) .f32 := fun y => outAt X A (y 0).val

/-- Every left frame in the table is one of the three hundred. -/
def TableOK : Prop := ∀ n < 256, InRange (tableRow A n)

variable {X A}

/-- A filled block's entries are the output's entries of its unit. -/
theorem unit_filled {u n : ℕ} (hn : n = u / 3) {f : Vec F (Row 15200) .f32} (hf : Filled (tableRow A n) (unitOf X u) 19 f)
    {e : ℕ} (he : e / 15000 = u) : f (cell 15200 (e % 15000)) = outAt X A e := by
  have h := hf (e % 15000 / 50) (by omega) (e % 50) (by omega)
  have hc : e % 15000 / 50 * 50 + e % 50 = e % 15000 := by omega
  rw [hc] at h
  rw [h]
  unfold outAt
  rw [he, hn]

end Whole

end Cert.Proof.Words

end
-- ==== Proof.Line.lean ====
/-
  Straight lines of host operations, read as equations. Each operation writes a buffer of its own, later in the numbering
  than every buffer written or read before it, so what the buffers hold when the line has ended satisfies one equation
  per operation: the buffer written holds the operation's function of what its operands hold THEN. A line of hundreds of
  operations is so described by a conjunction as long as it, and nothing is substituted into anything.
-/
module

public import Idealize.ShloMosaic.Lib.StableHlo.Run

@[expose] public section

noncomputable section

namespace Cert.Proof.HostLine

open Idealize.ShloMosaic Idealize.ShloMosaic.StableHlo Idealize.SL.Sem

variable {nD : ℕ} {τ : Topo} {sig : RefSig} {Val : EltTy → Type} {Λ : Labels}

/-- A buffer's number in the order of the program's values. -/
abbrev num (r : Ref sig .tc) : ℕ := r.idx.val

/-- What the typed reference `t` holds, at its type. -/
def val {T : BufTy} (W : Valuation τ sig Val) (t : TRef sig T) : T.Contents Val :=
  t.ofBuf (W (Proc.devRef .tc t.ref))

/-- A typed reference spelled from a literal one holds what that one does. -/
theorem val_of (W : Valuation τ sig Val) (r : Ref sig .tc) (h : r.space ≠ .host) (h' : r.isScoped = false) :
    val W (⟨r, rfl, h, h'⟩ : TRef sig r.ty) = W (Proc.devRef .tc r) := rfl

/-- The operation writes exactly `y`, number `lo` or later, from buffers numbered below it. -/
structure Step (lo : ℕ) (op : HloOp τ sig Val) (y : Ref sig .tc) : Prop where
  writes : op.writes = {Proc.devRef .tc y}
  fresh : op.fresh = ∅
  bufs : op.bufs ⊆ tcRefs τ sig
  from_lo : lo ≤ num y
  congr : ∀ V W : Valuation τ sig Val,
    (∀ r : Ref sig .tc, num r < num y → V (Proc.devRef .tc r) = W (Proc.devRef .tc r)) →
    op.result V (Proc.devRef .tc y) = op.result W (Proc.devRef .tc y)

/-- Every operation of the line writes its own buffer, in increasing order from `lo` and below `hi`. -/
def Ordered : ℕ → List (HloOp τ sig Val) → ℕ → Prop
  | lo, [], hi => lo ≤ hi
  | lo, op :: ops, hi => ∃ y : Ref sig .tc, Step lo op y ∧ Ordered (num y + 1) ops hi

/-- The valuation satisfies the line's equations. -/
def Fix (ops : List (HloOp τ sig Val)) (W : Valuation τ sig Val) : Prop :=
  ∀ op ∈ ops, ∀ y : Ref sig .tc, op.writes = {Proc.devRef .tc y} →
    op.result W (Proc.devRef .tc y) = W (Proc.devRef .tc y)

/-- A line ends no earlier than it starts. -/
theorem Ordered.le : ∀ {lo hi : ℕ} {ops : List (HloOp τ sig Val)}, Ordered lo ops hi → lo ≤ hi
  | _, _, [], h => h
  | _, _, _ :: _, ⟨_, s, h⟩ => s.from_lo.trans ((Nat.le_succ _).trans h.le)

/-- Numbers below the line's first are not written. -/
theorem Ordered.keep : ∀ {lo hi : ℕ} {ops : List (HloOp τ sig Val)}, Ordered lo ops hi →
    ∀ (V : Valuation τ sig Val) (r : Ref sig .tc), (num r < lo ∨ hi ≤ num r) →
      after ops V (Proc.devRef .tc r) = V (Proc.devRef .tc r)
  | _, _, [], _, _, _, _ => rfl
  | lo, hi, op :: ops, ⟨y, s, h⟩, V, r, hr => by
    have hle := h.le
    have hlo := s.from_lo
    rw [after_cons, h.keep (op.result V) r (by omega), op.result_of_not_mem V]
    rw [s.writes, Finset.mem_singleton]
    refine devRef_ne_of_ne fun e => ?_
    subst e; omega

/-- When the line has ended its equations hold. -/
theorem Ordered.fix : ∀ {lo hi : ℕ} {ops : List (HloOp τ sig Val)}, Ordered lo ops hi →
    ∀ V : Valuation τ sig Val, Fix ops (after ops V)
  | _, _, [], _, _ => fun _ h => absurd h List.not_mem_nil
  | lo, hi, op :: ops, ⟨y, s, h⟩, V => by
    intro o ho y' hy'
    rw [after_cons]
    rcases List.mem_cons.mp ho with rfl | ho
    · have e : y' = y := Proc.devRef_injective _ (Finset.singleton_injective (hy'.symm.trans s.writes))
      subst e
      rw [h.keep (o.result V) y' (Or.inl (Nat.lt_succ_self _))]
      refine s.congr _ _ fun r hr => ?_
      rw [h.keep (o.result V) r (Or.inl (by omega)), o.result_of_not_mem V]
      rw [s.writes, Finset.mem_singleton]
      refine devRef_ne_of_ne fun e => ?_
      subst e; omega
    · exact h.fix (op.result V) o ho y' hy'

/-- Two lines in a row are one. -/
theorem Ordered.append : ∀ {lo mid hi : ℕ} {l₁ l₂ : List (HloOp τ sig Val)}, Ordered lo l₁ mid → Ordered mid l₂ hi →
    Ordered lo (l₁ ++ l₂) hi
  | lo, mid, hi, [], [], h, h' => Nat.le_trans (show lo ≤ mid from h) (show mid ≤ hi from h')
  | lo, mid, hi, [], _ :: _, h, ⟨y, s, h'⟩ => ⟨y, { s with from_lo := Nat.le_trans (show lo ≤ mid from h) s.from_lo }, h'⟩
  | _, _, _, _ :: _, _, ⟨y, s, h⟩, h' => ⟨y, s, h.append h'⟩

/-- A line's operations work on the thread's own buffers. -/
theorem Ordered.bufs_sub : ∀ {lo hi : ℕ} {ops : List (HloOp τ sig Val)}, Ordered lo ops hi →
    ∀ op ∈ ops, op.bufs ⊆ tcRefs τ sig
  | _, _, [], _ => fun _ h => absurd h List.not_mem_nil
  | _, _, _ :: _, ⟨_, s, h⟩ => fun o ho => by
    rcases List.mem_cons.mp ho with rfl | ho
    · exact s.bufs
    · exact h.bufs_sub o ho

/-- A line's operations make no new buffers. -/
theorem Ordered.no_fresh : ∀ {lo hi : ℕ} {ops : List (HloOp τ sig Val)}, Ordered lo ops hi →
    ∀ op ∈ ops, op.fresh = ∅
  | _, _, [], _ => fun _ h => absurd h List.not_mem_nil
  | _, _, _ :: _, ⟨_, s, h⟩ => fun o ho => by
    rcases List.mem_cons.mp ho with rfl | ho
    · exact s.fresh
    · exact h.no_fresh o ho

/-- `p` is an ordered line over the numbers from `lo` to `hi`, continued by `rest`; what it leaves satisfies `E`. -/
def Line (lo hi : ℕ) (p rest : Prog (TpuEff nD τ sig Val Λ .tc) PUnit) (E : Valuation τ sig Val → Prop) : Prop :=
  ∃ ops : List (HloOp τ sig Val), (p = seq ops >>= fun _ => rest) ∧ Ordered lo ops hi ∧ ∀ W, Fix ops W → E W

variable {lo mid hi : ℕ} {p q rest : Prog (TpuEff nD τ sig Val Λ .tc) PUnit} {E E' : Valuation τ sig Val → Prop}

/-- A line that shows one fact shows what follows from it. -/
theorem Line.mono (h : Line lo hi p rest E) (hE : ∀ W, E W → E' W) : Line lo hi p rest E' := by
  obtain ⟨ops, hp, ho, he⟩ := h
  exact ⟨ops, hp, ho, fun W hW => hE W (he W hW)⟩

/-- Nothing left to run. -/
theorem Line.done (h : lo ≤ hi) : Line lo hi rest rest (fun _ : Valuation τ sig Val => True) :=
  ⟨[], by rw [seq, pure_bind], h, fun _ _ => trivial⟩

/-- A line that only returns, called within another, and then that one. -/
theorem Line.bind (h : Line lo mid p (pure ⟨⟩) E) (h' : Line mid hi q rest E') :
    Line lo hi (p >>= fun _ => q) rest (fun W => E W ∧ E' W) := by
  obtain ⟨l₁, rfl, ho, he⟩ := h
  obtain ⟨l₂, rfl, ho', he'⟩ := h'
  refine ⟨l₁ ++ l₂, ?_, ho.append ho', fun W hW => ⟨he W ?_, he' W ?_⟩⟩
  · rw [seq_append, bind_pure, bind_assoc]
  · exact fun o h => hW o (List.mem_append_left _ h)
  · exact fun o h => hW o (List.mem_append_right _ h)

/-- One operation, and the rest of the line. -/
theorem Line.cons {op : HloOp τ sig Val} {y : Ref sig .tc} {Q : Valuation τ sig Val → Prop} (s : Step lo op y)
    (hQ : ∀ W, op.result W (Proc.devRef .tc y) = W (Proc.devRef .tc y) → Q W)
    (h : Line (num y + 1) hi p rest E) :
    Line lo hi ((hlo rfl op fun _ => .ret (⟨⟩ : PUnit)) >>= fun _ => p) rest (fun W => Q W ∧ E W) := by
  obtain ⟨l, rfl, ho, he⟩ := h
  refine ⟨op :: l, ?_, ⟨y, s, ho⟩, fun W hW => ⟨hQ W (hW op List.mem_cons_self y s.writes), he W ?_⟩⟩
  · rw [seq, bind_assoc]
  · exact fun o h => hW o (List.mem_cons_of_mem _ h)

section Builders

variable {Tx Ta Tb Tc Ty : BufTy}

/-- An operation on no operand, then the rest. -/
theorem Line.nullary (y : TRef sig Ty) (v : Ty.Contents Val) (hfrom : lo ≤ num y.ref)
    (h : Line (num y.ref + 1) hi p rest E) :
    Line lo hi ((hlo rfl (TRef.nullary y v) fun _ => .ret (⟨⟩ : PUnit)) >>= fun _ => p) rest
      (fun W => val W y = v ∧ E W) := by
  refine Line.cons (y := y.ref) ⟨rfl, rfl, nullary_bufs_sub _ _ _, hfrom, fun V W _ => ?_⟩ (fun W e => ?_) h
  · rw [nullary_result, nullary_result]
  · rw [nullary_result] at e
    rw [val, ← e, TRef.ofBuf_toBuf]

/-- An operation on one operand, then the rest. -/
theorem Line.unary (x : TRef sig Tx) (y : TRef sig Ty) (f : Tx.Contents Val → Ty.Contents Val)
    (hx : num x.ref < num y.ref) (hfrom : lo ≤ num y.ref) (h : Line (num y.ref + 1) hi p rest E) :
    Line lo hi ((hlo rfl (TRef.unary x y f) fun _ => .ret (⟨⟩ : PUnit)) >>= fun _ => p) rest
      (fun W => val W y = f (val W x) ∧ E W) := by
  refine Line.cons (y := y.ref) ⟨rfl, rfl, unary_bufs_sub _ _ _ _ _, hfrom, fun V W e => ?_⟩ (fun W e => ?_) h
  · rw [unary_result, unary_result, e x.ref hx]
  · rw [unary_result] at e
    rw [val, ← e, TRef.ofBuf_toBuf]; rfl

/-- An operation on two operands, then the rest. -/
theorem Line.binary (a : TRef sig Ta) (b : TRef sig Tb) (y : TRef sig Ty)
    (f : Ta.Contents Val → Tb.Contents Val → Ty.Contents Val) (ha : num a.ref < num y.ref) (hb : num b.ref < num y.ref)
    (hfrom : lo ≤ num y.ref) (h : Line (num y.ref + 1) hi p rest E) :
    Line lo hi ((hlo rfl (TRef.binary a b y f) fun _ => .ret (⟨⟩ : PUnit)) >>= fun _ => p) rest
      (fun W => val W y = f (val W a) (val W b) ∧ E W) := by
  refine Line.cons (y := y.ref) ⟨rfl, rfl, binary_bufs_sub _ _ _ _ _ _ _, hfrom, fun V W e => ?_⟩ (fun W e => ?_) h
  · rw [binary_result, binary_result, e a.ref ha, e b.ref hb]
  · rw [binary_result] at e
    rw [val, ← e, TRef.ofBuf_toBuf]; rfl

/-- An operation on three operands, then the rest. -/
theorem Line.ternary (c : TRef sig Tc) (a : TRef sig Ta) (b : TRef sig Tb) (y : TRef sig Ty)
    (f : Tc.Contents Val → Ta.Contents Val → Tb.Contents Val → Ty.Contents Val) (hc : num c.ref < num y.ref)
    (ha : num a.ref < num y.ref) (hb : num b.ref < num y.ref) (hfrom : lo ≤ num y.ref)
    (h : Line (num y.ref + 1) hi p rest E) :
    Line lo hi ((hlo rfl (TRef.ternary c a b y f) fun _ => .ret (⟨⟩ : PUnit)) >>= fun _ => p) rest
      (fun W => val W y = f (val W c) (val W a) (val W b) ∧ E W) := by
  refine Line.cons (y := y.ref) ⟨rfl, rfl, ternary_bufs_sub _ _ _ _ _ _ _ _ _, hfrom, fun V W e => ?_⟩ (fun W e => ?_) h
  · rw [ternary_result, ternary_result, e c.ref hc, e a.ref ha, e b.ref hb]
  · rw [ternary_result] at e
    rw [val, ← e, TRef.ofBuf_toBuf]; rfl

/-- A reshape, then the rest. -/
theorem Line.reshape (x : TRef sig Tx) (y : TRef sig Ty) (he : Tx.elt = Ty.elt) (hn : Tx.shape.ShapeCasts Ty.shape)
    (hx : num x.ref < num y.ref) (hfrom : lo ≤ num y.ref) (h : Line (num y.ref + 1) hi p rest E) :
    Line lo hi ((hlo rfl (TRef.reshape x y he hn) fun _ => .ret (⟨⟩ : PUnit)) >>= fun _ => p) rest
      (fun W => (val W y = fun i => he ▸ shapeCast Ty.shape (val W x) hn i) ∧ E W) := by
  refine Line.cons (y := y.ref) ⟨rfl, rfl, reshape_bufs_sub _ _ _ _ _ _, hfrom, fun V W e => ?_⟩ (fun W e => ?_) h
  · rw [reshape_result, reshape_result, e x.ref hx]
  · rw [reshape_result] at e
    rw [val, ← e]
    obtain ⟨x, rfl, _, _⟩ := x
    obtain ⟨y, rfl, _, _⟩ := y
    rfl

end Builders

section Plain

variable (x a b c y : Ref sig .tc)

/-- The same of buffers written plainly, with no operand. -/
theorem Line.nullary' (v : y.ty.Contents Val) (hy) (hfrom : lo ≤ num y) (h : Line (num y + 1) hi p rest E) :
    Line lo hi ((hlo rfl (StableHlo.nullary y v hy) fun _ => .ret (⟨⟩ : PUnit)) >>= fun _ => p) rest
      (fun W => W (Proc.devRef .tc y) = v ∧ E W) := by
  refine Line.cons (y := y) ⟨rfl, rfl, nullary_bufs_sub _ _ _, hfrom, fun V W _ => ?_⟩ (fun W e => ?_) h
  · rw [nullary_result, nullary_result]
  · rw [← e, nullary_result]

/-- The same of buffers written plainly, with one operand. -/
theorem Line.unary' (f : x.ty.Contents Val → y.ty.Contents Val) (hx') (hy) (hx : num x < num y) (hfrom : lo ≤ num y)
    (h : Line (num y + 1) hi p rest E) :
    Line lo hi ((hlo rfl (StableHlo.unary x y f hx' hy) fun _ => .ret (⟨⟩ : PUnit)) >>= fun _ => p) rest
      (fun W => W (Proc.devRef .tc y) = f (W (Proc.devRef .tc x)) ∧ E W) := by
  refine Line.cons (y := y) ⟨rfl, rfl, unary_bufs_sub _ _ _ _ _, hfrom, fun V W e => ?_⟩ (fun W e => ?_) h
  · rw [unary_result, unary_result, e x hx]
  · rw [← e, unary_result]

/-- The same of buffers written plainly, with two operands. -/
theorem Line.binary' (f : a.ty.Contents Val → b.ty.Contents Val → y.ty.Contents Val) (ha') (hb') (hy)
    (ha : num a < num y) (hb : num b < num y) (hfrom : lo ≤ num y) (h : Line (num y + 1) hi p rest E) :
    Line lo hi ((hlo rfl (StableHlo.binary a b y f ha' hb' hy) fun _ => .ret (⟨⟩ : PUnit)) >>= fun _ => p) rest
      (fun W => W (Proc.devRef .tc y) = f (W (Proc.devRef .tc a)) (W (Proc.devRef .tc b)) ∧ E W) := by
  refine Line.cons (y := y) ⟨rfl, rfl, binary_bufs_sub _ _ _ _ _ _ _, hfrom, fun V W e => ?_⟩ (fun W e => ?_) h
  · rw [binary_result, binary_result, e a ha, e b hb]
  · rw [← e, binary_result]

/-- The same of buffers written plainly, with three operands. -/
theorem Line.ternary' (f : c.ty.Contents Val → a.ty.Contents Val → b.ty.Contents Val → y.ty.Contents Val)
    (hc') (ha') (hb') (hy) (hc : num c < num y) (ha : num a < num y) (hb : num b < num y) (hfrom : lo ≤ num y)
    (h : Line (num y + 1) hi p rest E) :
    Line lo hi ((hlo rfl (StableHlo.ternary c a b y f hc' ha' hb' hy) fun _ => .ret (⟨⟩ : PUnit)) >>= fun _ => p) rest
      (fun W => W (Proc.devRef .tc y)
        = f (W (Proc.devRef .tc c)) (W (Proc.devRef .tc a)) (W (Proc.devRef .tc b)) ∧ E W) := by
  refine Line.cons (y := y) ⟨rfl, rfl, ternary_bufs_sub _ _ _ _ _ _ _ _ _, hfrom, fun V W e => ?_⟩ (fun W e => ?_) h
  · rw [ternary_result, ternary_result, e c hc, e a ha, e b hb]
  · rw [← e, ternary_result]

/-- A reshape of buffers written plainly, then the rest. -/
theorem Line.reshape' (he hn hx' hy) (hx : num x < num y) (hfrom : lo ≤ num y) (h : Line (num y + 1) hi p rest E) :
    Line lo hi ((hlo rfl (StableHlo.reshape (Val := Val) x y he hn hx' hy) fun _ => .ret (⟨⟩ : PUnit)) >>= fun _ => p) rest
      (fun W => (W (Proc.devRef .tc y) = fun i => he ▸ shapeCast y.ty.shape (W (Proc.devRef .tc x)) hn i) ∧ E W) := by
  refine Line.cons (y := y) ⟨rfl, rfl, reshape_bufs_sub _ _ _ _ _ _, hfrom, fun V W e => ?_⟩ (fun W e => ?_) h
  · rw [reshape_result, reshape_result, e x hx]
  · rw [← e, reshape_result]

end Plain

end Cert.Proof.HostLine
-- ==== Proof.Values.lean ====
/-
  The numbers every one of the programs draws before it touches its input: the samples' speeds, the times a sample's
  frames are read at, and the floors of those times. Written once, over the functions the precondition is printed with.
-/
module

public import proofs.«01_k».proof.Defs
public import proofs.«01_k».proof.Proof.Gen.Pre_floors_are_rows

@[expose] public section

noncomputable section

namespace Cert.Proof.Values

open Cert.Pre_floors_are_rows Cert.Pre_floors_are_rows.Facts
open Idealize.ShloMosaic

/-- The key of the draw: the two words of 42. -/
def key : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩]
    concatenates_S1_S1_S2_d0

variable (F : FTy → Type) [FloatOps F]

/-- The samples' speeds. -/
def speed : FVec F S256 .f32 :=
  addf (mulf (fn_uniform (F := F) key (constant S_ .f32 0x00000000#32) (constant S_ .f32 0x3F800000#32))
    (broadcastInDim S256 ![] bcast_S_S256 (constant S_ .f32 0x3FC00000#32)))
    (broadcastInDim S256 ![] bcast_S_S256 (constant S_ .f32 0x3F000000#32))

/-- The time frame `t` of sample `n` is read at, before it is brought into the film. -/
def rawTime : FVec F S256x300 .f32 :=
  Host.divf
    (broadcastInDim S256x300 ![0, 1] bcast_S1x300_S256x300_0_1
      (broadcastInDim S1x300 ![1] bcast_S300_S1x300_1 (sitofp .f32 (iotaInDim S300 32 0))))
    (broadcastInDim S256x300 ![0, 1] bcast_S256x1_S256x300_0_1
      (broadcastInDim S256x1 ![0] bcast_S256_S256x1_0 (speed F)))

/-- The time frame `t` of sample `n` is read at, between 0 and 299. -/
def time : FVec F S256x300 .f32 :=
  fn_clip (F := F) (rawTime F) (constant S_ .f32 0x00000000#32) (constant S_ .f32 0x43958000#32)

/-- The frame before that time. -/
def floor : FVec F S256x300 .f32 := Host.floor (time F)

/-- The precondition, said of the floors. -/
theorem floors_are_rows (x : FVec F S256x3x300x25x2 .f32) : Pre_floors_are_rows.fn (F := F) x =
    andi (cmpi .sge (fptosi 32 (floor F)) (broadcastInDim S256x300 ![] bcast_S_S256x300 (constantI S_ 32 0#32)))
      (cmpi .slt (fptosi 32 (floor F)) (broadcastInDim S256x300 ![] bcast_S_S256x300 (constantI S_ 32 300#32))) := rfl

end Cert.Proof.Values
-- ==== Proof.IdealLanes.lean ====
/-
  One group of the tile's inner loop: its body is fifty rounds of one step, and what the rounds write.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Words

@[expose] public section

noncomputable section

namespace Cert.Proof.IdealTile

open Cert.KernelIdeal Cert.KernelIdeal.Gen Cert.Proof.Words
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel has no loops whose measure must be given. -/
abbrev 𝒱₀ : Variants := Variants.none
/-- The launch's handshakes. -/
abbrev UH : Type := URounds (GSem nD τ sig) ℕ
/-- The ghost state: the handshakes and the counters. -/
abbrev UU : Type := UH × Counters

local notation "𝕄" => MT nD τ sig (HIx 1) (Elt F) ℕ UU ℕ

/-- A tile's three buffers: a frame of `x`, the interpolated rows, a row of the table. -/
abbrev xB : Memref sig .scVector .vmem S15000 .f32 := Memref.whole cc0_scratch0
/-- A tile's output block. -/
abbrev oB : Memref sig .scVector .vmem S15200 .f32 := Memref.whole cc0_scratch1
/-- A tile's row of the table. -/
abbrev tB : Memref sig .scVector .vmem S608 .f32 := Memref.whole cc0_scratch2

/-- What the group's body does `n` times over: gather the two neighbours at `bl` and `br`, blend them,
    scatter the sixteen results at `ob`, and move each index on by one. -/
def lanes (L : grid0.Coords) (src : Memref sig .scVector .vmem S15000 .f32) (dst : Memref sig .scVector .vmem S15200 .f32)
    (w : Vec F S16 .f32) :
    ℕ → IVec S16 32 → IVec S16 32 → IVec S16 32 →
      Prog (TpuEff nD τ sig (Elt F) Λ₀ (.scVector ((L 0).castLE hcore0) ((L 1).castLE hsub0))) Unit
  | 0, _, _, _ => pure ⟨⟩
  | n + 1, bl, br, ob => do
    let h₁ ← Prog.lift (TpuEff.assume (k0_chk1 bl) (k0_chk1.dec bl))
    let h₂ ← Prog.lift (TpuEff.assume (k0_chk2 br) (k0_chk2.dec br))
    let h₃ ← Prog.lift (TpuEff.assume (k0_chk3 ob) (k0_chk3.dec ob))
    let a ← SparseCore.vectorLoadIdx src ![bl] h₁.down (View.loads_vmem h_S15000)
    let b ← SparseCore.vectorLoadIdx src ![br] h₂.down (View.loads_vmem h_S15000)
    SparseCore.vectorStoreIdx dst ![ob] (blend w a b) (fun _ => 1#1) false h₃.down (View.stores_vmem_bits_univ h_S15200 rfl)
    lanes L src dst w n (bump bl) (bump br) (bump ob)

set_option maxRecDepth 65536 in
set_option maxHeartbeats 4000000 in
/-- A group's body is the two loads of its table columns followed by fifty rounds. -/
theorem group_eq (L : grid0.Coords) (arg2 harg2 arg3 harg3 arg4 harg4 arg5 harg5 arg6 harg6 arg7 harg7 r0 r1 r2 v1 v2 a b t1) (g : Fin k0_t2_loop.trips) :
    k0_t2_body (F := F) L arg2 harg2 arg3 harg3 arg4 harg4 arg5 harg5 arg6 harg6 arg7 harg7 r0 r1 r2 v1 v2 a b t1 g ⟨⟩ =
      .op (.load arg7 (Rect.unit (s := S608) (k0_off3 g) S16.size (k0_off3_inb g)).toLoadRect (View.loadsAt_vmem h_S16)) fun l =>
      .op (.load arg7 (Rect.unit (s := S608) (k0_off4 g) S16.size (k0_off4_inb g)).toLoadRect (View.loadsAt_vmem h_S16)) fun w =>
      (lanes L arg5 arg6 w 50 (k0_pay2 l) (k0_pay3 l) (k0_pay4 v2 0#32 1#32 g)) := rfl

section

variable (d : Dev nD) (L : grid0.Coords)

/-- A grid point's SparseCore. -/
abbrev cV (L : grid0.Coords) : Fin τ.nSC := (L 0).castLE hcore0
/-- A grid point's tile within its SparseCore. -/
abbrev jV (L : grid0.Coords) : Fin τ.nSub := (L 1).castLE hsub0

omit [FloatOps F] in
/-- Reading the whole input block gives its contents. -/
theorem read_xB (s : Vec F S15000 .f32) : (xB.access (.whole S15000)).read (Elt F) s = s :=
  Memref.read_access_whole (Elt F) cc0_scratch0 s
omit [FloatOps F] in
/-- Reading the whole output block gives its contents. -/
theorem read_oB (f : Vec F S15200 .f32) : (oB.access (.whole S15200)).read (Elt F) f = f :=
  Memref.read_access_whole (Elt F) cc0_scratch1 f
omit [FloatOps F] in
/-- Writing the whole output block leaves what was written. -/
theorem write_oB (f g : Vec F S15200 .f32) : (oB.access (.whole S15200)).write (Elt F) f g Finset.univ = g :=
  Memref.write_access_whole_univ (Elt F) cc0_scratch1 f g

/-- `n` rounds at the head of a program: the source stays, the target is written as the rounds say. -/
theorem wp_lanes (w : Vec F S16 .f32) (s : Vec F S15000 .f32) {α : Type}
    (k : Unit → Prog (TpuEff nD τ sig (Elt F) Λ₀ (V (nD := nD) d (cV L) (jV L)).2) α) (Q : α → sProp 𝕄) :
    ∀ (n : ℕ) (bl br ob : IVec S16 32) (f : Vec F S15200 .f32), Fits n bl br ob →
    iprop((xB.view.loc (V d (cV L) (jV L)) ↦{fullShare} s) ∗ (oB.view.loc (V d (cV L) (jV L)) ↦{fullShare} f)
        ∗ (∀ g : Vec F S15200 .f32, ⌜Written s w n bl br ob f g⌝ -∗ (xB.view.loc (V d (cV L) (jV L)) ↦{fullShare} s)
            -∗ (oB.view.loc (V d (cV L) (jV L)) ↦{fullShare} g)
            -∗ wp frame (wpE (defs₀ (F := F)) 𝒱₀ (V d (cV L) (jV L)) none) Set.univ (k ⟨⟩) Q))
      ⊢ wp frame (wpE (defs₀ (F := F)) 𝒱₀ (V d (cV L) (jV L)) none) Set.univ (lanes L xB oB w n bl br ob >>= k) Q
  | 0, bl, br, ob, f, _ => by
    iintro ⟨Hs, Hf, Hk⟩
    ihave Hk := Hk $$ %f %(Written.zero s w bl br ob f) Hs Hf
    iexact Hk
  | n + 1, bl, br, ob, f, fit => by
    iintro ⟨Hs, Hf, Hk⟩
    simp only [lanes, bind_assoc]
    iapply (wp_assume 𝒱₀ (V d (cV L) (jV L)) none Set.univ (Γ := .empty) (show k0_chk1 bl from fit.chkL))
    iapply (wp_assume 𝒱₀ (V d (cV L) (jV L)) none Set.univ (Γ := .empty) (show k0_chk2 br from fit.chkR))
    iapply (wp_assume 𝒱₀ (V d (cV L) (jV L)) none Set.univ (Γ := .empty) (show k0_chk3 ob from fit.chkO))
    have hx : ((xB).access (.whole S15000)).set ⊆ Finset.univ := Finset.subset_univ _
    have hset : (oB.access (.whole S15200)).set = Finset.univ := Memref.set_access_whole cc0_scratch1
    iapply (SparseCore.wp_vectorLoadIdx (defs := defs₀ (F := F)) 𝒱₀ (V d (cV L) (jV L)) none Set.univ (base := xB) (idxs := ![bl])
      (h := fit.chkL) (hl := View.loads_vmem h_S15000) (S := Finset.univ) hx) $$ Hs
    iintro Hs
    iapply (SparseCore.wp_vectorLoadIdx (defs := defs₀ (F := F)) 𝒱₀ (V d (cV L) (jV L)) none Set.univ (base := xB) (idxs := ![br])
      (h := fit.chkR) (hl := View.loads_vmem h_S15000) (S := Finset.univ) hx) $$ Hs
    iintro Hs
    ihave Hf := (Entails.of_eq (show (oB.view.loc (V d (cV L) (jV L)) ↦{fullShare} f : sProp 𝕄)
      = ((oB.access (.whole S15200)).loc (V d (cV L) (jV L)) ↦[(oB.access (.whole S15200)).set]{fullShare} f) by rw [hset])) $$ Hf
    iapply (SparseCore.wp_vectorStoreIdx (defs := defs₀ (F := F)) 𝒱₀ (V d (cV L) (jV L)) none Set.univ (base := oB) (idxs := ![ob])
      (mask := fun _ => 1#1) (add := false) (h := fit.chkO) (hs := View.stores_vmem_bits_univ h_S15200 rfl)) $$ Hf
    iintro Hf
    ihave Hf := (Entails.of_eq (show ((oB.access (.whole S15200)).loc (V d (cV L) (jV L)) ↦[(oB.access (.whole S15200)).set]{fullShare}
        (oB.access (.whole S15200)).write (Elt F) f (storeIdx ((oB.access (.whole S15200)).read (Elt F) f) ![ob]
          (blend w (loadIdx ((xB.access (.whole S15000)).read (Elt F) s) ![bl] fit.chkL)
            (loadIdx ((xB.access (.whole S15000)).read (Elt F) s) ![br] fit.chkR)) (fun _ => 1#1) false fit.chkO) Finset.univ : sProp 𝕄)
      = (oB.view.loc (V d (cV L) (jV L)) ↦{fullShare} storeIdx f ![ob]
          (blend w (loadIdx s ![bl] fit.chkL) (loadIdx s ![br] fit.chkR)) (fun _ => 1#1) false fit.chkO) by
        rw [hset, write_oB, read_oB, read_xB])) $$ Hf
    iapply (wp_lanes w s k Q n (bump bl) (bump br) (bump ob) _ fit.next)
    isplitl [Hs]
    · iexact Hs
    isplitl [Hf]
    · iexact Hf
    iintro %g %hg Hs Hf
    ihave Hk := Hk $$ %g %(Written.cons fit hg) Hs Hf
    iexact Hk

/-! ## The group loop -/

/-- The lane numbers. -/
abbrev laneNo : IVec S16 32 := iota .scVector S16 32 [0] iota_S16_d0_w32_scVector

omit [FloatOps F] in
/-- The inner loop takes 19 turns, one for each group of 16 frames. -/
theorem trips2_eq : k0_t2_loop.trips = 19 := by decide +kernel

omit [FloatOps F] in
/-- A turn of the inner loop is below 19. -/
theorem trip2_lt (g : Fin k0_t2_loop.trips) : g.val < 19 := trips2_eq ▸ g.isLt

omit [FloatOps F] in
/-- Lane `x` of group `g` writes row `16 g + x`. -/
theorem outIx_toNat (g : Fin k0_t2_loop.trips) (x : S16.Idx) :
    (k0_pay4 laneNo 0#32 1#32 g x).toNat = (16 * g.val + (x 0).val) * 50 := by
  have hg := trip2_lt g
  have hx : (x 0).val < 16 := (x 0).isLt
  show (((0#32 + BitVec.ofNat 32 g.val * 1#32) * 16#32 + BitVec.ofNat 32 ([(0 : Fin 1)].foldl (fun n a => n * S16.size a + (x a).val) 0)) * 50#32).toNat = _
  simp only [List.foldl, BitVec.toNat_mul, BitVec.toNat_add, BitVec.toNat_ofNat]
  omega

omit [FloatOps F] in
/-- A turn's first read of the table's row is 16 floors. -/
theorem cols_off3 (t : Vec F S608 .f32) (g : Fin k0_t2_loop.trips) :
    tB.view.readAt (Elt F) (Rect.unit (s := S608) (k0_off3 g) S16.size (k0_off3_inb g)).toLoadRect t = cols t (16 * g.val) := by
  funext x
  refine congrArg t (idx_ext ?_)
  have hx : (x 0).val < 16 := (x 0).isLt
  have hg := trip2_lt g
  rw [cell_val (by omega)]
  show k0_off3 g 0 + 1 * (x 0).val = _
  have e : k0_off3 g 0 = 16 * g.val := congrFun (k0_off3_eq g) 0
  omega

omit [FloatOps F] in
/-- A turn's second read of the table's row is 16 weights. -/
theorem cols_off4 (t : Vec F S608 .f32) (g : Fin k0_t2_loop.trips) :
    tB.view.readAt (Elt F) (Rect.unit (s := S608) (k0_off4 g) S16.size (k0_off4_inb g)).toLoadRect t = cols t (16 * g.val + 304) := by
  funext x
  refine congrArg t (idx_ext ?_)
  have hx : (x 0).val < 16 := (x 0).isLt
  have hg := trip2_lt g
  rw [cell_val (by omega)]
  show k0_off4 g 0 + 1 * (x 0).val = _
  have e : k0_off4 g 0 = 16 * g.val + 304 := congrFun (k0_off4_eq g) 0
  omega

/-- Before group `g`: the source and the table's row as they were, the first `16 g` rows filled. -/
def groupInv (t : Vec F S608 .f32) (s : Vec F S15000 .f32) (g : ℕ) (_ : Unit) : sProp 𝕄 :=
  iprop((xB.view.loc (V d (cV L) (jV L)) ↦{fullShare} s) ∗ (tB.view.loc (V d (cV L) (jV L)) ↦{fullShare} t)
    ∗ ∃ f : Vec F S15200 .f32, ⌜Filled t s g f⌝ ∗ oB.view.loc (V d (cV L) (jV L)) ↦{fullShare} f)

/-- One group. -/
theorem wp_group (t : Vec F S608 .f32) (s : Vec F S15000 .f32) (ht : InRange t)
    (arg2 harg2 arg3 harg3 arg4 harg4 harg5 harg6 harg7 r0 r1 r2 v1 a b t1) (g : Fin k0_t2_loop.trips) (u : Unit) :
    groupInv d L t s g u
      ⊢ wp frame (wpE (defs₀ (F := F)) 𝒱₀ (V d (cV L) (jV L)) none) Set.univ
          (k0_t2_body (F := F) L arg2 harg2 arg3 harg3 arg4 harg4 xB harg5 oB harg6 tB harg7 r0 r1 r2 v1 laneNo a b t1 g u)
          (groupInv d L t s (g.val + 1)) := by
  rw [group_eq]
  unfold groupInv
  iintro ⟨Hs, Ht, %f, %hf, Hf⟩
  sl_step
  sl_step
  rw [cols_off3, cols_off4]
  rw [← bind_pure (lanes L xB oB _ _ _ _ _)]
  iapply (wp_lanes d L (cols t (16 * g.val + 304)) s pure _ 50 _ _ _ f (fits_group ht (trip2_lt g) (outIx_toNat g)))
  isplitl [Hs]
  · iexact Hs
  isplitl [Hf]
  · iexact Hf
  iintro %f' %hf' Hs Hf
  sl_step
  isplitl [Hs]
  · iexact Hs
  isplitl [Ht]
  · iexact Ht
  iexists f'
  isplitr
  · ipureintro
    exact hf.next ht (trip2_lt g) (outIx_toNat g) hf'
  · iexact Hf

/-- The nineteen groups at the head of a program, one trip being any program that does one group's work. -/
theorem wp_groups (t : Vec F S608 .f32) (s : Vec F S15000 .f32) (f : Vec F S15200 .f32)
    (body : Fin k0_t2_loop.trips → Unit → Prog (TpuEff nD τ sig (Elt F) Λ₀ (V (nD := nD) d (cV L) (jV L)).2) Unit)
    (hbody : ∀ (g : Fin k0_t2_loop.trips) (u : Unit), groupInv d L t s g u
      ⊢ wp frame (wpE (defs₀ (F := F)) 𝒱₀ (V d (cV L) (jV L)) none) Set.univ (body g u) (groupInv d L t s (g.val + 1))) {α : Type}
    (k : Unit → Prog (TpuEff nD τ sig (Elt F) Λ₀ (V (nD := nD) d (cV L) (jV L)).2) α) (Q : α → sProp 𝕄) :
    iprop((xB.view.loc (V d (cV L) (jV L)) ↦{fullShare} s) ∗ (tB.view.loc (V d (cV L) (jV L)) ↦{fullShare} t)
        ∗ (oB.view.loc (V d (cV L) (jV L)) ↦{fullShare} f)
        ∗ (∀ u, groupInv d L t s 19 u -∗ wp frame (wpE (defs₀ (F := F)) 𝒱₀ (V d (cV L) (jV L)) none) Set.univ (k u) Q))
      ⊢ wp frame (wpE (defs₀ (F := F)) 𝒱₀ (V d (cV L) (jV L)) none) Set.univ
          (Scf.Loop.for k0_t2_loop k0_t2_ok ⟨⟩ body >>= k) Q := by
  iintro ⟨Hs, Ht, Hf, Hk⟩
  iapply (Scf.wp_for_bind frame (wpE (defs₀ (F := F)) 𝒱₀ (V d (cV L) (jV L)) none) Set.univ k0_t2_loop.lb k0_t2_loop.ub k0_t2_loop.st
    k0_t2_ok () body (groupInv d L t s) hbody) $$ [Hs Ht Hf]
  · unfold groupInv
    isplitl [Hs]
    · iexact Hs
    isplitl [Ht]
    · iexact Ht
    iexists f
    isplitr
    · ipureintro; exact Filled.zero t s f
    · iexact Hf
  iintro %u Hu
  iapply Hk
  rw [← trips2_eq]
  iexact Hu

end

end Cert.Proof.IdealTile

end
-- ==== Proof.IdealTile.lean ====
/-
  A tile's task: its loop over units, each fetched, interpolated and written out.
-/
module

public import proofs.«01_k».proof.Proof.IdealLanes

@[expose] public section

noncomputable section

namespace Cert.Proof.IdealTile

open Cert.KernelIdeal Cert.KernelIdeal.Gen Cert.Proof.Words
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The call's three arrays as a tile names them: the input, the table, the result. -/
abbrev xA : Memref sig .scVector .hbm S11520000 .f32 := Memref.whole main_v26_scv
/-- The table, as a tile sees it. -/
abbrev tA : Memref sig .scVector .hbm S155648 .f32 := Memref.whole main_v27_scv
/-- The output, as a tile sees it. -/
abbrev oA : Memref sig .scVector .hbm S11520000 .f32 := Memref.whole main_v28_scv

/-- The three arrays as locations of device `d`. -/
abbrev xLoc (d : Dev nD) : Loc nD τ sig := (SparseCore.T d).loc main_v26
/-- Where the table lies. -/
abbrev tLoc (d : Dev nD) : Loc nD τ sig := (SparseCore.T d).loc main_v27
/-- Where the output lies. -/
abbrev oLoc (d : Dev nD) : Loc nD τ sig := (SparseCore.T d).loc main_v28

section

variable (d : Dev nD) (L : grid0.Coords)

/-- The tile's number. -/
abbrev tileNo (L : grid0.Coords) : ℕ := 2 * (L 1).val + (L 0).val

/-- There are 32 tiles. -/
theorem tileNo_lt (L : grid0.Coords) : tileNo L < 32 := by
  have h0 : (L 0).val < 2 := (L 0).isLt
  have h1 : (L 1).val < 16 := (L 1).isLt
  show 2 * (L 1).val + (L 0).val < 32
  omega

/-- The result's places that tile number `n` writes. -/
def block (n : ℕ) : Finset S11520000.Idx := Finset.univ.filter fun y => (y 0).val / 360000 = n

/-- A tile's block is 360000 consecutive entries. -/
theorem mem_block {n : ℕ} {y : S11520000.Idx} : y ∈ block n ↔ (y 0).val / 360000 = n := by simp [block]

/-- The outer loop takes 24 turns, one for each of a tile's units. -/
theorem trips1_eq : k0_t1_loop.trips = 24 := by decide +kernel
/-- A turn of the outer loop is below 24. -/
theorem trip1_lt (u : Fin k0_t1_loop.trips) : u.val < 24 := trips1_eq ▸ u.isLt

/-- The unit a trip works on. -/
abbrev unitNo (L : grid0.Coords) (u : ℕ) : ℕ := tileNo L * 24 + u

/-- Where a turn's unit starts in the input and in the output. -/
theorem off2_val (u : Fin k0_t1_loop.trips) : k0_off2 L u 0 = unitNo L u.val * 15000 := by
  have e : k0_off2 L u 0 = _ := congrFun (k0_off2_eq L u) 0
  rw [e]
  show 720000 * (L 1).val + 360000 * (L 0).val + 15000 * u.val = ((2 * (L 1).val + (L 0).val) * 24 + u.val) * 15000
  omega

/-- There are 768 units. -/
theorem unitNo_lt (L : grid0.Coords) (u : Fin k0_t1_loop.trips) : unitNo L u.val < 768 := by
  have := tileNo_lt L; have := trip1_lt u; show tileNo L * 24 + u.val < 768; omega

/-- The signed quotient by three, rounded down, times the length of a table's row: the chain of words a tile computes. -/
def rowStart (w : BitVec 32) : BitVec 32 :=
  let q := Scalar.divsi w 3#32
  Scalar.muli (Scalar.select (Scalar.andi
      (Scalar.cmpi .ne (Scalar.subi (Scalar.extui (Scalar.cmpi .sgt w 0#32)) (Scalar.extui (Scalar.cmpi .slt w 0#32)))
        (Scalar.subi (Scalar.extui (Scalar.cmpi .sgt 3#32 0#32)) (Scalar.extui (Scalar.cmpi .slt 3#32 0#32))))
      (Scalar.cmpi .ne (Scalar.remsi w 3#32) 0#32)) (Scalar.subi q 1#32) q) 608#32

/-- Where a unit's row of the table starts, computed on words. -/
theorem rowStart_toNat : ∀ n : Fin 768, (rowStart (BitVec.ofNat 32 n.val)).toNat = n.val / 3 * 608 := by decide +kernel

/-- Where a turn's row of the table starts. -/
theorem off1_val (u : Fin k0_t1_loop.trips) : k0_off1 L u 0 = unitNo L u.val / 3 * 608 := by
  rw [← rowStart_toNat ⟨unitNo L u.val, unitNo_lt L u⟩]
  have h0 : (L 0).val < 2 := (L 0).isLt
  have h1 : (L 1).val < 16 := (L 1).isLt
  have hu := trip1_lt u
  have e : (BitVec.ofNat 32 (L 1).val * 2#32 + BitVec.ofNat 32 (L 0).val) * 24#32 + (0#32 + BitVec.ofNat 32 u.val * 1#32)
      = BitVec.ofNat 32 (unitNo L u.val) := by
    apply BitVec.eq_of_toNat_eq
    simp only [BitVec.toNat_mul, BitVec.toNat_add, BitVec.toNat_ofNat, unitNo, tileNo]
    omega
  show (rowStart ((BitVec.ofNat 32 (L 1).val * 2#32 + BitVec.ofNat 32 (L 0).val) * 24#32 + (0#32 + BitVec.ofNat 32 u.val * 1#32))).toNat = _
  rw [e]

/-- An entry of the output's value. -/
theorem outV_apply (X : Vec F S11520000 .f32) (A : Vec F S155648 .f32) (y : S11520000.Idx) : outV X A y = outAt X A (y 0).val := rfl

/-- The result's first `u` units of the tile's block are done. -/
def DoneTo (X : Vec F S11520000 .f32) (A : Vec F S155648 .f32) (n u : ℕ) (f : Vec F S11520000 .f32) : Prop :=
  ∀ y : S11520000.Idx, n * 360000 ≤ (y 0).val → (y 0).val < n * 360000 + u * 15000 → f y = outV X A y

/-- Before unit `u`. -/
def unitInv (X : Vec F S11520000 .f32) (A : Vec F S155648 .f32) (qx qt : PosShare TreeShare)
    (O : CellTallies nD τ sig (HIx 1)) (W : Waits sig (HIx 1)) (u : ℕ) (_ : Unit) : sProp 𝕄 :=
  iprop(Transfers.MayWaits (V d (cV L) (jV L)) (default : HIx 1) O
    ∗ (xA.view.loc (V d (cV L) (jV L)) ↦{qx} X) ∗ (tA.view.loc (V d (cV L) (jV L)) ↦{qt} A)
    ∗ (∃ f : Vec F S11520000 .f32, ⌜DoneTo X A (tileNo L) u f⌝ ∗ oA.view.loc (V d (cV L) (jV L)) ↦[block (tileNo L)]{fullShare} f)
    ∗ (∃ s : Vec F S15000 .f32, xB.view.loc (V d (cV L) (jV L)) ↦{fullShare} s)
    ∗ (∃ f : Vec F S15200 .f32, oB.view.loc (V d (cV L) (jV L)) ↦{fullShare} f)
    ∗ (∃ t : Vec F S608 .f32, tB.view.loc (V d (cV L) (jV L)) ↦{fullShare} t)
    ∗ semVal (V d (cV L) (jV L), .dma cc0_scoped0.sem) 0 ∗ semVal (V d (cV L) (jV L), .dma cc0_scoped1.sem) 0
    ∗ semVal (V d (cV L) (jV L), .dma cc0_scoped2.sem) 0
    ∗ ∃ W', ⌜∀ p ∈ W', p ∈ W ∨ p.2 = none⌝ ∗ owes (V d (cV L) (jV L)) O W')

/-- What the fetch of a unit's table row brings, and of the unit itself. -/
theorem read_row (A : Vec F S155648 .f32) (u : Fin k0_t1_loop.trips) :
    (tA.slice (Rect.unit (s := S155648) (k0_off1 L u) S608.size (k0_off1_inb L u)) (fun _ => rfl)).view.read (Elt F) A
      = tableRow A (unitNo L u.val / 3) := by
  funext x
  refine congrArg A (idx_ext ?_)
  have hx : (x 0).val < 608 := (x 0).isLt
  have hu := unitNo_lt L u
  rw [cell_val (by omega)]
  show k0_off1 L u 0 + 1 * (x 0).val = _
  have e := off1_val L u
  omega
/-- A turn's input window holds its unit. -/
theorem read_unit (X : Vec F S11520000 .f32) (u : Fin k0_t1_loop.trips) :
    (xA.slice (Rect.unit (s := S11520000) (k0_off2 L u) S15000.size (k0_off2_inb L u)) (fun _ => rfl)).view.read (Elt F) X
      = unitOf X (unitNo L u.val) := by
  funext x
  refine congrArg X (idx_ext ?_)
  have hx : (x 0).val < 15000 := (x 0).isLt
  have hu := unitNo_lt L u
  rw [cell_val (by omega)]
  show k0_off2 L u 0 + 1 * (x 0).val = _
  have e := off2_val L u
  omega

/-- The write-out's window of the result. -/
abbrev oWin (u : Fin k0_t1_loop.trips) : Memref sig .scVector .hbm S15000 .f32 :=
  oA.slice (Rect.unit (s := S11520000) (k0_off2 L u) S15000.size (k0_off2_inb L u)) (fun _ => rfl)

/-- Where an entry of a turn's output window lies in the output. -/
theorem oWin_emb (u : Fin k0_t1_loop.trips) (x : S15000.Idx) : ((oWin L u).view.emb x 0).val = unitNo L u.val * 15000 + (x 0).val := by
  show k0_off2 L u 0 + 1 * (x 0).val = _
  have e := off2_val L u
  omega

/-- A turn's output window lies in its tile's block. -/
theorem oWin_sub (u : Fin k0_t1_loop.trips) : (oWin L u).view.set ⊆ block (tileNo L) := by
  intro y hy
  obtain ⟨x, -, rfl⟩ := Finset.mem_map.mp hy
  have hx : (x 0).val < 15000 := (x 0).isLt
  have hu := trip1_lt u
  rw [mem_block, oWin_emb]
  show (((tileNo L) * 24 + u.val) * 15000 + (x 0).val) / 360000 = _
  omega

/-- What a turn's write leaves in its window is the unit written. -/
theorem oWin_writes (u : Fin k0_t1_loop.trips) (f : Vec F S11520000 .f32) (w : S15000.Idx → Elt F .f32) (x : S15000.Idx) :
    (oWin L u).view.writes (Elt F) f [⟨Rect.whole S15000, w⟩] ((oWin L u).view.emb x) = w x := by
  have h := congrFun (View.read_writes_whole (oWin L u).view f w) x
  rw [View.read_apply, cast_eq] at h
  exact h

/-- What the write-out reads of the unit's buffer: its first 15000 words. -/
theorem read_out (f : Vec F S15200 .f32) (x : S15000.Idx) :
    (oB.slice (Rect.unit (s := S15200) ![0] S15000.size inb_S15200_S15000_0) (fun _ => rfl)).view.read (Elt F) f x
      = f (cell 15200 (x 0).val) := by
  refine congrArg f (idx_ext ?_)
  have hx : (x 0).val < 15000 := (x 0).isLt
  rw [cell_val (by omega)]
  show 0 + 1 * (x 0).val = _
  omega

/-- The tile's block is the window and the rest of it. -/
theorem block_split (u : Fin k0_t1_loop.trips) (f : Vec F S11520000 .f32) :
    (oA.view.loc (V d (cV L) (jV L)) ↦[block (tileNo L)]{fullShare} f : sProp 𝕄)
      ⊣⊢ iprop(((oWin L u).view.loc (V d (cV L) (jV L)) ↦[(oWin L u).view.set]{fullShare} f)
          ∗ oA.view.loc (V d (cV L) (jV L)) ↦[block (tileNo L) \ (oWin L u).view.set]{fullShare} f) :=
  pointsTo_split_subset (oWin_sub L u)

/-- The window written at the unit's results joins the rest of the block: one more unit is done. -/
theorem block_join (X : Vec F S11520000 .f32) (A : Vec F S155648 .f32) (u : Fin k0_t1_loop.trips) (fo g : Vec F S11520000 .f32)
    (hfo : DoneTo X A (tileNo L) u.val fo)
    (hg : ∀ x : S15000.Idx, g ((oWin L u).view.emb x) = outAt X A (unitNo L u.val * 15000 + (x 0).val)) :
    iprop(((oWin L u).view.loc (V d (cV L) (jV L)) ↦[(oWin L u).view.set]{fullShare} g)
        ∗ oA.view.loc (V d (cV L) (jV L)) ↦[block (tileNo L) \ (oWin L u).view.set]{fullShare} fo)
      ⊢ (∃ f : Vec F S11520000 .f32, ⌜DoneTo X A (tileNo L) (u.val + 1) f⌝
          ∗ oA.view.loc (V d (cV L) (jV L)) ↦[block (tileNo L)]{fullShare} f : sProp 𝕄) := by
  iintro H
  iexists (((oWin L u).view.set).piecewise g fo)
  isplitr
  · ipureintro
    intro y hlo hhi
    by_cases hy : y ∈ (oWin L u).view.set
    · rw [Finset.piecewise_eq_of_mem _ _ _ hy]
      obtain ⟨x, -, rfl⟩ := Finset.mem_map.mp hy
      rw [hg x, outV_apply, oWin_emb]
    · rw [Finset.piecewise_eq_of_notMem _ _ _ hy]
      refine hfo y hlo (Nat.lt_of_not_le fun hle => hy ?_)
      have hx : (y 0).val - unitNo L u.val * 15000 < 15000 := by simp only [unitNo]; omega
      refine Finset.mem_map.mpr ⟨cell 15000 ((y 0).val - unitNo L u.val * 15000), Finset.mem_univ _, idx_ext ?_⟩
      rw [oWin_emb, cell_val hx]
      simp only [unitNo]; omega
  · iapply (pointsTo_join_subset (oWin_sub L u)) $$ H

/-- One unit of a tile's work. -/
theorem wp_unit (X : Vec F S11520000 .f32) (A : Vec F S155648 .f32) (hA : TableOK A) (qx qt : PosShare TreeShare)
    (O : CellTallies nD τ sig (HIx 1)) (W : Waits sig (HIx 1)) (hx ht ho hxB hoB htB v1) (u : Fin k0_t1_loop.trips) (a : Unit) :
    unitInv d L X A qx qt O W u a
      ⊢ wp frame (wpE (defs₀ (F := F)) 𝒱₀ (V d (cV L) (jV L)) none) Set.univ
          (k0_t1_body (F := F) L xA hx tA ht oA ho xB hxB oB hoB tB htB cc0_scoped0 cc0_scoped1 cc0_scoped2 v1 laneNo u a)
          (unitInv d L X A qx qt O W (u.val + 1)) := by
  unfold k0_t1_body
  simp only [k0_part16_eq_skeleton]
  unfold k0_part16_skel unitInv
  iintro ⟨Hmw, Hx, Ht, ⟨%fo, %hfo, Ho⟩, ⟨%s, Hs⟩, ⟨%f, Hf⟩, ⟨%t, HtB⟩, Ha, Hb, Hc, %W', %hW', HO⟩
  sl_exec
  have eT : View.write (Elt F) tB.view t (wp_unit.sl.dma0 L A u) Finset.univ = tableRow A (unitNo L u.val / 3) :=
    (View.write_whole_univ cc0_scratch2 _ _).trans (read_row L A u)
  have eX : View.write (Elt F) xB.view s (wp_unit.sl.dma0_1 L X u) Finset.univ = unitOf X (unitNo L u.val) :=
    (View.write_whole_univ cc0_scratch0 _ _).trans (read_unit L X u)
  rw [eT, eX]
  have hrow : InRange (tableRow A (unitNo L u.val / 3)) := hA _ (by have := unitNo_lt L u; omega)
  simp only [bind_assoc]
  iapply (wp_groups d L (tableRow A (unitNo L u.val / 3)) (unitOf X (unitNo L u.val)) f _
    (wp_group d L _ _ hrow xA hx tA ht oA ho hxB hoB htB _ _ _ v1 _ _ u))
  isplitl [Hs]
  · iexact Hs
  isplitl [HtB]
  · iexact HtB
  isplitl [Hf]
  · iexact Hf
  iintro %_ HG
  unfold groupInv
  icases HG with ⟨Hs, HtB, %f', %hf', Hf⟩
  icases (block_split d L u fo).1 $$ Ho with ⟨Ho, Hrest⟩
  sl_exec
  sl_step
  have hg : ∀ x : S15000.Idx, (oWin L u).view.writes (Elt F) fo [⟨Rect.whole S15000, wp_unit.sl.dma0_2 f'⟩] ((oWin L u).view.emb x)
      = outAt X A (unitNo L u.val * 15000 + (x 0).val) := fun x => by
    have hx : (x 0).val < 15000 := (x 0).isLt
    have he : (unitNo L u.val * 15000 + (x 0).val) / 15000 = unitNo L u.val := by omega
    have hr : (unitNo L u.val * 15000 + (x 0).val) % 15000 = (x 0).val := by omega
    rw [oWin_writes, ← unit_filled rfl hf' he, hr]
    exact read_out f' x
  isplitl [Hmw]
  · iexact Hmw
  isplitl [Hx]
  · iexact Hx
  isplitl [Ht]
  · iexact Ht
  isplitl [Ho Hrest]
  · iapply (block_join d L X A u fo _ hfo hg)
    isplitl [Ho]
    · iexact Ho
    · iexact Hrest
  isplitl [Hs]
  · iexists _; iexact Hs
  isplitl [Hf]
  · iexists _; iexact Hf
  isplitl [HtB]
  · iexists _; iexact HtB
  isplitl [Ha]
  · iexact Ha
  isplitl [Hb]
  · iexact Hb
  isplitl [Hc]
  · iexact Hc
  iexists _
  isplitr
  swap
  · iexact HO
  ipureintro
  intro p hp
  rcases Finset.mem_insert.mp hp with hp | hp
  · exact Or.inr (by rw [hp]; rfl)
  rcases Finset.mem_insert.mp hp with hp | hp
  · exact Or.inr (by rw [hp]; rfl)
  rcases Finset.mem_insert.mp hp with hp | hp
  · exact Or.inr (by rw [hp]; rfl)
  exact hW' p hp

/-- All 24 units, over any body that does one. -/
theorem wp_units (X : Vec F S11520000 .f32) (A : Vec F S155648 .f32) (qx qt : PosShare TreeShare)
    (O : CellTallies nD τ sig (HIx 1)) (W : Waits sig (HIx 1))
    (body : Fin k0_t1_loop.trips → Unit → Prog (TpuEff nD τ sig (Elt F) Λ₀ (V (nD := nD) d (cV L) (jV L)).2) Unit)
    (hbody : ∀ (u : Fin k0_t1_loop.trips) (a : Unit), unitInv d L X A qx qt O W u a
      ⊢ wp frame (wpE (defs₀ (F := F)) 𝒱₀ (V d (cV L) (jV L)) none) Set.univ (body u a) (unitInv d L X A qx qt O W (u.val + 1))) {α : Type}
    (k : Unit → Prog (TpuEff nD τ sig (Elt F) Λ₀ (V (nD := nD) d (cV L) (jV L)).2) α) (Q : α → sProp 𝕄) :
    iprop(unitInv d L X A qx qt O W 0 ()
        ∗ (∀ a, unitInv d L X A qx qt O W 24 a -∗ wp frame (wpE (defs₀ (F := F)) 𝒱₀ (V d (cV L) (jV L)) none) Set.univ (k a) Q))
      ⊢ wp frame (wpE (defs₀ (F := F)) 𝒱₀ (V d (cV L) (jV L)) none) Set.univ
          (Scf.Loop.for k0_t1_loop k0_t1_ok ⟨⟩ body >>= k) Q := by
  iintro ⟨H, Hk⟩
  iapply (Scf.wp_for_bind frame (wpE (defs₀ (F := F)) 𝒱₀ (V d (cV L) (jV L)) none) Set.univ k0_t1_loop.lb k0_t1_loop.ub k0_t1_loop.st
    k0_t1_ok () body (unitInv d L X A qx qt O W) hbody) $$ [H]
  · iexact H
  iintro %a Ha
  iapply Hk
  rw [← trips1_eq]
  iexact Ha

end

end Cert.Proof.IdealTile

end
-- ==== Proof.IdealHost.lean ====
/-
  The kernel's operations before its SparseCore call: what they leave in the buffers, from the drawn numbers to the
  table and the flattened input the call reads.
-/
module

public import proofs.«01_k».proof.Proof.Line
public import proofs.«01_k».proof.Proof.Values
public import proofs.«01_k».proof.Proof.Gen.KernelIdeal

@[expose] public section

noncomputable section

namespace Cert.Proof.IdealHost

open Cert.KernelIdeal Cert.KernelIdeal.Gen Cert.Proof.HostLine
open Idealize.ShloMosaic Idealize.ShloMosaic.StableHlo Idealize.SL.Sem

variable {F : FTy → Type} [FloatOps F]

/-- What the buffer of `r` holds. -/
abbrev rd (W : Valuation τ sig (Elt F)) (r : Ref sig .tc) : r.ty.Contents (Elt F) := W (Proc.devRef .tc r)

/-- The clipping of the times is the pure clipping. -/
theorem clip_line : Line 284 290 (fn_clip.body (F := F) (.of main_v17) (.of main_cst_5) (.of main_cst_6) main_call1)
    (pure ⟨⟩) (fun W => rd W main_v18
      = Pre_floors_are_rows.fn_clip (F := F) (rd W main_v17) (rd W main_cst_5) (rd W main_cst_6)) := by
  apply Line.mono
  · unfold fn_clip.body
    repeat first
      | (apply Line.unary; decide; decide)
      | (apply Line.binary; decide; decide; decide)
    apply Line.done; decide
  intro W H
  refine Eq.symm ?_
  unfold Pre_floors_are_rows.fn_clip
  repeat (extract_lets -merge -useContext +onlyGivenNames v; obtain ⟨h, H⟩ := H; have k : _ = v := h; clear_value v; subst k; clear h)
  rfl

set_option maxHeartbeats 4000000 in
/-- The mixing of the counters is the pure mixing. -/
theorem mix_line : Line 30 252 (fn_threefry2x32.body (F := F) main_call0.v5 main_call0.v7 main_call0.v14 main_call0.v13
      main_call0_call0) (pure ⟨⟩) (fun W : Valuation τ sig (Elt F) =>
      Pre_floors_are_rows.fn_threefry2x32 (F := F) (val W main_call0.v5) (val W main_call0.v7) (val W main_call0.v14)
        (val W main_call0.v13) = (val W main_call0_call0.v171, val W main_call0_call0.v175)) := by
  apply Line.mono
  · unfold fn_threefry2x32.body
    apply Line.bind
    · unfold fn_threefry2x32.body_part0
      repeat first
        | (apply Line.binary; decide; decide; decide)
        | (apply Line.unary; decide; decide)
        | (apply Line.nullary; decide)
      exact Line.done (Nat.le_refl _)
    apply Line.bind
    · unfold fn_threefry2x32.body_part1
      repeat first
        | (apply Line.binary; decide; decide; decide)
        | (apply Line.unary; decide; decide)
        | (apply Line.nullary; decide)
      exact Line.done (Nat.le_refl _)
    apply Line.bind
    · unfold fn_threefry2x32.body_part2
      repeat first
        | (apply Line.binary; decide; decide; decide)
        | (apply Line.unary; decide; decide)
        | (apply Line.nullary; decide)
      exact Line.done (Nat.le_refl _)
    · unfold fn_threefry2x32.body_part3
      repeat first
        | (apply Line.binary; decide; decide; decide)
        | (apply Line.unary; decide; decide)
        | (apply Line.nullary; decide)
      exact Line.done (by decide)
  intro W H
  unfold Pre_floors_are_rows.fn_threefry2x32
  obtain ⟨H, H'⟩ := (⟨H.1, H.2.1, H.2.2.1, H.2.2.2, trivial⟩ : _ ∧ _ ∧ _ ∧ _ ∧ True)
  repeat first
    | (extract_lets -merge -useContext +onlyGivenNames v; obtain ⟨h, H⟩ := H; have k : _ = v := h; clear_value v; subst k; clear h)
    | unfold Pre_floors_are_rows.fn_threefry2x32_part1
    | unfold Pre_floors_are_rows.fn_threefry2x32_part2
    | unfold Pre_floors_are_rows.fn_threefry2x32_part3
    | unfold Pre_floors_are_rows.fn_threefry2x32_part4
    | unfold Pre_floors_are_rows.fn_threefry2x32_part5
    | unfold Pre_floors_are_rows.fn_threefry2x32_part6
    | unfold Pre_floors_are_rows.fn_threefry2x32_part7
    | unfold Pre_floors_are_rows.fn_threefry2x32_part8
    | unfold Pre_floors_are_rows.fn_threefry2x32_part9
    | (clear H; obtain ⟨H, H'⟩ := H')
  rfl

set_option maxHeartbeats 4000000 in
/-- The draw is the pure draw. -/
theorem uniform_line : Line 13 270 (fn_uniform.body (F := F) (.of main_v6) (.of main_cst) (.of main_cst_2) main_call0)
    (pure ⟨⟩) (fun W => rd W main_v7
      = Pre_floors_are_rows.fn_uniform (F := F) (rd W main_v6) (rd W main_cst) (rd W main_cst_2)) := by
  apply Line.mono
  · unfold fn_uniform.body
    repeat first
      | apply Line.bind mix_line
      | (apply Line.binary; decide; decide; decide)
      | (apply Line.unary; decide; decide)
      | (apply Line.nullary; decide)
      | (apply Line.reshape; decide; decide)
    exact Line.done (by decide)
  intro W H
  refine Eq.symm ?_
  unfold Pre_floors_are_rows.fn_uniform
  repeat first
    | (obtain ⟨hm, H⟩ := H
       replace H := And.intro (congrArg Prod.fst hm).symm (And.intro (congrArg Prod.snd hm).symm H); clear hm)
    | (extract_lets -merge -useContext +onlyGivenNames v; obtain ⟨h, H⟩ := H; have k : _ = v := h; clear_value v
       subst k; clear h)
    | unfold Pre_floors_are_rows.fn_uniform_part1
  rfl

/-- What follows the host's preparations: the SparseCore call, and its result given the output's shape. -/
def tail (d : Dev nD) :
    Prog (TpuEff nD τ sig (Elt F) (SparseCore.Sig (Pipeline.Sig Λ₀ (Fin 0) fun p => (pcfgs (F := F) p).Adm) 1) .tc) PUnit := do
  sc.run d 0
  hlo rfl (StableHlo.reshape main_v28 main_v29 (rfl : (.f32 : EltTy) = .f32) shapeCasts_S11520000_S256x3x300x25x2)
    (fun _ => .ret ⟨⟩)
  pure ⟨⟩

/-- The table the call reads, as the host fills it: floors in columns 0 to 299, the times past them in columns 304 to
    603, zeros elsewhere. -/
def table (F : FTy → Type) [FloatOps F] : FVec F S256x608 .f32 :=
  Host.scatter scatter_S256x608_S1_S256x300_01_n_1_0 (fun _ b => b)
    (Host.scatter scatter_S256x608_S1_S256x300_01_n_1_0 (fun _ b => b)
      (broadcastInDim S256x608 ![] bcast_S_S256x608 (constant S_ .f32 0x00000000#32))
      (broadcastInDim S1 ![] bcast_S_S1 (constantI S_ 32 0#32)) (Values.floor F))
    (broadcastInDim S1 ![] bcast_S_S1 (constantI S_ 32 304#32)) (subf (Values.time F) (Values.floor F))

set_option maxHeartbeats 4000000 in
/-- What the host's preparations leave: the speeds, the input flattened, the table flattened. -/
theorem main_line (d : Dev nD) : Line 1 302 (main (F := F) d) (tail d) (fun W =>
    rd W main_v11 = Values.speed F
    ∧ rd W main_v26 = shapeCast S11520000 (rd W main_arg0) shapeCasts_S256x3x300x25x2_S11520000
    ∧ rd W main_v27 = shapeCast S155648 (table F) shapeCasts_S256x608_S155648) := by
  apply Line.mono
  · unfold main
    repeat first
      | apply Line.bind uniform_line
      | apply Line.bind clip_line
      | (apply Line.nullary'; decide)
      | (apply Line.unary'; decide; decide)
      | (apply Line.binary'; decide; decide; decide)
      | (apply Line.ternary'; decide; decide; decide; decide)
      | (apply Line.reshape'; decide; decide)
    exact Line.done (by decide)
  intro W H
  obtain ⟨c, c0, v0, v1, v2, c1, v3, v4, v5, v6, cst, cst2, v7, cst3, v8, v9, cst4, v10, v11, v12, v13, v14, v15, v16,
    v17, cst5, cst6, v18, v19, v20, cst7, v21, c8, v22, v23, c9, v24, v25, v26, v27, -⟩ := H
  unfold rd at *
  have e6 : W (Proc.devRef .tc main_v6) = Values.key := by rw [v6, v2, v5, v1, v4, v0, v3, c, c0, c1]; rfl
  have e11 : W (Proc.devRef .tc main_v11) = Values.speed F := by
    rw [v11, v9, v10, cst4, v7, v8, cst3, e6, cst, cst2]; rfl
  have e18 : W (Proc.devRef .tc main_v18) = Values.time F := by
    rw [v18, v17, v15, v16, v13, v14, v12, cst5, cst6, e11]; rfl
  refine ⟨e11, ?_, ?_⟩
  · rw [v26]; rfl
  · rw [v27, v25, v23, v24, v21, v22, c8, c9, cst7, v20, v19, e18]; rfl

end Cert.Proof.IdealHost
-- ==== Proof.IdealLaunch.lean ====
/-
  The launch: each tile's task from what it is handed, the hand-out to the thirty-two tiles and back, the host's program
  around the call, and what a run of the whole program ends with.
-/
module

public import proofs.«01_k».proof.Proof.IdealTile
public import proofs.«01_k».proof.Proof.IdealHost
public import Idealize.ShloMosaic.Lib.Pipeline.FrameTail

@[expose] public section

noncomputable section

namespace Cert.Proof.IdealLaunch

open Cert.KernelIdeal Cert.KernelIdeal.Gen Cert.Proof.Words Cert.Proof.IdealTile
open Idealize.ShloMosaic Idealize.ShloMosaic.StableHlo
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The program as the launch theorem sees it -/

/-- The labels of the whole program. -/
abbrev ΛP : Labels := Pipeline.Sig Λ₀ (Fin 0) fun p => (pcfgs (F := F) p).Adm
/-- The SparseCore calls' configuration. -/
abbrev K : SparseCore.Cfg τ sig (ΛP (F := F)) 1 := sc (F := F)
/-- The whole program's definitions. -/
abbrev D : Defs nD τ sig (Elt F) (ΛP (F := F)) := Pipeline.defs pcfgs defs₀
/-- The whole program's variants. -/
abbrev 𝒱 : Variants := 𝒱₀.lift
/-- The variant that no loop uses. -/
abbrev v₀ : 𝒱.V := Sum.inl none
/-- Where the handshakes lie in the ghost state. -/
abbrev EH : Emb UH (MT nD τ sig (HIx 1) (Elt F) ℕ UU ℕ) := embL

/-- The call runs on two SparseCores. -/
theorem nCore_zero : (K (F := F)).nCore 0 = 2 := rfl
/-- The call runs on 16 tiles of each. -/
theorem nSub_zero : (K (F := F)).nSub 0 = 16 := rfl

/-- The configuration's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## What the tiles are handed -/

/-- The share of the input and of the table that a SparseCore reads through, and a tile of it. -/
def coreShare (c : Fin 2) : PosShare TreeShare := Transfers.dealOf fullShare Finset.univ c
/-- A tile's read share of an array that all tiles read. -/
def tileShare (c : Fin 2) (i : Fin 16) : PosShare TreeShare := Transfers.dealOf (coreShare c) Finset.univ i

/-- The result's places that tile `i` of SparseCore `c` writes, and that the core's tiles write. -/
def tileSet (c : Fin 2) (i : Fin 16) : Finset S11520000.Idx := block (2 * i.val + c.val)
/-- The entries of the output that a SparseCore's tiles write. -/
def coreSet (c : Fin 2) : Finset S11520000.Idx := Finset.univ.biUnion (tileSet c)

/-- A tile's part of the three arrays: the input at `X`, the table at `A`, the result at `f`. -/
abbrev tileHas (d : Dev nD) (c : Fin 2) (i : Fin 16) (X : Vec F S11520000 .f32) (A : Vec F S155648 .f32) (f : Vec F S11520000 .f32) :
    sProp 𝕄 :=
  iprop((xLoc d ↦{tileShare c i} X) ∗ (tLoc d ↦{tileShare c i} A) ∗ oLoc d ↦[tileSet c i]{fullShare} f)

/-- A SparseCore's part. -/
abbrev coreHas (d : Dev nD) (c : Fin 2) (X : Vec F S11520000 .f32) (A : Vec F S155648 .f32) (f : Vec F S11520000 .f32) : sProp 𝕄 :=
  iprop((xLoc d ↦{coreShare c} X) ∗ (tLoc d ↦{coreShare c} A) ∗ oLoc d ↦[coreSet c]{fullShare} f)

/-- Two tiles of a SparseCore write different entries. -/
theorem tileSet_disjoint (c : Fin 2) : ∀ i ∈ (Finset.univ : Finset (Fin 16)), ∀ j ∈ (Finset.univ : Finset (Fin 16)), i ≠ j →
    Disjoint (tileSet c i) (tileSet c j) := fun i _ j _ h => Finset.disjoint_left.mpr fun y hi hj => by
  rw [tileSet, mem_block] at hi hj
  exact h (Fin.ext (by omega))

/-- Two SparseCores write different entries. -/
theorem coreSet_disjoint : ∀ c ∈ (Finset.univ : Finset (Fin 2)), ∀ c' ∈ (Finset.univ : Finset (Fin 2)), c ≠ c' →
    Disjoint (coreSet c) (coreSet c') := fun c _ c' _ h => Finset.disjoint_left.mpr fun y hc hc' => by
  obtain ⟨i, -, hi⟩ := Finset.mem_biUnion.mp hc
  obtain ⟨j, -, hj⟩ := Finset.mem_biUnion.mp hc'
  rw [tileSet, mem_block] at hi hj
  exact h (Fin.ext (by omega))

/-- The two SparseCores write the whole output. -/
theorem coreSet_cover : (Finset.univ : Finset (Fin 2)).biUnion coreSet = Finset.univ := by
  refine Finset.eq_univ_of_forall fun y => ?_
  have hy : (y 0).val < 11520000 := (y 0).isLt
  refine Finset.mem_biUnion.mpr ⟨⟨(y 0).val / 360000 % 2, by omega⟩, Finset.mem_univ _,
    Finset.mem_biUnion.mpr ⟨⟨(y 0).val / 360000 / 2, by omega⟩, Finset.mem_univ _, ?_⟩⟩
  rw [tileSet, mem_block]
  show _ = 2 * ((y 0).val / 360000 / 2) + (y 0).val / 360000 % 2
  omega

/-- A SparseCore's part is its tiles' parts. -/
theorem core_split (d : Dev nD) (c : Fin 2) (X : Vec F S11520000 .f32) (A : Vec F S155648 .f32) (f : Vec F S11520000 .f32) :
    (coreHas d c X A f : sProp 𝕄) = bigSep Finset.univ fun i : Fin 16 => tileHas d c i X A f := by
  rw [bigSep_sep', bigSep_sep']
  unfold coreHas coreSet tileShare
  rw [Transfers.pointsTo_deal (ℓ := xLoc d) (Finset.univ : Finset (Fin 16)) Finset.univ_nonempty (coreShare c),
    Transfers.pointsTo_deal (ℓ := tLoc d) (Finset.univ : Finset (Fin 16)) Finset.univ_nonempty (coreShare c),
    pointsTo_biUnion (ℓ := oLoc d) Finset.univ (tileSet c) (tileSet_disjoint c)]

/-- The three arrays whole are the two SparseCores' parts. -/
theorem arrays_split (d : Dev nD) (X : Vec F S11520000 .f32) (A : Vec F S155648 .f32) (f : Vec F S11520000 .f32) :
    (iprop((xLoc d ↦{fullShare} X) ∗ (tLoc d ↦{fullShare} A) ∗ oLoc d ↦{fullShare} f) : sProp 𝕄)
      = bigSep Finset.univ fun c : Fin 2 => coreHas d c X A f := by
  rw [bigSep_sep', bigSep_sep']
  unfold coreShare
  rw [Transfers.pointsTo_deal (ℓ := xLoc d) (Finset.univ : Finset (Fin 2)) Finset.univ_nonempty fullShare,
    Transfers.pointsTo_deal (ℓ := tLoc d) (Finset.univ : Finset (Fin 2)) Finset.univ_nonempty fullShare,
    ← pointsTo_biUnion (ℓ := oLoc d) Finset.univ coreSet coreSet_disjoint, coreSet_cover]

/-! ## A tile's task -/

section Task

variable (d : Dev nD) (L : grid0.Coords)

/-- The counter of a tile's copies of the table's rows. -/
abbrev cell0 (d : Dev nD) (c : Fin τ.nSC) (i : Fin τ.nSub) : GSem nD τ sig := (V d c i, .dma cc0_scoped0.sem)
/-- The counter of a tile's copies of the input. -/
abbrev cell1 (d : Dev nD) (c : Fin τ.nSC) (i : Fin τ.nSub) : GSem nD τ sig := (V d c i, .dma cc0_scoped1.sem)
/-- The counter of a tile's copies to the output. -/
abbrev cell2 (d : Dev nD) (c : Fin τ.nSC) (i : Fin τ.nSub) : GSem nD τ sig := (V d c i, .dma cc0_scoped2.sem)

/-- The three transfer cells are among the subcore's own. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0
          ∗ bigSep ((((ownCells (V d (cV L) (jV L))).erase (cell0 d (cV L) (jV L))).erase (cell1 d (cV L) (jV L))).erase (cell2 d (cV L) (jV L)))
              fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩)]

/-- The three scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-- A task's part of the arrays, read through any shares. -/
abbrev taskHas (qx qt : PosShare TreeShare) (X : Vec F S11520000 .f32) (A : Vec F S155648 .f32) (f : Vec F S11520000 .f32) : sProp 𝕄 :=
  iprop((xLoc d ↦{qx} X) ∗ (tLoc d ↦{qt} A) ∗ oLoc d ↦[block (tileNo L)]{fullShare} f)

/-- A tile's task, from its part of the arrays: its block of the result is left as `outV` says. -/
theorem task_body (hF : (K (F := F)).Facts) (X : Vec F S11520000 .f32) (A : Vec F S155648 .f32) (f₀ : Vec F S11520000 .f32)
    (hA : TableOK A) (qx qt : PosShare TreeShare) (O : CellTallies nD τ sig (HIx 1)) (W : Waits sig (HIx 1)) (hO : ∀ g, O g none = 0) :
    iprop(levAts (K (F := F)).L (K (F := F)).lev ∗ emp
        ∗ taskHas d L qx qt X A f₀
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_call L xA (Memref.isWhole_whole _) tA (Memref.isWhole_whole _) oA (Memref.isWhole_whole _)
            xB (Memref.isWhole_whole _) oB (Memref.isWhole_whole _) tB (Memref.isWhole_whole _) cc0_scoped0 cc0_scoped1 cc0_scoped2)
          fun _ => iprop(taskHas d L qx qt X A (outV X A)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_sc_call_eq_skeleton]; unfold cc0_sc_call_skel
  rw [(K (F := F)).scopedBufs_V hF d (cV L) (jV L), SparseCore.Cfg.scopedSems0_V (Val := Elt F) d (cV L) (jV L), ownSems0_V, ownBufs_V]
  iintro ⟨#Hlv, -, ⟨Hx, Ht, Ho⟩, ⟨⟨%s, Hs⟩, ⟨%f, Hf⟩, ⟨%t, HtB⟩, Hbufs⟩, ⟨Ha, Hb, Hc, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_units d L X A qx qt O W _ (fun u a => wp_unit d L X A hA qx qt O W _ _ _ _ _ _ _ u a))
  isplitl [Hmw Hx Ht Ho Hs Hf HtB Ha Hb Hc HO]
  · unfold unitInv
    isplitl [Hmw]; · iexact Hmw
    isplitl [Hx]; · iexact Hx
    isplitl [Ht]; · iexact Ht
    isplitl [Ho]
    · iexists f₀; isplitr
      · ipureintro; intro y hlo hhi; omega
      · iexact Ho
    isplitl [Hs]; · iexists _; iexact Hs
    isplitl [Hf]; · iexists _; iexact Hf
    isplitl [HtB]; · iexists _; iexact HtB
    isplitl [Ha]; · iexact Ha
    isplitl [Hb]; · iexact Hb
    isplitl [Hc]; · iexact Hc
    iexists W; isplitr
    · ipureintro; exact fun p hp => .inl hp
    · iexact HO
  iintro %a HI
  unfold unitInv
  icases HI with ⟨-, Hx, Ht, ⟨%g, %hg, Ho⟩, ⟨%s', Hs⟩, ⟨%f', Hf⟩, ⟨%t', HtB⟩, Ha, Hb, Hc, HO⟩
  rw [wp_pure]
  imodintro
  isplitl [Hx Ht Ho]
  · isplitl [Hx]; · iexact Hx
    isplitl [Ht]; · iexact Ht
    iapply (Entails.of_eq (pointsTo_congr (ℓ := oLoc d) (q := fullShare) fun y hy => by
      have hb := mem_block.mp hy
      exact hg y (by omega) (by omega)))
    iexact Ho
  isplitl [Hs Hf HtB Hbufs]
  · isplitl [Hs]; · iexists _; iexact Hs
    isplitl [Hf]; · iexists _; iexact Hf
    isplitl [HtB]; · iexists _; iexact HtB
    iexact Hbufs
  isplitl [Ha Hb Hc Hsems]
  · isplitl [Ha]; · iexact Ha
    isplitl [Hb]; · iexact Hb
    isplitl [Hc]; · iexact Hc
    iexact Hsems
  iexact HO

end Task

/-! ## The hand-out -/

section Run

variable (X : Dev nD → Vec F S11520000 .f32) (A : Vec F S155648 .f32) (Y : Dev nD → Vec F S11520000 .f32)

/-- The call hands each SparseCore its part of the arrays, each tile its own; the result comes back as `outV` says. -/
def P : (K (F := F)).Pay (nD := nD) (Val := Elt F) (Name := ℕ) (U := UU) where
  st := fun q d c => match q with | 0 => coreHas d (Fin.cast nCore_zero c) (X d) A (Y d)
  dn := fun q d c => match q with | 0 => coreHas d (Fin.cast nCore_zero c) (X d) A (outV (X d) A)
  go := fun q d c i => match q with | 0 => tileHas d (Fin.cast nCore_zero c) (Fin.cast nSub_zero i) (X d) A (Y d)
  td := fun q d c i => match q with | 0 => tileHas d (Fin.cast nCore_zero c) (Fin.cast nSub_zero i) (X d) A (outV (X d) A)
  x := fun _ _ => iprop(emp)

/-- What the call hands over can be kept in the handshakes. -/
instance P_storable : (P X A Y).IsStorable where
  st q d c := match q with
    | 0 => (inferInstance : BI.Storable (upEmb : UEmb _ 𝕄) (coreHas d (Fin.cast nCore_zero c) (X d) A (Y d)))
  dn q d c := match q with
    | 0 => (inferInstance : BI.Storable (upEmb : UEmb _ 𝕄) (coreHas d (Fin.cast nCore_zero c) (X d) A (outV (X d) A)))
  go q d c i := match q with
    | 0 => (inferInstance : BI.Storable (upEmb : UEmb _ 𝕄) (tileHas d (Fin.cast nCore_zero c) (Fin.cast nSub_zero i) (X d) A (Y d)))
  td q d c i := match q with
    | 0 => (inferInstance : BI.Storable (upEmb : UEmb _ 𝕄) (tileHas d (Fin.cast nCore_zero c) (Fin.cast nSub_zero i) (X d) A (outV (X d) A)))

/-- The grid point of a SparseCore and a tile. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs is the kernel's body at its grid point. -/
theorem defs₀_vector (c : Fin τ.nSC) (s : Fin τ.nSub) :
    defs₀ (F := F) (.scVector c s) 0 ()
      = SparseCore.onTile hcore0 hsub0 (fun c s => cc0_sc_call (coordsV c s)
          xA (Memref.isWhole_whole _) tA (Memref.isWhole_whole _) oA (Memref.isWhole_whole _)
          xB (Memref.isWhole_whole _) oB (Memref.isWhole_whole _) tB (Memref.isWhole_whole _) cc0_scoped0 cc0_scoped1 cc0_scoped2) ⟨⟩ c s := rfl

/-- What a tile's run leaves, with the list of its waits as loose as the launch asks for. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task is as the launch theorem asks. -/
theorem tileObl (hF : (K (F := F)).Facts) (hA : TableOK A) : (K (F := F)).TileObl (D (F := F)) 𝒱 (P X A Y) v₀ 0 := by
  intro d c i O W hO _ _
  simp only [show (P X A Y).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task_body d (coordsV ⟨_, hci.1⟩ ⟨_, hci.2⟩) hF (X d) A (Y d) hA _ _ O W hO).trans (wp_mono frame _ _ fun _ => obl_post)

/-- A product over the 16 tiles, as the launch numbers them. -/
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A product over the two SparseCores, as the launch numbers them. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's part is dealt to its tiles and gathered from them. -/
theorem vecSplit : (K (F := F)).VecSplit' (P X A Y) 0 := by
  intro d c
  show coreHas d (Fin.cast nCore_zero c) (X d) A (Y d) ⊢ |={Set.univ}=> iprop(
      (bigSep Finset.univ fun i : Fin ((K (F := F)).nSub 0) => tileHas d (Fin.cast nCore_zero c) (Fin.cast nSub_zero i) (X d) A (Y d))
      ∗ ((bigSep Finset.univ fun i : Fin ((K (F := F)).nSub 0) => tileHas d (Fin.cast nCore_zero c) (Fin.cast nSub_zero i) (X d) A (outV (X d) A))
          -∗ coreHas d (Fin.cast nCore_zero c) (X d) A (outV (X d) A)))
  rw [bigSep_tiles (fun i => tileHas d (Fin.cast nCore_zero c) i (X d) A (Y d)),
    bigSep_tiles (fun i => tileHas d (Fin.cast nCore_zero c) i (X d) A (outV (X d) A)), ← core_split, ← core_split]
  iintro H; imodintro
  isplitl [H]; · iexact H
  iintro H; iexact H

/-- What the call hands to the SparseCores. -/
theorem st0_eq (d : Dev nD) : (bigSep Finset.univ fun c : Fin ((K (F := F)).nCore 0) => (P X A Y).st 0 d c)
    = (iprop((xLoc d ↦{fullShare} X d) ∗ (tLoc d ↦{fullShare} A) ∗ oLoc d ↦{fullShare} Y d) : sProp 𝕄) :=
  (bigSep_cores fun c => coreHas d c (X d) A (Y d)).trans (arrays_split d (X d) A (Y d)).symm

/-- What the SparseCores hand back. -/
theorem dn0_eq (d : Dev nD) : (bigSep Finset.univ fun c : Fin ((K (F := F)).nCore 0) => (P X A Y).dn 0 d c)
    = (iprop((xLoc d ↦{fullShare} X d) ∗ (tLoc d ↦{fullShare} A) ∗ oLoc d ↦{fullShare} outV (X d) A) : sProp 𝕄) :=
  (bigSep_cores fun c => coreHas d c (X d) A (outV (X d) A)).trans (arrays_split d (X d) A (outV (X d) A)).symm

/-! ## The launch element -/

/-- The ghost state at the launch. -/
def u₀ : UU := (initOf (K (F := F)).hsCells (K (F := F)).hsToks, 1)

/-- A product of nothings is nothing. -/
theorem bigSep_emp' {I : Type} (s : Finset I) : (bigSep s fun _ => iprop(emp)) = (iprop(emp) : sProp 𝕄) := bigSep_emp_const s

/-- The ghost state at the launch gives each thread its part. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X A Y).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P X A Y).x q thr) = bigSep Finset.univ fun _ => iprop(emp) from
    bigSep_congr fun _ _ => bigSep_univ_of_subsingleton (0 : Fin 1), bigSep_emp']
  iempintro

end Run

/-! ## @main on the TensorCore -/

section Main

variable (m : (ℓ : Loc nD τ sig) → Buf (Elt F) ℓ) (ρ : Dev nD → PrngReg)

/-- The call's input. -/
abbrev x' : DevRef τ sig := Proc.devRef .tc (main_v26 : Ref sig .tc)
/-- The call's table. -/
abbrev t' : DevRef τ sig := Proc.devRef .tc (main_v27 : Ref sig .tc)
/-- The call's output. -/
abbrev o' : DevRef τ sig := Proc.devRef .tc (main_v28 : Ref sig .tc)
/-- The program's argument. -/
abbrev a' : DevRef τ sig := Proc.devRef .tc (main_arg0 : Ref sig .tc)
/-- The speeds, the second result. -/
abbrev s' : DevRef τ sig := Proc.devRef .tc (main_v11 : Ref sig .tc)
/-- The warped sequence, the first result. -/
abbrev r' : DevRef τ sig := Proc.devRef .tc (main_v29 : Ref sig .tc)

/-- The call's arrays, and the arrays the claims read at the end. -/
abbrev callRefs : Finset (DevRef τ sig) := {x', t', o'}
/-- What the claims read at the end. -/
abbrev endRefs : Finset (DevRef τ sig) := {a', s', r'}

/-- The call's three arrays out of the memory held. -/
theorem held_call (d : Dev nD) (W : Valuation τ sig (Elt F)) :
    (held (T d) callRefs W : sProp 𝕄) = iprop((xLoc d ↦{fullShare} W x') ∗ (tLoc d ↦{fullShare} W t') ∗ oLoc d ↦{fullShare} W o') := by
  unfold held callRefs
  rw [SparseCore.bigSep_insert' (by decide), SparseCore.bigSep_insert' (by decide), bigSep_singleton]

/-- What the call leaves alone. -/
theorem held_rest (d : Dev nD) (W : Valuation τ sig (Elt F)) (f : o'.ty.Contents (Elt F)) :
    (held (T d) (Pipeline.ucRefs τ sig \ callRefs) (Function.update W o' f) : sProp 𝕄)
      = held (T d) (Pipeline.ucRefs τ sig \ callRefs) W :=
  held_congr (T d) fun b hb => Function.update_of_ne (fun e => (Finset.mem_sdiff.mp hb).2 (by rw [e]; decide)) _ _

/-- Where the argument lies. -/
abbrev aLoc (d : Dev nD) : Loc nD τ sig := (SparseCore.T d).loc main_arg0
/-- Where the speeds lie. -/
abbrev sLoc (d : Dev nD) : Loc nD τ sig := (SparseCore.T d).loc main_v11
/-- Where the warped sequence lies. -/
abbrev rLoc (d : Dev nD) : Loc nD τ sig := (SparseCore.T d).loc main_v29

/-- The arrays that the claims read out of the memory held. -/
theorem held_end (d : Dev nD) (W : Valuation τ sig (Elt F)) :
    (held (T d) endRefs W : sProp 𝕄) = iprop((aLoc d ↦{fullShare} W a') ∗ (sLoc d ↦{fullShare} W s') ∗ rLoc d ↦{fullShare} W r') := by
  unfold held endRefs
  rw [SparseCore.bigSep_insert' (by decide), SparseCore.bigSep_insert' (by decide), bigSep_singleton]

/-- The call's arrays are among those held. -/
theorem callRefs_sub : callRefs ⊆ Pipeline.ucRefs τ sig := by
  intro b hb
  simp only [callRefs, Finset.mem_insert, Finset.mem_singleton] at hb
  rcases hb with rfl | rfl | rfl <;> exact Pipeline.devRef_mem_ucRefs rfl

/-- The arrays that the claims read are among those held. -/
theorem endRefs_sub : endRefs ⊆ Pipeline.ucRefs τ sig := by
  intro b hb
  simp only [endRefs, Finset.mem_insert, Finset.mem_singleton] at hb
  rcases hb with rfl | rfl | rfl <;> exact Pipeline.devRef_mem_ucRefs rfl

/-- The input flattened, the table flattened, and the result given the output's shape. -/
def flatX (d : Dev nD) : Vec F S11520000 .f32 := shapeCast S11520000 (m (aLoc d)) shapeCasts_S256x3x300x25x2_S11520000
/-- The table as the call gets it: the host's rows end to end. -/
def flatTable (F : FTy → Type) [FloatOps F] : Vec F S155648 .f32 := shapeCast S155648 (IdealHost.table F) shapeCasts_S256x608_S155648
/-- The first result: the call's output in the argument's shape. -/
def result (d : Dev nD) : Vec F S256x3x300x25x2 .f32 :=
  shapeCast S256x3x300x25x2 (outV (flatX m d) (flatTable F)) shapeCasts_S11520000_S256x3x300x25x2

/-- The call's arrays as this program hands them. -/
abbrev PM : (K (F := F)).Pay (nD := nD) (Val := Elt F) (Name := ℕ) (U := UU) := P (flatX m) (flatTable F) (fun d => m (oLoc d))

/-- What @main leaves the claims: the input as it was, the speeds, the result. -/
abbrev FIN (d : Dev nD) : sProp 𝕄 :=
  iprop((aLoc d ↦{fullShare} m (aLoc d)) ∗ (sLoc d ↦{fullShare} Values.speed F) ∗ rLoc d ↦{fullShare} result m d)

/-- The reshape of the call's output. -/
abbrev opCast : HloOp τ sig (Elt F) :=
  StableHlo.reshape main_v28 main_v29 (rfl : (.f32 : EltTy) = .f32) shapeCasts_S11520000_S256x3x300x25x2

/-- The reshape works on arrays that are held. -/
theorem opCast_bufs : (opCast (F := F)).bufs ⊆ Pipeline.ucRefs τ sig :=
  Pipeline.sub_ucRefs _ (reshape_bufs_sub _ _ _ _ _ _)

/-- @main on a device's TensorCore: the host's line, the call, the last reshape. -/
theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨ops, hmain, hord, hval⟩ := IdealHost.main_line (F := F) d
  have hW := hval _ (hord.fix fun b => m (d, b))
  have ha := hord.keep (fun b => m (d, b)) main_arg0 (Or.inl (by decide))
  have ho := hord.keep (fun b => m (d, b)) main_v28 (Or.inr (by decide))
  generalize hV : after ops (fun b => m (d, b)) = V at hW ha ho
  obtain ⟨hs, hx, ht⟩ := hW
  rw [hmain]
  unfold SparseCore.Cfg.tcRes SparseCore.Cfg.tcEnd
  rw [show (unscopedBufs d (fun b => m ((SparseCore.T d).loc b)) : sProp 𝕄) = held (T d) (Pipeline.ucRefs τ sig) (fun b => m (d, b)) from
    Pipeline.unscopedBufs_held d (fun b => m (d, b))]
  iintro ⟨#Hctx, Hst, ⟨Hb, Hheld, Hts, -⟩, -⟩
  iapply (wp_seq 𝒱 none Set.univ d (Pipeline.ucRefs τ sig) (fun _ => IdealHost.tail d) ops
    (fun op h => Pipeline.sub_ucRefs op (hord.bufs_sub op h)) hord.no_fresh (fun b => m (d, b))) $$ [Hb Hheld]
  · isplitl [Hb] <;> iassumption
  rw [hV]
  iintro ⟨Hb, Hheld⟩
  ihave Hh := (Entails.of_eq (held_sub_split (T d) callRefs_sub V)) $$ Hheld
  icases Hh with ⟨Hcall, Hrest⟩
  ihave Hcall := (Entails.of_eq (held_call d V)) $$ Hcall
  icases Hcall with ⟨Hx, Ht, Ho⟩
  unfold IdealHost.tail
  simp only [wp_bind, wp_pure]
  iapply ((K (F := F)).wp_run (D (F := F)) 𝒱 (EH := EH) (P := PM m) κ d 0) $$ [Hst Hx Ht Ho Hb Hts Hrest]
  isplitr; · iexact Hctx
  isplitl [Hst]; · iexact Hst
  isplitl [Hx Ht Ho]
  · rw [st0_eq, ← ho, show flatX m d = V x' by rw [flatX, ← ha]; exact hx.symm, show flatTable F = V t' from ht.symm]
    isplitl [Hx]; · iexact Hx
    isplitl [Ht]; · iexact Ht
    iexact Ho
  iintro ⟨Hst, Hdn⟩
  ihave Hdn := (Entails.of_eq (dn0_eq _ _ _ d)) $$ Hdn
  icases Hdn with ⟨Hx, Ht, Ho⟩
  iapply (wp_hlo_within 𝒱 (SparseCore.T d) none Set.univ (op := opCast) (S := Pipeline.ucRefs τ sig) opCast_bufs
    (V := Function.update V o' (outV (flatX m d) (flatTable F)))) $$ [Hb Hx Ht Ho Hrest]
  · isplitl [Hb]; · iexact Hb
    rw [held_sub_split (T d) callRefs_sub, held_call, Function.update_self, Function.update_of_ne (show x' ≠ o' by decide),
      Function.update_of_ne (show t' ≠ o' by decide),
      show (V x' : Vec F S11520000 .f32) = flatX m d by rw [flatX, ← ha]; exact hx,
      show (V t' : Vec F S155648 .f32) = flatTable F from ht]
    isplitl [Hx Ht Ho]
    · isplitl [Hx]; · iexact Hx
      isplitl [Ht]; · iexact Ht
      iexact Ho
    · rw [held_rest]; iexact Hrest
  iintro ⟨Hb, Hheld⟩
  ihave Hh := (Entails.of_eq (held_sub_split (T d) endRefs_sub _)) $$ Hheld
  icases Hh with ⟨Hend, -⟩
  ihave Hend := (Entails.of_eq (held_end d _)) $$ Hend
  rw [reshape_result, reshape_result_ne _ _ _ _ _ _ _ (show main_arg0 ≠ main_v29 by decide),
    reshape_result_ne _ _ _ _ _ _ _ (show main_v11 ≠ main_v29 by decide), Function.update_self,
    Function.update_of_ne (show a' ≠ o' by decide), Function.update_of_ne (show s' ≠ o' by decide), ha]
  icases Hend with ⟨Ha, Hs, Hr⟩
  rw [wp_ret]; imodintro; imodintro
  isplitl [Hst]; · iexact Hst
  isplitr [Hb Hts]
  · isplitl [Ha]; · iexact Ha
    isplitl [Hs]
    · rw [← hs]; iexact Hs
    iexact Hr
  isplitl [Hb] <;> iassumption

/-- What the claims read of a final memory. -/
def fq (d : Dev nD) (s : Phys nD τ sig (Elt F)) : Prop :=
  s.mem.mem (aLoc d) = m (aLoc d) ∧ s.mem.mem (sLoc d) = Values.speed F ∧ s.mem.mem (rLoc d) = result m d

set_option maxRecDepth 16384 in
/-- What @main leaves gives the facts about the final memory. -/
theorem hfin (d : Dev nD) (s : Phys nD τ sig (Elt F)) : iprop(FIN m d ∗ SI s) ⊢ (⌜fq m d s⌝ : sProp 𝕄) := by
  iintro ⟨⟨Ha, Hs, Hr⟩, HSI⟩
  ihave H := (persistent_entails_right (SI_pointsTo_agree (st := s) (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s) (ℓ := sLoc d) (I := Finset.univ) (q := fullShare) (f := Values.speed F))) $$ [HSI Hs]
  · isplitl [HSI] <;> iassumption
  icases H with ⟨%h2, HSI, -⟩
  ihave H := (SI_pointsTo_agree (st := s) (ℓ := rLoc d) (I := Finset.univ) (q := fullShare) (f := result m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- What a run of the program ends with. -/
def QC : PUnit × MemSt nD τ sig (Elt F) → Prop := fun r =>
  (∀ c : Dev nD, r.2.mem (aLoc c) = m (aLoc c) ∧ r.2.mem (sLoc c) = Values.speed F ∧ r.2.mem (rLoc c) = result m c) ∧ r.2.sem = fun _ => 0

/-- The whole program's run, when every floor the table holds is a row's number. -/
theorem run_main [∀ e, Nonempty (Elt F e)] (hA : TableOK (flatTable F)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ facts hA)
    (fun q _ => match q with | 0 => SparseCore.Cfg.VecSplit.of_plain (vecSplit _ _ _))
    m ρ main (fun _ => iprop(emp)) (FIN m) (u₀ (F := F)) (sep_elim_left.trans (hu₀ _ _ _)) (hmain m ρ) (fq m) (hfin m) (QC m)
    (fun _ h hz => ⟨h, hz⟩)

end Main

end Cert.Proof.IdealLaunch
-- ==== Proof.Table.lean ====
/-
  The table the call reads, entry by entry: a row holds its sequence's floors, then the times past them, and zeros
  between.
-/
module

public import proofs.«01_k».proof.Proof.Launch
public import Idealize.ShloMosaic.Lib.Routing.OpsSet

@[expose] public section

noncomputable section

namespace Cert.Proof.Table

open Cert.Kernel Cert.Kernel.Gen Cert.Proof.Words
open Idealize.ShloMosaic

variable {F : FTy → Type} [FloatOps F]

/-- Where an update lands: its own row, its own column moved by the start. -/
theorem lands (k : BitVec 32) (j : S256x300.Idx) (y : S256x608.Idx) :
    scatter_S256x608_S1_S256x300_01_n_1_0.resultIdx? j (fun _ => k) = some y
      ↔ (j 0).val = (y 0).val ∧ k.toInt + ((j 1).val : Int) = ((y 1).val : Int) := by
  rw [Routing.resultIdx?_eq_some]
  have h0 : scatter_S256x608_S1_S256x300_01_n_1_0.start j (fun _ => k) 0 = 0 := rfl
  have h1 : scatter_S256x608_S1_S256x300_01_n_1_0.start j (fun _ => k) 1 = k.toInt := rfl
  have w0 : scatter_S256x608_S1_S256x300_01_n_1_0.window j 0 = (j 0).val := rfl
  have w1 : scatter_S256x608_S1_S256x300_01_n_1_0.window j 1 = (j 1).val := rfl
  constructor
  · intro h
    have a := h 0
    have b := h 1
    rw [h0, w0] at a
    rw [h1, w1] at b
    exact ⟨by omega, b⟩
  · rintro ⟨a, b⟩ c
    match c with
    | ⟨0, _⟩ => exact (by rw [h0, w0]; omega : scatter_S256x608_S1_S256x300_01_n_1_0.start j (fun _ => k) 0 + (scatter_S256x608_S1_S256x300_01_n_1_0.window j 0 : Int) = ((y 0).val : Int))
    | ⟨1, _⟩ => exact (by rw [h1, w1]; exact b : scatter_S256x608_S1_S256x300_01_n_1_0.start j (fun _ => k) 1 + (scatter_S256x608_S1_S256x300_01_n_1_0.window j 1 : Int) = ((y 1).val : Int))

/-- The columns of a block written at column `k` hold the block. -/
theorem block_hit (x0 : FVec F S256x608 .f32) (upd : FVec F S256x300 .f32) (k : BitVec 32) (j : S256x300.Idx)
    (y : S256x608.Idx) (h0 : (j 0).val = (y 0).val) (h1 : k.toInt + ((j 1).val : Int) = ((y 1).val : Int)) :
    Host.scatter scatter_S256x608_S1_S256x300_01_n_1_0 (fun _ b => b) x0 (broadcastInDim S1 ![] bcast_S_S1 (constantI S_ 32 k)) upd y
      = upd j :=
  Routing.scatter_set_hit _ x0 (fun _ => k) upd y (upd j)
    (fun i hi => by
      obtain ⟨a, b⟩ := (lands k i y).1 hi
      refine congrArg upd (funext fun c => Fin.ext ?_)
      match c with
      | ⟨0, _⟩ => exact (by omega : (i 0).val = (j 0).val)
      | ⟨1, _⟩ => exact (by omega : (i 1).val = (j 1).val))
    j ((lands k j y).2 ⟨h0, h1⟩)

/-- The columns before and behind the block are as they were. -/
theorem block_miss (x0 : FVec F S256x608 .f32) (upd : FVec F S256x300 .f32) (k : BitVec 32) (y : S256x608.Idx)
    (h : ((y 1).val : Int) < k.toInt ∨ k.toInt + 300 ≤ ((y 1).val : Int)) :
    Host.scatter scatter_S256x608_S1_S256x300_01_n_1_0 (fun _ b => b) x0 (broadcastInDim S1 ![] bcast_S_S1 (constantI S_ 32 k)) upd y
      = x0 y :=
  Routing.scatter_set_miss _ x0 (fun _ => k) upd y fun i hi => by
    have b := ((lands k i y).1 hi).2
    have l : (i 1).val < 300 := (i 1).isLt
    omega

/-- The flat table at row `n`, column `c`, is the table there. -/
theorem row_cell (y : S256x608.Idx) :
    tableRow (Launch.flatTable F) (y 0).val (cell 608 (y 1).val) = Host.table F y := by
  have a : (y 0).val < 256 := (y 0).isLt
  have b : (y 1).val < 608 := (y 1).isLt
  refine shapeCast_apply _ _ _ _ ?_
  rw [Shape.rowMajor_val_two, Shape.rowMajor_val_one]
  show (y 0).val * 608 + (y 1).val = ((y 0).val * 608 + (cell 608 (y 1).val 0).val) % 155648
  rw [cell_val b]
  omega

/-- An entry of the flat table, by its row and column. -/
theorem row_entry {n c : ℕ} (y : S256x608.Idx) (h0 : (y 0).val = n) (h1 : (y 1).val = c) :
    tableRow (Launch.flatTable F) n (cell 608 c) = Host.table F y := by
  subst h0 h1; exact row_cell y

/-- The place at row `n`, column `c`, of an array of rows. -/
def place {N C n c : ℕ} (hn : n < N) (hc : c < C) : (⟨2, ![N, C]⟩ : Shape).Idx := fun a => match a with
  | ⟨0, _⟩ => ⟨n, hn⟩
  | ⟨1, _⟩ => ⟨c, hc⟩

/-- The weights' column as a signed number. -/
theorem toInt_at : (304#32).toInt = 304 := by decide

/-- The floors' column as a signed number. -/
theorem toInt_start : (0#32).toInt = 0 := by decide

/-- Columns 0 to 299 of a sequence's row are its floors. -/
theorem row_floor (j : S256x300.Idx) :
    tableRow (Launch.flatTable F) (j 0).val (cell 608 (j 1).val) = Values.floor F j := by
  have a : (j 0).val < 256 := (j 0).isLt
  have b : (j 1).val < 300 := (j 1).isLt
  rw [row_entry (n := (j 0).val) (c := (j 1).val) (place a (show (j 1).val < 608 by omega)) rfl rfl]
  refine (block_miss _ _ _ _ (Or.inl ?_)).trans (block_hit _ _ _ j _ rfl ?_)
  · rw [toInt_at]; show ((j 1).val : Int) < 304; omega
  · rw [toInt_start]; show (0 : Int) + ((j 1).val : Int) = ((j 1).val : Int); omega

/-- Columns 304 to 603 are its times past the floors. -/
theorem row_past (j : S256x300.Idx) :
    tableRow (Launch.flatTable F) (j 0).val (cell 608 (304 + (j 1).val))
      = FloatOps.subf (Values.time F j) (Values.floor F j) := by
  have a : (j 0).val < 256 := (j 0).isLt
  have b : (j 1).val < 300 := (j 1).isLt
  rw [row_entry (n := (j 0).val) (c := 304 + (j 1).val) (place a (show 304 + (j 1).val < 608 by omega)) rfl rfl]
  refine block_hit _ (subf (Values.time F) (Values.floor F)) _ j _ rfl ?_
  rw [toInt_at]; show (304 : Int) + ((j 1).val : Int) = ((304 + (j 1).val : ℕ) : Int); omega

/-- Columns 300 to 303 are zero. -/
theorem row_zero {n c : ℕ} (hn : n < 256) (h0 : 300 ≤ c) (h1 : c < 304) :
    tableRow (Launch.flatTable F) n (cell 608 c) = FloatOps.ofBits .f32 0x00000000#32 := by
  rw [row_entry (n := n) (c := c) (place hn (show c < 608 by omega)) rfl rfl]
  refine (block_miss _ _ _ _ (Or.inl ?_)).trans (block_miss _ _ _ _ (Or.inr ?_))
  · rw [toInt_at]; show (c : Int) < 304; omega
  · rw [toInt_start]; show (0 : Int) + 300 ≤ (c : Int); omega

/-- Floors that name rows, and a zero that names one, make a table whose every row is in range. -/
theorem tableOK (h : ∀ j : S256x300.Idx, (FloatOps.fptosi (F := F) 32 (Values.floor F j)).toNat < 300)
    (hz : (FloatOps.fptosi (F := F) 32 (FloatOps.ofBits .f32 0x00000000#32)).toNat < 300) :
    TableOK (Launch.flatTable F) := by
  intro n hn c hc
  unfold leftOf
  by_cases h3 : c < 300
  · have e : tableRow (Launch.flatTable F) n (cell 608 c) = Values.floor F (place hn h3) := row_floor (place hn h3)
    rw [e]; exact h _
  · rw [row_zero hn (by omega) hc]; exact hz

end Cert.Proof.Table
-- ==== Proof.Times.lean ====
/-
  The times over the extended reals: each is a real number between 0 and 299, whatever the speeds are, so its floor and
  its ceiling are whole numbers of that range.
-/
module

public import proofs.«01_k».proof.Proof.Values
public import Idealize.ShloMosaic.Lib.IdealHost

@[expose] public section

noncomputable section

namespace Cert.Proof.Times

open Cert.Pre_floors_are_rows
open Idealize.ShloMosaic

/-- The word of the last frame is 299. -/
theorem last_frame : Ideal.ofBits .f32 0x43958000#32 = ((299 : ℝ) : EReal) := by
  simp [Ideal.ofBits, Ideal.ieee, -EReal.coe_mul]; norm_num

/-- The word of one is one. -/
theorem one_word : Ideal.ofBits .f32 0x3F800000#32 = ((1 : ℝ) : EReal) := by
  rw [Ideal.ofBits_one_f32]; rfl

/-- An entry clipped between two bounds. -/
theorem clip_apply (x : FVec Ideal S256x300 .f32) (a b : FVec Ideal S_ .f32) (p q : EReal) (ha : ∀ i, a i = p)
    (hb : ∀ i, b i = q) (j : S256x300.Idx) : fn_clip (F := Ideal) x a b j = min q (max p (x j)) := by
  obtain rfl : a = fun _ => p := funext ha
  obtain rfl : b = fun _ => q := funext hb
  rfl

/-- The clipping, entry by entry. -/
theorem time_eq (j : S256x300.Idx) :
    Values.time Ideal j = min ((299 : ℝ) : EReal) (max 0 (Values.rawTime Ideal j)) := by
  unfold Values.time
  exact clip_apply _ _ _ _ _ (fun _ => Ideal.ofBits_zero_f32) (fun _ => last_frame) j

/-- An entry of a floor. -/
theorem floor_apply (v : FVec Ideal S256x300 .f32) (j : S256x300.Idx) : Host.floor v j = Ideal.liftRound Int.floor (v j) := rfl

/-- An entry of a ceiling. -/
theorem ceil_apply (v : FVec Ideal S256x300 .f32) (j : S256x300.Idx) : Host.ceil v j = Ideal.liftRound Int.ceil (v j) := rfl

/-- Each time is a real number from 0 to 299. -/
theorem time_real (j : S256x300.Idx) : ∃ t : ℝ, 0 ≤ t ∧ t ≤ 299 ∧ Values.time Ideal j = (t : EReal) := by
  rw [time_eq]
  generalize Values.rawTime Ideal j = x
  induction x using EReal.rec with
  | bot => exact ⟨0, le_refl _, by norm_num, by rw [max_eq_left bot_le]; exact min_eq_right (by exact_mod_cast (by norm_num : (0:ℝ) ≤ 299))⟩
  | top => exact ⟨299, by norm_num, le_refl _, by rw [max_eq_right le_top]; exact min_eq_left le_top⟩
  | coe r =>
    refine ⟨min 299 (max 0 r), le_min (by norm_num) (le_max_left _ _), min_le_left _ _, ?_⟩
    rw [EReal.coe_strictMono.monotone.map_min, EReal.coe_strictMono.monotone.map_max]; rfl

/-- A whole number from 0 to 299, made a word. -/
theorem word_of_whole {k : ℤ} (h0 : 0 ≤ k) (h1 : k ≤ 299) :
    Ideal.fptosi 32 (((k : ℝ) : ℝ) : EReal) = BitVec.ofNat 32 k.toNat := by
  have hk : (0 : ℝ) ≤ (k : ℝ) := by exact_mod_cast h0
  have e : Ideal.toIntClamped (-(2 ^ (32 - 1) : Nat)) ((2 ^ (32 - 1) : Nat) - 1) (((k : ℝ) : ℝ) : EReal) = (k.toNat : ℤ) := by
    show max _ (min _ (if (0 : ℝ) ≤ (k : ℝ) then ⌊(k : ℝ)⌋ else ⌈(k : ℝ)⌉)) = _
    rw [if_pos hk, Int.floor_intCast]
    omega
  unfold Ideal.fptosi
  rw [e]
  exact BitVec.ofInt_natCast _ _

/-- A frame's number as a word is that number. -/
theorem word_toNat {n : ℕ} (h : n ≤ 299) : (BitVec.ofNat 32 n).toNat = n := by
  rw [BitVec.toNat_ofNat]; omega

/-- A frame's number as a signed word is that number. -/
theorem word_toInt {n : ℕ} (h : n ≤ 299) : (BitVec.ofNat 32 n).toInt = n := by
  rw [BitVec.toInt_eq_toNat_of_lt (by rw [word_toNat h]; omega), word_toNat h]

/-- What is known of a time: it lies in the film, its floor and its ceiling are frames, and their words are those frames'
    numbers. -/
structure At (j : S256x300.Idx) (t : ℝ) (l c : ℕ) : Prop where
  time : Values.time Ideal j = (t : EReal)
  floor : Values.floor Ideal j = ((l : ℝ) : EReal)
  left : FloatOps.fptosi (F := Ideal) 32 (Values.floor Ideal j) = BitVec.ofNat 32 l
  right : FloatOps.fptosi (F := Ideal) 32 (Host.ceil (Values.time Ideal) j) = BitVec.ofNat 32 c
  l_le : l ≤ 299
  c_le : c ≤ 299
  /-- A whole time is its own frame; another lies between a frame and the next. -/
  near : (t = l ∧ c = l) ∨ c = l + 1

/-- Every warped time lies between two frames of the sequence. -/
theorem exists_at (j : S256x300.Idx) : ∃ t l c, At j t l c := by
  obtain ⟨t, h0, h1, ht⟩ := time_real j
  have hf : Values.floor Ideal j = (((⌊t⌋ : ℤ) : ℝ) : EReal) := by
    unfold Values.floor
    rw [floor_apply, ht]; rfl
  have hc : (Host.ceil (Values.time Ideal) : FVec Ideal S256x300 .f32) j = (((⌈t⌉ : ℤ) : ℝ) : EReal) := by
    rw [ceil_apply, ht]; rfl
  have f0 : 0 ≤ ⌊t⌋ := Int.floor_nonneg.mpr h0
  have c0 : 0 ≤ ⌈t⌉ := Int.ceil_nonneg h0
  have c1 : ⌈t⌉ ≤ 299 := Int.ceil_le.mpr (by exact_mod_cast h1)
  have fc : ⌊t⌋ ≤ ⌈t⌉ := Int.floor_le_ceil t
  have cf : ⌈t⌉ ≤ ⌊t⌋ + 1 := Int.ceil_le_floor_add_one t
  have fr : ((⌊t⌋.toNat : ℕ) : ℝ) = ((⌊t⌋ : ℤ) : ℝ) := by
    rw [← Int.cast_natCast, Int.toNat_of_nonneg f0]
  refine ⟨t, ⌊t⌋.toNat, ⌈t⌉.toNat, ht, by rw [hf, fr], ?_, ?_, by omega, by omega, ?_⟩
  · rw [hf]; exact word_of_whole f0 (by omega)
  · rw [hc]; exact word_of_whole c0 c1
  · by_cases e : ⌈t⌉ = ⌊t⌋
    · refine Or.inl ⟨?_, by rw [e]⟩
      rw [fr]
      exact le_antisymm ((Int.le_ceil t).trans (by rw [e])) (Int.floor_le t)
    · right; omega

/-- Over the extended reals the floors name frames. -/
theorem left_lt (j : S256x300.Idx) : (FloatOps.fptosi (F := Ideal) 32 (Values.floor Ideal j)).toNat < 300 := by
  obtain ⟨t, l, c, h⟩ := exists_at j
  rw [h.left, word_toNat h.l_le]
  have := h.l_le; omega

/-- Zero, made a word, is zero. -/
theorem zero_word : (FloatOps.fptosi (F := Ideal) 32 (FloatOps.ofBits .f32 0x00000000#32)).toNat < 300 := by
  have e : FloatOps.fptosi (F := Ideal) 32 (FloatOps.ofBits .f32 0x00000000#32) = BitVec.ofNat 32 0 := by
    show Ideal.fptosi 32 (Ideal.ofBits .f32 0x00000000#32) = _
    rw [Ideal.ofBits_zero_f32]
    simpa using word_of_whole (k := 0) (le_refl _) (by norm_num)
  rw [e]; decide

end Cert.Proof.Times
-- ==== Proof.Reference.lean ====
/-
  The reference's operations: what its line leaves in the buffers, as one function of its input.
-/
module

public import proofs.«01_k».proof.Proof.Line
public import proofs.«01_k».proof.Proof.Values
public import proofs.«01_k».proof.Proof.Gen.ReferenceIdeal
public import Idealize.ShloMosaic.Lib.Quiescent

@[expose] public section

noncomputable section

namespace Cert.Proof.Reference

open Cert.ReferenceIdeal Cert.ReferenceIdeal.Gen Cert.Proof.HostLine
open Idealize.ShloMosaic Idealize.ShloMosaic.StableHlo Idealize.SL.Sem

variable {F : FTy → Type} [FloatOps F]

/-- What the buffer of `r` holds. -/
abbrev rd (W : Valuation τ sig (Elt F)) (r : Ref sig .tc) : r.ty.Contents (Elt F) := W (Proc.devRef .tc r)

/-- The clipping of the times is the pure clipping. -/
theorem clip_line : Line 284 290 (fn_clip.body (F := F) (.of main_v17) (.of main_cst_5) (.of main_cst_6) main_call1)
    (pure ⟨⟩) (fun W => rd W main_v18
      = Pre_floors_are_rows.fn_clip (F := F) (rd W main_v17) (rd W main_cst_5) (rd W main_cst_6)) := by
  apply Line.mono
  · unfold fn_clip.body
    repeat first
      | (apply Line.unary; decide; decide)
      | (apply Line.binary; decide; decide; decide)
    apply Line.done; decide
  intro W H
  refine Eq.symm ?_
  unfold Pre_floors_are_rows.fn_clip
  repeat (extract_lets -merge -useContext +onlyGivenNames v; obtain ⟨h, H⟩ := H; have k : _ = v := h; clear_value v; subst k; clear h)
  rfl

set_option maxHeartbeats 4000000 in
/-- The mixing of the counters is the pure mixing. -/
theorem mix_line : Line 30 252 (fn_threefry2x32.body (F := F) main_call0.v5 main_call0.v7 main_call0.v14 main_call0.v13
      main_call0_call0) (pure ⟨⟩) (fun W : Valuation τ sig (Elt F) =>
      Pre_floors_are_rows.fn_threefry2x32 (F := F) (val W main_call0.v5) (val W main_call0.v7) (val W main_call0.v14)
        (val W main_call0.v13) = (val W main_call0_call0.v171, val W main_call0_call0.v175)) := by
  apply Line.mono
  · unfold fn_threefry2x32.body
    apply Line.bind
    · unfold fn_threefry2x32.body_part0
      repeat first
        | (apply Line.binary; decide; decide; decide)
        | (apply Line.unary; decide; decide)
        | (apply Line.nullary; decide)
      exact Line.done (Nat.le_refl _)
    apply Line.bind
    · unfold fn_threefry2x32.body_part1
      repeat first
        | (apply Line.binary; decide; decide; decide)
        | (apply Line.unary; decide; decide)
        | (apply Line.nullary; decide)
      exact Line.done (Nat.le_refl _)
    apply Line.bind
    · unfold fn_threefry2x32.body_part2
      repeat first
        | (apply Line.binary; decide; decide; decide)
        | (apply Line.unary; decide; decide)
        | (apply Line.nullary; decide)
      exact Line.done (Nat.le_refl _)
    · unfold fn_threefry2x32.body_part3
      repeat first
        | (apply Line.binary; decide; decide; decide)
        | (apply Line.unary; decide; decide)
        | (apply Line.nullary; decide)
      exact Line.done (by decide)
  intro W H
  unfold Pre_floors_are_rows.fn_threefry2x32
  obtain ⟨H, H'⟩ := (⟨H.1, H.2.1, H.2.2.1, H.2.2.2, trivial⟩ : _ ∧ _ ∧ _ ∧ _ ∧ True)
  repeat first
    | (extract_lets -merge -useContext +onlyGivenNames v; obtain ⟨h, H⟩ := H; have k : _ = v := h; clear_value v; subst k; clear h)
    | unfold Pre_floors_are_rows.fn_threefry2x32_part1
    | unfold Pre_floors_are_rows.fn_threefry2x32_part2
    | unfold Pre_floors_are_rows.fn_threefry2x32_part3
    | unfold Pre_floors_are_rows.fn_threefry2x32_part4
    | unfold Pre_floors_are_rows.fn_threefry2x32_part5
    | unfold Pre_floors_are_rows.fn_threefry2x32_part6
    | unfold Pre_floors_are_rows.fn_threefry2x32_part7
    | unfold Pre_floors_are_rows.fn_threefry2x32_part8
    | unfold Pre_floors_are_rows.fn_threefry2x32_part9
    | (clear H; obtain ⟨H, H'⟩ := H')
  rfl

set_option maxHeartbeats 4000000 in
/-- The draw is the pure draw. -/
theorem uniform_line : Line 13 270 (fn_uniform.body (F := F) (.of main_v6) (.of main_cst) (.of main_cst_2) main_call0)
    (pure ⟨⟩) (fun W => rd W main_v7
      = Pre_floors_are_rows.fn_uniform (F := F) (rd W main_v6) (rd W main_cst) (rd W main_cst_2)) := by
  apply Line.mono
  · unfold fn_uniform.body
    repeat first
      | apply Line.bind mix_line
      | (apply Line.binary; decide; decide; decide)
      | (apply Line.unary; decide; decide)
      | (apply Line.nullary; decide)
      | (apply Line.reshape; decide; decide)
    exact Line.done (by decide)
  intro W H
  refine Eq.symm ?_
  unfold Pre_floors_are_rows.fn_uniform
  repeat first
    | (obtain ⟨hm, H⟩ := H
       replace H := And.intro (congrArg Prod.fst hm).symm (And.intro (congrArg Prod.snd hm).symm H); clear hm)
    | (extract_lets -merge -useContext +onlyGivenNames v; obtain ⟨h, H⟩ := H; have k : _ = v := h; clear_value v
       subst k; clear h)
    | unfold Pre_floors_are_rows.fn_uniform_part1
  rfl

/-- Entries of rows picked by their places: where the place, counted from the end if negative, is in the row, the entry
    there. -/
def picked (x : FVec F S256x150x300 .f32) (i : IVec S256x150x300 32) : FVec F S256x150x300 .f32 :=
  let k : IVec S256x150x300x1 32 := shapeCast S256x150x300x1
    (select (cmpi .slt i (broadcastInDim S256x150x300 ![] bcast_S_S256x150x300 (constantI S_ 32 0#32)))
      (addi i (broadcastInDim S256x150x300 ![] bcast_S_S256x150x300 (constantI S_ 32 300#32))) i)
    shapeCasts_S256x150x300_S256x150x300x1
  select
    (Host.reduce IntOp.andi
      (andi (cmpi .sge k (broadcastInDim S256x150x300x1 ![] bcast_S_S256x150x300x1 (constantI S_ 32 0#32)))
        (cmpi .sle k (broadcastInDim S256x150x300x1 ![0, 1, 2, 3] bcast_S1x1x1x1_S256x150x300x1_0_1_2_3
          (broadcastInDim S1x1x1x1 ![3] bcast_S1_S1x1x1x1_3 (constantI S1 32 299#32)))))
      (constantI S_ 1 1#1) reducesTo_S256x150x300x1_S256x150x300_d3 h_S_)
    (Host.gather gather_S256x150x300_S256x150x300x1_S256x150x300_n_2_01_01_2_3_111 x k)
    (broadcastInDim S256x150x300 ![] bcast_S_S256x150x300 (constant S_ .f32 0x7FC00000#32))

/-- A call of the picking, over its buffers: they are numbered in the order of its operations. -/
theorem take_line (lo : ℕ) (a : StableHlo.TRef sig ⟨S256x150x300, .f32⟩) (b : StableHlo.TRef sig ⟨S256x150x300, .i32⟩)
    (φ : fn_take_along_axis.Bufs) (ha : ∀ k, num a.ref < lo + k) (hb : ∀ k, num b.ref < lo + k)
    (h : [num φ.c.ref, num φ.v0.ref, num φ.v1.ref, num φ.c_0.ref, num φ.v2.ref, num φ.v3.ref, num φ.v4.ref, num φ.v5.ref,
      num φ.c_1.ref, num φ.c_2.ref, num φ.v6.ref, num φ.v7.ref, num φ.v8.ref, num φ.v9.ref, num φ.v10.ref, num φ.v11.ref,
      num φ.c_3.ref, num φ.v12.ref, num φ.v13.ref, num φ.cst.ref, num φ.v14.ref, num φ.v15.ref]
        = [lo + 0, lo + 1, lo + 2, lo + 3, lo + 4, lo + 5, lo + 6, lo + 7, lo + 8, lo + 9, lo + 10, lo + 11, lo + 12, lo + 13,
          lo + 14, lo + 15, lo + 16, lo + 17, lo + 18, lo + 19, lo + 20, lo + 21]) :
    Line lo (lo + 22) (fn_take_along_axis.body (F := F) a b φ) (pure ⟨⟩)
      (fun W : Valuation τ sig (Elt F) => val W φ.v15 = picked (val W a) (val W b)) := by
  simp only [List.cons.injEq, and_true] at h
  obtain ⟨h1, h2, h3, h4, h5, h6, h7, h8, h9, h10, h11, h12, h13, h14, h15, h16, h17, h18, h19, h20, h21, h22⟩ := h
  have lt : ∀ {x y p q : ℕ}, x = lo + p → y = lo + q → p < q → x < y := fun hx hy hpq => by
    rw [hx, hy]; exact Nat.add_lt_add_left hpq lo
  have le : ∀ {x y p q : ℕ}, x = lo + p → y = lo + q → p < q → x + 1 ≤ y := fun hx hy hpq => lt hx hy hpq
  have la : ∀ {y q : ℕ}, y = lo + q → num a.ref < y := fun hy => hy ▸ ha _
  have lb : ∀ {y q : ℕ}, y = lo + q → num b.ref < y := fun hy => hy ▸ hb _
  apply Line.mono
  · unfold fn_take_along_axis.body
    apply Line.nullary
    · exact Nat.le_of_eq h1.symm
    apply Line.unary
    · exact lt h1 h2 (by decide)
    · exact le h1 h2 (by decide)
    apply Line.binary
    · exact lb h3
    · exact lt h2 h3 (by decide)
    · exact le h2 h3 (by decide)
    apply Line.nullary
    · exact le h3 h4 (by decide)
    apply Line.unary
    · exact lt h4 h5 (by decide)
    · exact le h4 h5 (by decide)
    apply Line.binary
    · exact lb h6
    · exact lt h5 h6 (by decide)
    · exact le h5 h6 (by decide)
    apply Line.ternary
    · exact lt h3 h7 (by decide)
    · exact lt h6 h7 (by decide)
    · exact lb h7
    · exact le h6 h7 (by decide)
    apply Line.reshape
    · exact lt h7 h8 (by decide)
    · exact le h7 h8 (by decide)
    apply Line.nullary
    · exact le h8 h9 (by decide)
    apply Line.nullary
    · exact le h9 h10 (by decide)
    apply Line.unary
    · exact lt h10 h11 (by decide)
    · exact le h10 h11 (by decide)
    apply Line.binary
    · exact lt h8 h12 (by decide)
    · exact lt h11 h12 (by decide)
    · exact le h11 h12 (by decide)
    apply Line.unary
    · exact lt h9 h13 (by decide)
    · exact le h12 h13 (by decide)
    apply Line.unary
    · exact lt h13 h14 (by decide)
    · exact le h13 h14 (by decide)
    apply Line.binary
    · exact lt h8 h15 (by decide)
    · exact lt h14 h15 (by decide)
    · exact le h14 h15 (by decide)
    apply Line.binary
    · exact lt h12 h16 (by decide)
    · exact lt h15 h16 (by decide)
    · exact le h15 h16 (by decide)
    apply Line.nullary
    · exact le h16 h17 (by decide)
    apply Line.binary
    · exact lt h16 h18 (by decide)
    · exact lt h17 h18 (by decide)
    · exact le h17 h18 (by decide)
    apply Line.binary
    · exact la h19
    · exact lt h8 h19 (by decide)
    · exact le h18 h19 (by decide)
    apply Line.nullary
    · exact le h19 h20 (by decide)
    apply Line.unary
    · exact lt h20 h21 (by decide)
    · exact le h20 h21 (by decide)
    apply Line.ternary
    · exact lt h18 h22 (by decide)
    · exact lt h19 h22 (by decide)
    · exact lt h21 h22 (by decide)
    · exact le h21 h22 (by decide)
    exact Line.done (Nat.le_of_eq (congrArg (· + 1) h22))
  intro W H
  obtain ⟨c, v0, v1, c0, v2, v3, v4, v5, c1, c2, v6, v7, v8, v9, v10, v11, c3, v12, v13, cst, v14, v15, -⟩ := H
  rw [v15, v14, cst, v13, v12, c3, v11, v10, v9, v8, v7, v6, c2, c1, v5, v4, v3, v2, c0, v1, v0, c]
  rfl

/-- The frame after a time. -/
def ceil (F : FTy → Type) [FloatOps F] : FVec F S256x300 .f32 := Host.ceil (Values.time F)

/-- The time past the frame before it, that frame read as a whole number. -/
def past (F : FTy → Type) [FloatOps F] : FVec F S256x300 .f32 :=
  subf (Values.time F) (sitofp .f32 (fptosi 32 (Values.floor F)))

/-- A number for each sequence and frame, given to every channel of the sequence. -/
def spread {α : Type} (v : S256x300.Idx → α) : S256x150x300.Idx → α :=
  broadcastInDim S256x150x300 ![0, 1, 2] bcast_S256x1x300_S256x150x300_0_1_2
    (broadcastInDim S256x1x300 ![0, 2] bcast_S256x300_S256x1x300_0_2 v)

/-- The input as rows of frames. -/
def rows (x : FVec F S256x3x300x25x2 .f32) : FVec F S256x150x300 .f32 :=
  shapeCast S256x150x300 (transpose S256x3x25x2x300 [0, 1, 3, 4, 2] x transposes_S256x3x300x25x2_S256x3x25x2x300_0_1_3_4_2)
    shapeCasts_S256x3x25x2x300_S256x150x300

/-- The mix of the two frames around each time, as rows of frames. -/
def mixed (x : FVec F S256x3x300x25x2 .f32) : FVec F S256x150x300 .f32 :=
  addf
    (mulf (broadcastInDim S256x150x300 ![0, 1, 2] bcast_S256x1x300_S256x150x300_0_1_2
        (subf (broadcastInDim S256x1x300 ![] bcast_S_S256x1x300 (constant S_ .f32 0x3F800000#32))
          (broadcastInDim S256x1x300 ![0, 2] bcast_S256x300_S256x1x300_0_2 (past F))))
      (picked (rows x) (spread (fptosi 32 (Values.floor F)))))
    (mulf (spread (past F)) (picked (rows x) (spread (fptosi 32 (ceil F)))))

/-- The reference's result. -/
def result (x : FVec F S256x3x300x25x2 .f32) : FVec F S256x3x300x25x2 .f32 :=
  transpose S256x3x300x25x2 [0, 1, 4, 2, 3]
    (shapeCast S256x3x25x2x300 (mixed x) shapeCasts_S256x150x300_S256x3x25x2x300)
    transposes_S256x3x25x2x300_S256x3x300x25x2_0_1_4_2_3

set_option maxHeartbeats 4000000 in
/-- What the reference leaves: the speeds and its result. -/
theorem main_line (d : Dev nD) : Line 1 357 (main (F := F) d) (pure ⟨⟩) (fun W =>
    rd W main_v11 = Values.speed F ∧ rd W main_v42 = result (rd W main_arg0)) := by
  apply Line.mono
  · unfold main
    repeat first
      | apply Line.bind uniform_line
      | apply Line.bind clip_line
      | apply Line.bind (take_line 303 _ _ main_call2 (fun k => Nat.lt_of_lt_of_le (by decide : _ < 303) (Nat.le_add_right _ k)) (fun k => Nat.lt_of_lt_of_le (by decide : _ < 303) (Nat.le_add_right _ k)) (by decide))
      | apply Line.bind (take_line 325 _ _ main_call3 (fun k => Nat.lt_of_lt_of_le (by decide : _ < 325) (Nat.le_add_right _ k)) (fun k => Nat.lt_of_lt_of_le (by decide : _ < 325) (Nat.le_add_right _ k)) (by decide))
      | (apply Line.nullary'; decide)
      | (apply Line.unary'; decide; decide)
      | (apply Line.binary'; decide; decide; decide)
      | (apply Line.reshape'; decide; decide)
    exact Line.done (by decide)
  intro W H
  obtain ⟨c, c0, v0, v1, v2, c1, v3, v4, v5, v6, cst, cst2, v7, cst3, v8, v9, cst4, v10, v11, v12, v13, v14, v15, v16,
    v17, cst5, cst6, v18, v19, v20, v21, v22, v23, v24, v25, v26, v27, v28, v29, v30, v31, v32, v33, cst7, v34, v35, v36,
    v37, v38, v39, v40, v41, v42, -⟩ := H
  unfold rd at *
  have e6 : W (Proc.devRef .tc main_v6) = Values.key := by rw [v6, v2, v5, v1, v4, v0, v3, c, c0, c1]; rfl
  have e11 : W (Proc.devRef .tc main_v11) = Values.speed F := by
    rw [v11, v9, v10, cst4, v7, v8, cst3, e6, cst, cst2]; rfl
  have e18 : W (Proc.devRef .tc main_v18) = Values.time F := by
    rw [v18, v17, v16, v15, v14, v13, v12, cst5, cst6, e11]; rfl
  have e32 : W (Proc.devRef .tc main_v32) = picked (rows (W (Proc.devRef .tc main_arg0))) (spread (fptosi 32 (Values.floor F))) := by
    refine Eq.trans v32 ?_
    show picked (W (Proc.devRef .tc main_v20)) (W (Proc.devRef .tc main_v29)) = _
    rw [v20, v19, v29, v28, v22, v21, e18]; rfl
  have e33 : W (Proc.devRef .tc main_v33) = picked (rows (W (Proc.devRef .tc main_arg0))) (spread (fptosi 32 (ceil F))) := by
    refine Eq.trans v33 ?_
    show picked (W (Proc.devRef .tc main_v20)) (W (Proc.devRef .tc main_v31)) = _
    rw [v20, v19, v31, v30, v24, v23, e18]; rfl
  refine ⟨e11, ?_⟩
  rw [v42, v41, v40, v39, v37, v38, v36, v35, v34, cst7, e32, e33, v27, v26, v25, v22, v21, e18]; rfl

/-- A run of the reference ends with its input as it was, the speeds and its result, and every counter at zero. -/
theorem run_main (m : (ℓ : Loc nD τ sig) → Buf (Elt F) ℓ) (ρ : Dev nD → PrngReg) :
    θ_run (Cert.ReferenceIdeal.defs (F := F)) (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_v11) = Values.speed F
        ∧ r.2.mem ((c.tc : Thread nD τ).loc main_v42) = result (m ((c.tc : Thread nD τ).loc main_arg0)))
      ∧ r.2.sem = fun _ => 0) := by
  choose ops hops hord hfix using fun d => main_line (F := F) d
  refine (θ_run _ _ _).mono (fun r h => ⟨fun c => ?_, sem_eq_zero_of_no_sems (by decide) _⟩)
    (run_seq (by decide) (by decide) _ (main (F := F)) ops (fun d => by rw [hops d, bind_pure])
      (fun d => List.forall_iff_forall_mem.mpr (hord d).bufs_sub) m ρ (fun d => (hord d).no_fresh))
  have k : after (ops c) (launchContents m c) (Proc.devRef .tc main_arg0) = m ((c.tc : Thread nD τ).loc main_arg0) :=
    (hord c).keep _ main_arg0 (Or.inl (by decide))
  obtain ⟨e1, e2⟩ := hfix c _ ((hord c).fix (launchContents m c))
  unfold rd at e1 e2
  rw [k] at e2
  exact ⟨(h c main_arg0).trans k, (h c main_v11).trans e1, (h c main_v42).trans e2⟩

end Cert.Proof.Reference
-- ==== Proof.Read.lean ====
/-
  The result of a run, entry by entry: a mix of the two frames the table's row names.
-/
module

public import proofs.«01_k».proof.Proof.Table

@[expose] public section

noncomputable section

namespace Cert.Proof.Read

open Cert.Kernel Cert.Kernel.Gen Cert.Proof.Words Cert.Proof.Table
open Idealize.ShloMosaic

variable {F : FTy → Type} [FloatOps F]

/-- The same sequence, channel, joint and body at frame `l`. -/
def frameAt (y : S256x3x300x25x2.Idx) (l : Fin 300) : S256x3x300x25x2.Idx := fun a => match a with
  | ⟨0, _⟩ => y 0
  | ⟨1, _⟩ => y 1
  | ⟨2, _⟩ => l
  | ⟨3, _⟩ => y 3
  | ⟨4, _⟩ => y 4

/-- The sequence and the frame of an entry. -/
def atFrame (y : S256x3x300x25x2.Idx) : S256x300.Idx := place (y 0).isLt (y 2).isLt

/-- An entry's sequence and channel, numbered together. -/
def unitAt (y : S256x3x300x25x2.Idx) : ℕ := (y 0).val * 3 + (y 1).val

/-- An entry's joint and body, numbered together. -/
def spotAt (y : S256x3x300x25x2.Idx) : ℕ := (y 3).val * 2 + (y 4).val

/-- The bounds of an entry's five coordinates. -/
theorem bounds (y : S256x3x300x25x2.Idx) :
    (y 0).val < 256 ∧ (y 1).val < 3 ∧ (y 2).val < 300 ∧ (y 3).val < 25 ∧ (y 4).val < 2 :=
  ⟨(y 0).isLt, (y 1).isLt, (y 2).isLt, (y 3).isLt, (y 4).isLt⟩

/-- An entry's place in the flat order. -/
theorem flat_place (y : S256x3x300x25x2.Idx) :
    (S256x3x300x25x2.rowMajor y).val = unitAt y * 15000 + ((y 2).val * 50 + spotAt y) := by
  rw [Shape.rowMajor_val_five]
  show ((((y 0).val * 3 + (y 1).val) * 300 + (y 2).val) * 25 + (y 3).val) * 2 + (y 4).val = _
  unfold unitAt spotAt
  omega

/-- The flattened input's unit, at frame `l` and an entry's spot. -/
theorem unit_entry (x : FVec F S256x3x300x25x2 .f32) (y : S256x3x300x25x2.Idx) (l : Fin 300) :
    unitOf (shapeCast S11520000 x shapeCasts_S256x3x300x25x2_S11520000) (unitAt y) (cell 15000 (l.val * 50 + spotAt y))
      = x (frameAt y l) := by
  obtain ⟨h0, h1, -, h3, h4⟩ := bounds y
  have hl := l.isLt
  have hs : l.val * 50 + spotAt y < 15000 := by unfold spotAt; omega
  have hu : unitAt y < 768 := by unfold unitAt; omega
  refine shapeCast_apply _ _ _ _ ?_
  rw [flat_place, Shape.rowMajor_val_one]
  refine Eq.trans ?_ (cell_val (N := 11520000) (n := unitAt y * 15000 + (cell 15000 (l.val * 50 + spotAt y) 0).val) ?_).symm
  · rw [cell_val hs]; rfl
  · rw [cell_val hs]; omega

/-- The frame before an entry's time, as the table names it, and the one behind it. -/
def leftFrame (F : FTy → Type) [FloatOps F] (j : S256x300.Idx) : ℕ := (FloatOps.fptosi (F := F) 32 (Values.floor F j)).toNat

/-- Where the table's rows are in range, an entry of the result is the mix, by the time past the floor, of the input's
    entries at the frame before and the frame behind it. -/
theorem kernel_entry (x : FVec F S256x3x300x25x2 .f32) (y : S256x3x300x25x2.Idx) (l r : Fin 300)
    (hl : leftFrame F (atFrame y) = l.val) (hr : min (l.val + 1) 299 = r.val) :
    shapeCast S256x3x300x25x2 (outV (shapeCast S11520000 x shapeCasts_S256x3x300x25x2_S11520000) (Launch.flatTable F))
        shapeCasts_S11520000_S256x3x300x25x2 y
      = FloatOps.addf (x (frameAt y l))
          (FloatOps.mulf (FloatOps.subf (Values.time F (atFrame y)) (Values.floor F (atFrame y)))
            (FloatOps.subf (x (frameAt y r)) (x (frameAt y l)))) := by
  obtain ⟨h0, h1, h2, h3, h4⟩ := bounds y
  have hu : unitAt y / 3 = (y 0).val := by unfold unitAt; omega
  have hs : spotAt y < 50 := by unfold spotAt; omega
  have hu' : unitAt y < 768 := by unfold unitAt; omega
  have he : unitAt y * 15000 + ((y 2).val * 50 + spotAt y) < 11520000 := by omega
  rw [shapeCast_apply _ _ y (cell 11520000 (unitAt y * 15000 + ((y 2).val * 50 + spotAt y)))
    (by rw [flat_place, Shape.rowMajor_val_one]; exact cell_val he)]
  show outAt _ _ _ = _
  rw [cell_val he]
  unfold outAt
  have e1 : (unitAt y * 15000 + ((y 2).val * 50 + spotAt y)) / 15000 = unitAt y := by omega
  have e2 : (unitAt y * 15000 + ((y 2).val * 50 + spotAt y)) % 15000 = (y 2).val * 50 + spotAt y := by omega
  have e3 : (unitAt y * 15000 + ((y 2).val * 50 + spotAt y)) % 50 = spotAt y := by omega
  have e4 : ((y 2).val * 50 + spotAt y) / 50 = (y 2).val := by omega
  rw [e1, e2, e3, e4, hu]
  have tf : tableRow (Launch.flatTable F) (y 0).val (cell 608 (y 2).val) = Values.floor F (atFrame y) := row_floor (atFrame y)
  have tp : tableRow (Launch.flatTable F) (y 0).val (cell 608 (304 + (y 2).val))
      = FloatOps.subf (Values.time F (atFrame y)) (Values.floor F (atFrame y)) := row_past (atFrame y)
  have el : leftOf (tableRow (Launch.flatTable F) (y 0).val) (y 2).val = l.val := by
    unfold leftOf; rw [tf]; exact hl
  unfold rowVal rightOf
  rw [el, hr, tp, unit_entry, unit_entry]

end Cert.Proof.Read
-- ==== Proof.Mix.lean ====
/-
  The reference's result, entry by entry, over the extended reals: the two frames around the time, weighted; and that the
  kernel's mix of a finite input is the same number.
-/
module

public import proofs.«01_k».proof.Proof.Read
public import proofs.«01_k».proof.Proof.Times
public import proofs.«01_k».proof.Proof.Reference
public import proofs.«01_k».proof.Proof.Gen.Pre_finite
public import Idealize.ShloMosaic.Lib.ReduceAll

@[expose] public section

noncomputable section

namespace Cert.Proof.Mix

open Cert.ReferenceIdeal Cert.ReferenceIdeal.Gen Cert.Proof.Read Cert.Proof.Table
open Idealize.ShloMosaic

/-- An entry's channel, joint and body, numbered together. -/
def laneAt (y : S256x3x300x25x2.Idx) : ℕ := (y 1).val * 50 + spotAt y

/-- There are 150 of these numbers. -/
theorem laneAt_lt (y : S256x3x300x25x2.Idx) : laneAt y < 150 := by
  obtain ⟨-, h1, -, h3, h4⟩ := bounds y
  unfold laneAt spotAt; omega

/-- The row of frames an entry lies in, at frame `l`. -/
def inRow (y : S256x3x300x25x2.Idx) (l : Fin 300) : S256x150x300.Idx := fun a => match a with
  | ⟨0, _⟩ => y 0
  | ⟨1, _⟩ => ⟨laneAt y, laneAt_lt y⟩
  | ⟨2, _⟩ => l

/-- The same entry with its frame last. -/
def turned (y : S256x3x300x25x2.Idx) (l : Fin 300) : S256x3x25x2x300.Idx := fun a => match a with
  | ⟨0, _⟩ => y 0
  | ⟨1, _⟩ => y 1
  | ⟨2, _⟩ => y 3
  | ⟨3, _⟩ => y 4
  | ⟨4, _⟩ => l

/-- The place among the rows and the place in the turned input are the same number. -/
theorem turned_place (y : S256x3x300x25x2.Idx) (l : Fin 300) :
    (S256x3x25x2x300.rowMajor (turned y l)).val = (S256x150x300.rowMajor (inRow y l)).val := by
  rw [Shape.rowMajor_val_five, Shape.rowMajor_val_three]
  show ((((y 0).val * 3 + (y 1).val) * 25 + (y 3).val) * 2 + (y 4).val) * 300 + l.val = ((y 0).val * 150 + laneAt y) * 300 + l.val
  unfold laneAt spotAt
  omega

section Layout

variable {F : FTy → Type} [FloatOps F]

/-- The rows of frames hold the input. -/
theorem rows_entry (x : FVec F S256x3x300x25x2 .f32) (y : S256x3x300x25x2.Idx) (l : Fin 300) :
    Reference.rows x (inRow y l) = x (frameAt y l) := by
  unfold Reference.rows
  rw [shapeCast_apply _ _ _ (turned y l) (turned_place y l)]
  refine transpose_apply _ _ _ _ _ fun b => ?_
  match b with
  | ⟨0, _⟩ => rfl
  | ⟨1, _⟩ => rfl
  | ⟨2, _⟩ => rfl
  | ⟨3, _⟩ => rfl
  | ⟨4, _⟩ => rfl

/-- The result holds the mixed rows. -/
theorem result_entry (x : FVec F S256x3x300x25x2 .f32) (y : S256x3x300x25x2.Idx) :
    Reference.result x y = Reference.mixed x (inRow y (y 2)) := by
  unfold Reference.result
  rw [transpose_apply _ _ _ _ (turned y (y 2)) (fun b => by
    match b with
    | ⟨0, _⟩ => rfl
    | ⟨1, _⟩ => rfl
    | ⟨2, _⟩ => rfl
    | ⟨3, _⟩ => rfl
    | ⟨4, _⟩ => rfl)]
  exact shapeCast_apply _ _ _ _ (turned_place y (y 2)).symm

/-- A number given to every channel is the sequence's and frame's own. -/
theorem spread_entry {α : Type} (v : S256x300.Idx → α) (y : S256x3x300x25x2.Idx) :
    Reference.spread v (inRow y (y 2)) = v (atFrame y) := by
  unfold Reference.spread
  refine (broadcastInDim_apply _ _ _ _ (fun a => match a with | ⟨0, _⟩ => y 0 | ⟨1, _⟩ => (0 : Fin 1) | ⟨2, _⟩ => y 2 : S256x1x300.Idx) fun a => ?_).trans
    (broadcastInDim_apply _ _ _ _ (atFrame y) fun a => ?_)
  · match a with
    | ⟨0, _⟩ => rfl
    | ⟨1, _⟩ => rfl
    | ⟨2, _⟩ => rfl
  · match a with
    | ⟨0, _⟩ => rfl
    | ⟨1, _⟩ => rfl

/-- The place a row's entry is picked from. -/
theorem picked_place (j : S256x150x300.Idx) (k : IVec S256x150x300x1 32) (n : Fin 300)
    (hk : ∀ i : S256x150x300x1.Idx, (∀ a : Fin 3, (i a.castSucc).val = (j a).val) → (k i).toInt = n.val) (i : S256x150x300.Idx)
    (h0 : (i 0).val = (j 0).val) (h1 : (i 1).val = (j 1).val) (h2 : (i 2).val = n.val) :
    gather_S256x150x300_S256x150x300x1_S256x150x300_n_2_01_01_2_3_111.operandIdx j k = i := by
  have hn := n.isLt
  funext a
  refine Fin.ext ?_
  match a with
  | ⟨0, _⟩ => exact Eq.trans (show 0 + (j 0).val + 0 = (j 0).val by omega) h0.symm
  | ⟨1, _⟩ => exact Eq.trans (show 0 + (j 1).val + 0 = (j 1).val by omega) h1.symm
  | ⟨2, _⟩ =>
    refine Eq.trans ?_ h2.symm
    show min (k _).toInt.toNat (300 - 1) + 0 + 0 = n.val
    rw [hk _ fun a => by
      match a with
      | ⟨0, _⟩ => rfl
      | ⟨1, _⟩ => rfl
      | ⟨2, _⟩ => rfl]
    omega

/-- A place's first three coordinates. -/
def front (i : S256x150x300x1.Idx) : S256x150x300.Idx := fun a => match a with
  | ⟨0, _⟩ => i 0
  | ⟨1, _⟩ => i 1
  | ⟨2, _⟩ => i 2

/-- A last coordinate of length one changes no position in the order of rows. -/
theorem front_place (i : S256x150x300x1.Idx) :
    (S256x150x300.rowMajor (front i)).val = (S256x150x300x1.rowMajor i).val := by
  have h3 : (i 3).val < 1 := (i 3).isLt
  rw [Shape.rowMajor_val_three, Shape.rowMajor_val_four]
  show ((i 0).val * 150 + (i 1).val) * 300 + (i 2).val = (((i 0).val * 150 + (i 1).val) * 300 + (i 2).val) * 1 + (i 3).val
  omega

/-- A place that is not negative is kept. -/
theorem kept_word (w v : BitVec 32) (h : 0 ≤ w.toInt) : Scalar.select (IntOp.cmpi .slt w 0#32) v w = w := by
  have e : IntOp.cmpi .slt w 0#32 = 0#1 := by
    unfold IntOp.cmpi
    have : w.slt 0#32 = false := by
      rw [BitVec.slt_eq_decide]
      exact decide_eq_false (by simpa using h)
    simp [this]
  rw [e]; rfl

/-- A place in the row passes the check. -/
theorem fits_word (w : BitVec 32) (h : 0 ≤ w.toInt) (h' : w.toInt ≤ 299) :
    IntOp.andi (IntOp.cmpi .sge w 0#32) (IntOp.cmpi .sle w 299#32) = 1#1 := by
  have e : IntOp.cmpi .sge w 0#32 = 1#1 := by
    unfold IntOp.cmpi
    have : (0#32).sle w = true := by
      rw [BitVec.sle_eq_decide]
      exact decide_eq_true (by simpa using h)
    simp [this]
  have e' : IntOp.cmpi .sle w 299#32 = 1#1 := by
    unfold IntOp.cmpi
    have : w.sle 299#32 = true := by
      rw [BitVec.sle_eq_decide]
      exact decide_eq_true (by simpa using h')
    simp [this]
  rw [e, e']; rfl

/-- Places that all lie in the row pick the row's entries there. -/
theorem picked_entry (x : FVec F S256x150x300 .f32) (w : IVec S256x150x300 32)
    (hw : ∀ j, 0 ≤ (w j).toInt ∧ (w j).toInt ≤ 299) (j : S256x150x300.Idx) (n : Fin 300) (hn : (w j).toInt = n.val)
    (i : S256x150x300.Idx) (h0 : (i 0).val = (j 0).val) (h1 : (i 1).val = (j 1).val) (h2 : (i 2).val = n.val) :
    Reference.picked x w j = x i := by
  unfold Reference.picked
  generalize eq : shapeCast S256x150x300x1
    (select (cmpi .slt w (broadcastInDim S256x150x300 ![] bcast_S_S256x150x300 (constantI S_ 32 0#32)))
      (addi w (broadcastInDim S256x150x300 ![] bcast_S_S256x150x300 (constantI S_ 32 300#32))) w)
    shapeCasts_S256x150x300_S256x150x300x1 = k
  have hk : ∀ q, k q = w (front q) := fun q => by
    rw [← eq]
    exact (shapeCast_apply _ _ q (front q) (front_place q)).trans (kept_word _ _ (hw (front q)).1)
  have hc : Host.reduce IntOp.andi
      (andi (cmpi .sge k (broadcastInDim S256x150x300x1 ![] bcast_S_S256x150x300x1 (constantI S_ 32 0#32)))
        (cmpi .sle k (broadcastInDim S256x150x300x1 ![0, 1, 2, 3] bcast_S1x1x1x1_S256x150x300x1_0_1_2_3
          (broadcastInDim S1x1x1x1 ![3] bcast_S1_S1x1x1x1_3 (constantI S1 32 299#32)))))
      (constantI S_ 1 1#1) reducesTo_S256x150x300x1_S256x150x300_d3 h_S_ j = 1#1 :=
    Host.reduce_andi_one _ _ _ _ _ rfl fun q => by
      show IntOp.andi (IntOp.cmpi .sge (k q) 0#32) (IntOp.cmpi .sle (k q) 299#32) = 1#1
      rw [hk q]; exact fits_word _ (hw _).1 (hw _).2
  unfold select
  rw [hc]
  show x (gather_S256x150x300_S256x150x300x1_S256x150x300_n_2_01_01_2_3_111.operandIdx j k) = x i
  rw [picked_place j k n (fun q hq => by
    rw [hk q, show front q = j from funext fun a => Fin.ext (by
      match a with
      | ⟨0, _⟩ => exact hq 0
      | ⟨1, _⟩ => exact hq 1
      | ⟨2, _⟩ => exact hq 2)]
    exact hn) i h0 h1 h2]

/-- Frames' places, given to every channel, pick the input's entries at those frames. -/
theorem picked_spread (x : FVec F S256x3x300x25x2 .f32) (v : IVec S256x300 32)
    (hv : ∀ j, 0 ≤ (v j).toInt ∧ (v j).toInt ≤ 299) (y : S256x3x300x25x2.Idx) (n : Fin 300)
    (hn : (v (atFrame y)).toInt = n.val) :
    Reference.picked (Reference.rows x) (Reference.spread v) (inRow y (y 2)) = x (frameAt y n) := by
  have e : (Reference.spread v (inRow y (y 2))).toInt = n.val := by rw [spread_entry]; exact hn
  have r : ∀ q, 0 ≤ (Reference.spread v q).toInt ∧ (Reference.spread v q).toInt ≤ 299 := fun q => hv _
  have p := picked_entry (Reference.rows x) (Reference.spread v) r (inRow y (y 2)) n e (inRow y n) rfl rfl rfl
  rw [p]
  exact rows_entry x y n

/-- Two vectors weighted by a frame's number and what it lacks of one. -/
theorem weighted_entry (p : FVec F S256x300 .f32) (u v : FVec F S256x150x300 .f32) (y : S256x3x300x25x2.Idx) :
    addf
      (mulf (broadcastInDim S256x150x300 ![0, 1, 2] bcast_S256x1x300_S256x150x300_0_1_2
          (subf (broadcastInDim S256x1x300 ![] bcast_S_S256x1x300 (constant S_ .f32 0x3F800000#32))
            (broadcastInDim S256x1x300 ![0, 2] bcast_S256x300_S256x1x300_0_2 p))) u)
      (mulf (Reference.spread p) v) (inRow y (y 2))
    = FloatOps.addf
        (FloatOps.mulf (FloatOps.subf (FloatOps.ofBits .f32 0x3F800000#32) (p (atFrame y))) (u (inRow y (y 2))))
        (FloatOps.mulf (p (atFrame y)) (v (inRow y (y 2)))) := by
  rw [← spread_entry p y]
  rfl

end Layout

/-! ## Over the extended reals -/

open Cert.Proof.Times

/-- A frame's number, as a signed word, lies in the row. -/
theorem word_range {n : ℕ} (h : n ≤ 299) : 0 ≤ (BitVec.ofNat 32 n).toInt ∧ (BitVec.ofNat 32 n).toInt ≤ 299 := by
  rw [word_toInt h]; omega

/-- The frame before each time lies in the row. -/
theorem left_range (j : S256x300.Idx) :
    0 ≤ ((fptosi 32 (Values.floor Ideal) : IVec S256x300 32) j).toInt
      ∧ ((fptosi 32 (Values.floor Ideal) : IVec S256x300 32) j).toInt ≤ 299 := by
  obtain ⟨t, l, c, h⟩ := exists_at j
  have e : (fptosi 32 (Values.floor Ideal) : IVec S256x300 32) j = BitVec.ofNat 32 l := h.left
  rw [e]; exact word_range h.l_le

/-- The frame after each time lies in the row. -/
theorem right_range (j : S256x300.Idx) :
    0 ≤ ((fptosi 32 (Reference.ceil Ideal) : IVec S256x300 32) j).toInt
      ∧ ((fptosi 32 (Reference.ceil Ideal) : IVec S256x300 32) j).toInt ≤ 299 := by
  obtain ⟨t, l, c, h⟩ := exists_at j
  have e : (fptosi 32 (Reference.ceil Ideal) : IVec S256x300 32) j = BitVec.ofNat 32 c := h.right
  rw [e]; exact word_range h.c_le

/-- An entry of a time less its floor taken as a whole number. -/
theorem past_apply (t f : FVec Ideal S256x300 .f32) (j : S256x300.Idx) :
    (subf t (sitofp .f32 (fptosi 32 f : IVec S256x300 32)) : FVec Ideal S256x300 .f32) j
      = t j - ((((fptosi 32 f : IVec S256x300 32) j).toInt : ℝ) : EReal) := rfl

/-- The time past the frame before it. -/
theorem past_entry {j : S256x300.Idx} {t : ℝ} {l c : ℕ} (h : At j t l c) :
    Reference.past Ideal j = (t : EReal) - ((l : ℝ) : EReal) := by
  have e : (fptosi 32 (Values.floor Ideal) : IVec S256x300 32) j = BitVec.ofNat 32 l := h.left
  unfold Reference.past
  rw [past_apply, e, word_toInt h.l_le, h.time, Int.cast_natCast]

/-- An entry of the reference's result. -/
theorem reference_entry (x : FVec Ideal S256x3x300x25x2 .f32) (y : S256x3x300x25x2.Idx) {t : ℝ} {l c : ℕ}
    (h : At (atFrame y) t l c) (a b : Fin 300) (ha : a.val = l) (hb : b.val = c) :
    Reference.result x y
      = (((1 : ℝ) : EReal) - ((t : EReal) - ((l : ℝ) : EReal))) * x (frameAt y a)
        + ((t : EReal) - ((l : ℝ) : EReal)) * x (frameAt y b) := by
  have el : (fptosi 32 (Values.floor Ideal) : IVec S256x300 32) (atFrame y) = BitVec.ofNat 32 l := h.left
  have ec : (fptosi 32 (Reference.ceil Ideal) : IVec S256x300 32) (atFrame y) = BitVec.ofNat 32 c := h.right
  have p0 := picked_spread x _ left_range y a (by rw [el, word_toInt h.l_le, ha])
  have p1 := picked_spread x _ right_range y b (by rw [ec, word_toInt h.c_le, hb])
  rw [result_entry]
  unfold Reference.mixed
  rw [weighted_entry, p0, p1, past_entry h, Ideal.addf_def, Ideal.mulf_def, Ideal.mulf_def, Ideal.subf_def, Ideal.ofBits_def, one_word]

/-- A finite input's entries are real numbers. -/
theorem real_of_finite (x : FVec Ideal S256x3x300x25x2 .f32) (h : Pre_finite.fn (F := Ideal) x = fun _ => 1#1)
    (y : S256x3x300x25x2.Idx) : ∃ r : ℝ, x y = (r : EReal) := by
  have e : Ideal.cmp .olt (max (x y) (-(x y))) (Ideal.ofBits .f32 0x7F800000#32) = 1#1 := congrFun h y
  have top : Ideal.ofBits .f32 0x7F800000#32 = ⊤ := by simp [Ideal.ofBits, Ideal.ieee]
  rw [top] at e
  revert e
  generalize x y = z
  intro e
  induction z using EReal.rec with
  | bot => simp [Ideal.cmp] at e
  | top => simp [Ideal.cmp] at e
  | coe r => exact ⟨r, rfl⟩

/-- The two ways of mixing two real numbers agree, whichever frame stands behind a whole time. -/
theorem mix_eq (f : Fin 300 → ℝ) {t : ℝ} {l c : ℕ} (near : (t = l ∧ c = l) ∨ c = l + 1) (a b r : Fin 300) (ha : a.val = l)
    (hb : b.val = c) (hr : min (l + 1) 299 = r.val) :
    ((f a : ℝ) : EReal) + ((t : EReal) - ((l : ℝ) : EReal)) * ((f r : EReal) - (f a : EReal))
      = (((1 : ℝ) : EReal) - ((t : EReal) - ((l : ℝ) : EReal))) * (f a : EReal) + ((t : EReal) - ((l : ℝ) : EReal)) * (f b : EReal) := by
  have real : f a + (t - l) * (f r - f a) = (1 - (t - l)) * f a + (t - l) * f b := by
    rcases near with ⟨e, -⟩ | e
    · rw [e]; ring
    · have : r = b := Fin.ext (by have := b.isLt; omega)
      rw [this]; ring
  exact_mod_cast congrArg Real.toEReal real

/-- On a finite input the kernel's result is the reference's. -/
theorem value_eq (x : FVec Ideal S256x3x300x25x2 .f32) (hx : Pre_finite.fn (F := Ideal) x = fun _ => 1#1) :
    shapeCast S256x3x300x25x2
        (Words.outV (shapeCast Cert.Kernel.S11520000 x Cert.Kernel.Gen.shapeCasts_S256x3x300x25x2_S11520000) (Launch.flatTable Ideal))
        Cert.Kernel.Gen.shapeCasts_S11520000_S256x3x300x25x2
      = Reference.result x := by
  funext y
  choose f hf using real_of_finite x hx
  obtain ⟨t, l, c, h⟩ := exists_at (atFrame y)
  have hl := h.l_le
  have hc := h.c_le
  have eq := reference_entry x y h ⟨l, by omega⟩ ⟨c, by omega⟩ rfl rfl
  have ek := kernel_entry (F := Ideal) x y ⟨l, by omega⟩ ⟨min (l + 1) 299, by omega⟩
    (by unfold leftFrame; rw [h.left, word_toNat hl]) rfl
  rw [eq]
  refine ek.trans ?_
  rw [Ideal.addf_def, Ideal.mulf_def, Ideal.subf_def, Ideal.subf_def, h.time, h.floor, hf, hf, hf]
  exact mix_eq (fun q => f (frameAt y q)) h.near ⟨l, by omega⟩ ⟨c, by omega⟩ ⟨min (l + 1) 299, by omega⟩ rfl rfl rfl

end Cert.Proof.Mix
-- ==== Proof.lean ====
/-
  The claims, assembled: the kernel runs and leaves its argument as it was, over float words and over the extended reals; so
  does the reference; and over the extended reals, on a finite input, both end with the same two results.
-/
module

public import proofs.«01_k».proof.Defs
public import proofs.«01_k».proof.Proof.Launch
public import proofs.«01_k».proof.Proof.IdealLaunch
public import proofs.«01_k».proof.Proof.Table
public import proofs.«01_k».proof.Proof.Times
public import proofs.«01_k».proof.Proof.Reference
public import proofs.«01_k».proof.Proof.Mix
public import proofs.«01_k».proof.Proof.Gen.Kernel
public import proofs.«01_k».proof.Proof.Gen.KernelIdeal
public import proofs.«01_k».proof.Proof.Gen.ReferenceIdeal
public import proofs.«01_k».proof.Proof.Gen.Pre_floors_are_rows
public import proofs.«01_k».proof.Proof.Gen.Pre_finite
public import Idealize.ShloMosaic.Lib.NatWords

@[expose] public section

noncomputable section

namespace Cert.Proof

open Idealize.ShloMosaic Idealize.SL.Sem

/-! ## The table's floors are rows -/

/-- A word that is not negative and below 300, as signed numbers go, is a number below 300. -/
theorem row_word (w : BitVec 32) (h : IntOp.andi (IntOp.cmpi .sge w 0#32) (IntOp.cmpi .slt w 300#32) = 1#1) : w.toNat < 300 := by
  unfold IntOp.cmpi IntOp.andi at h
  simp only at h
  rw [BitVec.sle_eq_decide, BitVec.slt_eq_decide] at h
  have a : 0 ≤ w.toInt ∧ w.toInt < 300 := by
    by_cases h1 : 0 ≤ w.toInt <;> by_cases h2 : w.toInt < 300 <;> simp [h1, h2] at h ⊢
  rw [BitVec.toInt_eq_toNat_cond] at a
  split at a <;> omega

/-- The zero word converts to zero. -/
theorem zero_word : (FloatOps.fptosi (F := Bits) 32 (FloatOps.ofBits .f32 0x00000000#32)).toNat < 300 := by
  show (Bits.fptosi32 32 (Bits.ofBits .f32 0#32)).toNat < 300
  rw [← Bits.f32OfNat_zero, Bits.fptosi32_nat 0 (by decide)]
  decide

/-- Over float words, where the precondition says that the floors are rows. -/
theorem table_words (x : FVec Bits Cert.Kernel.S256x3x300x25x2 .f32) (h : Pre_floors_are_rows.fn (F := Bits) x = fun _ => 1#1) :
    Words.TableOK (Launch.flatTable Bits) := by
  refine Table.tableOK (fun j => row_word _ ?_) zero_word
  have e := congrFun h j
  rw [Values.floors_are_rows] at e
  exact e

/-- Over the extended reals the floors are rows. -/
theorem table_reals : Words.TableOK (IdealLaunch.flatTable Ideal) :=
  Table.tableOK Times.left_lt Times.zero_word

/-! ## The runs -/

/-- The kernel over float words leaves its argument and its counters as they were. -/
theorem words_frame : Cert.quiescent_Kernel := fun m g h =>
  (θ_run _ _ _).mono (fun _ q => ⟨fun c => (q.1 c).1, q.2⟩) (Launch.run_main m g (table_words _ (h 0)))

/-- The kernel's run over the extended reals. -/
theorem reals_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (Cert.KernelIdeal.threads (F := Ideal)) ⟨m, fun _ => 0, g⟩ (IdealLaunch.QC m) :=
  IdealLaunch.run_main m g table_reals

/-- The kernel over the extended reals leaves its argument and its counters as they were. -/
theorem reals_frame : Cert.quiescent_KernelIdeal := fun m g _ =>
  (θ_run _ _ _).mono (fun _ q => ⟨fun c => (q.1 c).1, q.2⟩) (reals_run m g)

/-- The reference leaves its argument and its counters as they were. -/
theorem reference_frame : Cert.quiescent_ReferenceIdeal := fun m g _ =>
  (θ_run _ _ _).mono (fun _ q => ⟨fun c => (q.1 c).1, q.2⟩) (Reference.run_main m g)

/-! ## The values -/

/-- On a finite input the kernel and the reference end with the same warped sequence and the same speeds. -/
theorem values : Cert.algebraic_KernelIdeal_ReferenceIdeal_pre_finite := fun m g m' g' hp hm =>
  ⟨fun c => IdealLaunch.result m c, fun _ => Values.speed Ideal,
    (θ_run _ _ _).mono (fun _ q c => ⟨(q.1 c).2.2, (q.1 c).2.1, (q.1 c).1⟩) (reals_run m g),
    (θ_run _ _ _).mono (fun _ q c => ⟨(q.1 c).2.2.trans ((congrArg Reference.result (hm c)).trans (Mix.value_eq _ (hp c)).symm),
      (q.1 c).2.1, (q.1 c).1⟩) (Reference.run_main m' g')⟩

theorem claim : Cert.Claim :=
  ⟨Cert.Kernel.Gen.facts, Cert.KernelIdeal.Gen.facts, Cert.ReferenceIdeal.Gen.facts, Cert.Pre_floors_are_rows.Gen.facts,
    Cert.Pre_finite.Gen.facts, words_frame, reals_frame, fun m g _ => reals_frame m g trivial, fun m g _ => reals_frame m g trivial,
    reference_frame, fun m g _ => reference_frame m g trivial, trivial, values⟩

end Cert.Proof

end
